-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite_KernelIdeal [hPre_queries_and_keys_finite_KernelIdeal : Cert.Pre_queries_and_keys_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_queries_and_keys_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite_ReferenceIdeal [hPre_queries_and_keys_finite_ReferenceIdeal : Cert.Pre_queries_and_keys_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_queries_and_keys_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_queries_and_keys_finite_KernelIdeal [hKernelIdeal : Cert.KernelIdeal.Facts] [hPre_queries_and_keys_finite_KernelIdeal : Cert.Pre_queries_and_keys_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_queries_and_keys_finite_ReferenceIdeal [hReferenceIdeal : Cert.ReferenceIdeal.Facts] [hPre_queries_and_keys_finite_ReferenceIdeal : Cert.Pre_queries_and_keys_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_queries_and_keys_finite_KernelIdeal [hKernelIdeal : Cert.KernelIdeal.Facts] [hReferenceIdeal : Cert.ReferenceIdeal.Facts] [hPre_queries_and_keys_finite_KernelIdeal : Cert.Pre_queries_and_keys_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 16384, 8, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 16384, 8, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_queries_and_keys_finite_KernelIdeal : Cert.Pre_queries_and_keys_finite_KernelIdeal.Facts) (hPre_queries_and_keys_finite_ReferenceIdeal : Cert.Pre_queries_and_keys_finite_ReferenceIdeal.Facts),
    quiescent_Kernel (hKernel := hKernel)
    ∧ quiescent_KernelIdeal (hKernelIdeal := hKernelIdeal)
    ∧ quiescent_KernelIdeal_pre_queries_and_keys_finite_KernelIdeal (hKernelIdeal := hKernelIdeal) (hPre_queries_and_keys_finite_KernelIdeal := hPre_queries_and_keys_finite_KernelIdeal)
    ∧ quiescent_ReferenceIdeal (hReferenceIdeal := hReferenceIdeal)
    ∧ quiescent_ReferenceIdeal_pre_queries_and_keys_finite_ReferenceIdeal (hReferenceIdeal := hReferenceIdeal) (hPre_queries_and_keys_finite_ReferenceIdeal := hPre_queries_and_keys_finite_ReferenceIdeal)
    ∧ preserves_Kernel_KernelIdeal
    ∧ algebraic_KernelIdeal_ReferenceIdeal_pre_queries_and_keys_finite_KernelIdeal (hKernelIdeal := hKernelIdeal) (hReferenceIdeal := hReferenceIdeal) (hPre_queries_and_keys_finite_KernelIdeal := hPre_queries_and_keys_finite_KernelIdeal)
-- ==== Pre_queries_and_keys_finite_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  (main_v2, main_v5)
-- ==== Pre_queries_and_keys_finite_ReferenceIdeal.lean ====
abbrev S4x32x8x128 : Shape := ⟨4, ![4, 32, 8, 128]⟩
abbrev S4x16384x8x128 : Shape := ⟨4, ![4, 16384, 8, 128]⟩
abbrev S_ : Shape := ⟨0, ![]⟩

class Facts : Prop where
  bcast_S_S4x32x8x128 : S_.BroadcastsInDim S4x32x8x128 (![] : Fin 0 → Fin S4x32x8x128.rank)
  bcast_S_S4x16384x8x128 : S_.BroadcastsInDim S4x16384x8x128 (![] : Fin 0 → Fin S4x16384x8x128.rank)

variable [Facts]

def fn {F : FTy → Type} [FloatOps F] (main_arg0 : FVec F S4x32x8x128 .f32) (main_arg1 : FVec F S4x16384x8x128 .f32) (main_arg2 : FVec F S4x16384x8x128 .f32) : IVec S4x32x8x128 1 × IVec S4x16384x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x16384x8x128 .f32 := Host.absf main_arg1
  let main_cst_0 : FVec F S_ .f32 := constant S_ .f32 0x7F800000#32
  let main_v4 : FVec F S4x16384x8x128 .f32 := broadcastInDim S4x16384x8x128 ![] bcast_S_S4x16384x8x128 main_cst_0
  let main_v5 : IVec S4x16384x8x128 1 := cmpf .olt main_v3 main_v4
  (main_v2, main_v5)
-- ==== Kernel.lean ====
abbrev S4x32x8x128 : Shape := ⟨4, ![4, 32, 8, 128]⟩
abbrev S4x4096x8x128 : Shape := ⟨4, ![4, 4096, 8, 128]⟩
abbrev S_ : Shape := ⟨0, ![]⟩
abbrev S1 : Shape := ⟨1, ![1]⟩
abbrev S1x32x8x128 : Shape := ⟨4, ![1, 32, 8, 128]⟩
abbrev S1x512x8x128 : Shape := ⟨4, ![1, 512, 8, 128]⟩
abbrev S1024x128 : Shape := ⟨2, ![1024, 128]⟩
abbrev S4x32x8 : Shape := ⟨3, ![4, 32, 8]⟩
abbrev S32x8x128 : Shape := ⟨3, ![32, 8, 128]⟩
abbrev S5x2x256x128 : Shape := ⟨4, ![5, 2, 256, 128]⟩
abbrev S5x4x32x8 : Shape := ⟨4, ![5, 4, 32, 8]⟩
abbrev S20 : Shape := ⟨1, ![20]⟩
abbrev S5 : Shape := ⟨1, ![5]⟩
abbrev S1x32x1x128 : Shape := ⟨4, ![1, 32, 1, 128]⟩
abbrev S32x128 : Shape := ⟨2, ![32, 128]⟩
abbrev S1x512x1x128 : Shape := ⟨4, ![1, 512, 1, 128]⟩
abbrev S512x128 : Shape := ⟨2, ![512, 128]⟩
abbrev S32x512 : Shape := ⟨2, ![32, 512]⟩
abbrev S32 : Shape := ⟨1, ![32]⟩
abbrev S1x32x1 : Shape := ⟨3, ![1, 32, 1]⟩
abbrev S32x1x128 : Shape := ⟨3, ![32, 1, 128]⟩
abbrev S256x128 : Shape := ⟨2, ![256, 128]⟩
abbrev S1x1x256x128 : Shape := ⟨4, ![1, 1, 256, 128]⟩
abbrev S1x4x32x8 : Shape := ⟨4, ![1, 4, 32, 8]⟩
abbrev S1x1x128x128 : Shape := ⟨4, ![1, 1, 128, 128]⟩
abbrev S128x128 : Shape := ⟨2, ![128, 128]⟩
abbrev S1x1x64x128 : Shape := ⟨4, ![1, 1, 64, 128]⟩
abbrev S64x128 : Shape := ⟨2, ![64, 128]⟩
abbrev S1x1x32x128 : Shape := ⟨4, ![1, 1, 32, 128]⟩
abbrev S1x1x16x128 : Shape := ⟨4, ![1, 1, 16, 128]⟩
abbrev S16x128 : Shape := ⟨2, ![16, 128]⟩
abbrev S4x32x8x1 : Shape := ⟨4, ![4, 32, 8, 1]⟩

abbrev nBuf : Space → Nat
  | .hbm => 19
  | .vmem => 12
  | .smem => 1
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4x32x8x128, .f32⟩
  | .local _ .vmem, ⟨0, _⟩ => ⟨S1x32x8x128, .f32⟩
  | .local _ .vmem, ⟨1, _⟩ => ⟨S1x32x8x128, .f32⟩
  | .local _ .vmem, ⟨2, _⟩ => ⟨S1x512x8x128, .f32⟩
  | .local _ .vmem, ⟨3, _⟩ => ⟨S1x512x8x128, .f32⟩
  | .local _ .vmem, ⟨4, _⟩ => ⟨S1x512x8x128, .f32⟩
  | .local _ .vmem, ⟨5, _⟩ => ⟨S1x512x8x128, .f32⟩
  | .local _ .vmem, ⟨6, _⟩ => ⟨S4x32x8x128, .f32⟩
  | .local _ .vmem, ⟨7, _⟩ => ⟨S1024x128, .f32⟩
  | .local _ .vmem, ⟨8, _⟩ => ⟨S4x32x8, .f32⟩
  | .local _ .vmem, ⟨9, _⟩ => ⟨S32x8x128, .f32⟩
  | .local _ .vmem, ⟨10, _⟩ => ⟨S5x2x256x128, .f32⟩
  | .local _ .vmem, ⟨11, _⟩ => ⟨S5x4x32x8, .f32⟩
  | .local _ .smem, ⟨0, _⟩ => ⟨S1, .i32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 32
abbrev τ : Topo := Topo.v7x

variable {F : FTy → Type} [FloatOps F]

abbrev grid0 : Pipeline.Grid := ⟨1, ![4], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_25 : BitVec 32 := 0#32
  let v53 : BitVec 1 := Scalar.cmpi .eq arg0 c0_i32_25
  let v54 : BitVec 32 := Scalar.extui v53
  let c0_i32_26 : BitVec 32 := 0#32
  let v55 : BitVec 1 := Scalar.cmpi .ne v54 c0_i32_26
  v55

def k0_dev1 (d0 : Dev nD) : Nat :=
  let c0_i32_195 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_194 : BitVec 32 := 16#32
  let v223 : BitVec 32 := Scalar.muli v9 c16_i32_194
  let v224 : BitVec 32 := Scalar.addi c0_i32_195 v223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_196 : BitVec 32 := 4#32
  let v225 : BitVec 32 := Scalar.muli v5 c4_i32_196
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v227 : BitVec 32 := Scalar.muli v8 c1_i32_197
  let v228 : BitVec 32 := Scalar.addi v226 v227
  v228.toNat
def k0_dev2 (d0 : Dev nD) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_199 : BitVec 32 := 16#32
  let v229 : BitVec 32 := Scalar.muli v2 c16_i32_199
  let v230 : BitVec 32 := Scalar.addi c0_i32_200 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_201 : BitVec 32 := 4#32
  let v231 : BitVec 32 := Scalar.muli v10 c4_i32_201
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v233 : BitVec 32 := Scalar.muli v8 c1_i32_202
  let v234 : BitVec 32 := Scalar.addi v232 v233
  v234.toNat
def k0_dev3 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v235 : BitVec 32 := Scalar.muli v2 c16_i32_204
  let v236 : BitVec 32 := Scalar.addi c0_i32_205 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_206 : BitVec 32 := 4#32
  let v237 : BitVec 32 := Scalar.muli v5 c4_i32_206
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_207 : BitVec 32 := 1#32
  let v239 : BitVec 32 := Scalar.muli v11 c1_i32_207
  let v240 : BitVec 32 := Scalar.addi v238 v239
  v240.toNat
def k0_dev4 (d0 : Dev nD) : Nat :=
  let c0_i32_210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_209 : BitVec 32 := 16#32
  let v241 : BitVec 32 := Scalar.muli v2 c16_i32_209
  let v242 : BitVec 32 := Scalar.addi c0_i32_210 v241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_211 : BitVec 32 := 4#32
  let v243 : BitVec 32 := Scalar.muli v12 c4_i32_211
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v245 : BitVec 32 := Scalar.muli v8 c1_i32_212
  let v246 : BitVec 32 := Scalar.addi v244 v245
  v246.toNat
def k0_dev5 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v247 : BitVec 32 := Scalar.muli v2 c16_i32_214
  let v248 : BitVec 32 := Scalar.addi c0_i32_215 v247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_216 : BitVec 32 := 4#32
  let v249 : BitVec 32 := Scalar.muli v5 c4_i32_216
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_217 : BitVec 32 := 1#32
  let v251 : BitVec 32 := Scalar.muli v13 c1_i32_217
  let v252 : BitVec 32 := Scalar.addi v250 v251
  v252.toNat
def k0_off1 (i : grid0.Coords) : Fin 3 → Nat :=
  let arg0 : BitVec 32 := BitVec.ofNat 32 (i 0).val
  let v67 : Index := Scalar.indexCast arg0
  let c0_40 : Index := 0#32
  let c0_41 : Index := 0#32
  ![v67.toNat, 0, 0]
def k0_off2 (i : grid0.Coords) : Fin 3 → Nat :=
  let arg0 : BitVec 32 := BitVec.ofNat 32 (i 0).val
  let v86 : Index := Scalar.indexCast arg0
  let c0_60 : Index := 0#32
  let c1_61 : Index := 1#32
  ![v86.toNat, 0, 1]
def k0_off3 (i : grid0.Coords) : Fin 3 → Nat :=
  let arg0 : BitVec 32 := BitVec.ofNat 32 (i 0).val
  let v105 : Index := Scalar.indexCast arg0
  let c0_80 : Index := 0#32
  let c2_81 : Index := 2#32
  ![v105.toNat, 0, 2]
def k0_off4 (i : grid0.Coords) : Fin 3 → Nat :=
  let arg0 : BitVec 32 := BitVec.ofNat 32 (i 0).val
  let v124 : Index := Scalar.indexCast arg0
  let c0_100 : Index := 0#32
  let c3_101 : Index := 3#32
  ![v124.toNat, 0, 3]
def k0_off5 (i : grid0.Coords) : Fin 3 → Nat :=
  let arg0 : BitVec 32 := BitVec.ofNat 32 (i 0).val
  let v143 : Index := Scalar.indexCast arg0
  let c0_120 : Index := 0#32
  let c4_121 : Index := 4#32
  ![v143.toNat, 0, 4]
def k0_off6 (i : grid0.Coords) : Fin 3 → Nat :=
  let arg0 : BitVec 32 := BitVec.ofNat 32 (i 0).val
  let v162 : Index := Scalar.indexCast arg0
  let c0_140 : Index := 0#32
  let c5_141 : Index := 5#32
  ![v162.toNat, 0, 5]
def k0_off7 (i : grid0.Coords) : Fin 3 → Nat :=
  let arg0 : BitVec 32 := BitVec.ofNat 32 (i 0).val
  let v181 : Index := Scalar.indexCast arg0
  let c0_160 : Index := 0#32
  let c6_161 : Index := 6#32
  ![v181.toNat, 0, 6]
def k0_off8 (i : grid0.Coords) : Fin 3 → Nat :=
  let arg0 : BitVec 32 := BitVec.ofNat 32 (i 0).val
  let v200 : Index := Scalar.indexCast arg0
  let c0_180 : Index := 0#32
  let c7_181 : Index := 7#32
  ![v200.toNat, 0, 7]
def k0_off9 (i : grid0.Coords) : Fin 2 → Nat :=
  let arg0 : BitVec 32 := BitVec.ofNat 32 (i 0).val
  let c32_i32 : BitVec 32 := 32#32
  let v210 : BitVec 32 := Scalar.muli arg0 c32_i32
  let c8_i32 : BitVec 32 := 8#32
  let v211 : BitVec 32 := Scalar.muli v210 c8_i32
  let v212 : Index := Scalar.indexCast v211
  let c0_189 : Index := 0#32
  ![v212.toNat, 0]
def k0_cond2 (i : grid0.Coords) : BitVec 1 :=
  let arg0 : BitVec 32 := BitVec.ofNat 32 (i 0).val
  let c1_i32_190 : BitVec 32 := 1#32
  let v216 : BitVec 1 := Scalar.cmpi .eq arg0 c1_i32_190
  let v217 : BitVec 32 := Scalar.extui v216
  let c0_i32_191 : BitVec 32 := 0#32
  let v218 : BitVec 1 := Scalar.cmpi .ne v217 c0_i32_191
  v218

def k0_off10 (d0 : Dev nD) : Fin 2 → Nat :=
  let c0_i32_194 : BitVec 32 := 0#32
  let c1_i32_193 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let v222 : BitVec 32 := Scalar.subi c1_i32_193 v14
  let c256_i32 : BitVec 32 := 256#32
  let v223 : BitVec 32 := Scalar.muli v222 c256_i32
  let v224 : BitVec 32 := Scalar.addi c0_i32_194 v223
  let c0_i32_205 : BitVec 32 := 0#32
  ![v224.toNat, 0]
def k0_dev6 (d0 : Dev nD) : Nat :=
  let c0_i32_200 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_199 : BitVec 32 := 16#32
  let v225 : BitVec 32 := Scalar.muli v9 c16_i32_199
  let v226 : BitVec 32 := Scalar.addi c0_i32_200 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_201 : BitVec 32 := 4#32
  let v227 : BitVec 32 := Scalar.muli v5 c4_i32_201
  let v228 : BitVec 32 := Scalar.addi v226 v227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v229 : BitVec 32 := Scalar.muli v8 c1_i32_202
  let v230 : BitVec 32 := Scalar.addi v228 v229
  v230.toNat
def k0_cond3 (i : grid0.Coords) : BitVec 1 :=
  let arg0 : BitVec 32 := BitVec.ofNat 32 (i 0).val
  let c3_i32 : BitVec 32 := 3#32
  let v219 : BitVec 1 := Scalar.cmpi .eq arg0 c3_i32
  let v220 : BitVec 32 := Scalar.extui v219
  let c0_i32_192 : BitVec 32 := 0#32
  let v221 : BitVec 1 := Scalar.cmpi .ne v220 c0_i32_192
  v221

def k0_off11 (d0 : Dev nD) (c512_i32 : BitVec 32) : Fin 2 → Nat :=
  let c1_i32_197 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let v227 : BitVec 32 := Scalar.subi c1_i32_197 v14
  let c256_i32_198 : BitVec 32 := 256#32
  let v228 : BitVec 32 := Scalar.muli v227 c256_i32_198
  let v229 : BitVec 32 := Scalar.addi c512_i32 v228
  let c0_i32_211 : BitVec 32 := 0#32
  ![v229.toNat, 0]
def k0_dev7 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_205 : BitVec 32 := 16#32
  let v232 : BitVec 32 := Scalar.muli v9 c16_i32_205
  let v233 : BitVec 32 := Scalar.addi c0_i32_206 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v234 : BitVec 32 := Scalar.muli v5 c4_i32_207
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v236 : BitVec 32 := Scalar.muli v8 c1_i32_208
  let v237 : BitVec 32 := Scalar.addi v235 v236
  v237.toNat
def k0_dev8 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_215 : BitVec 32 := 16#32
  let v245 : BitVec 32 := Scalar.muli v9 c16_i32_215
  let v246 : BitVec 32 := Scalar.addi c0_i32_216 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v247 : BitVec 32 := Scalar.muli v5 c4_i32_217
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v249 : BitVec 32 := Scalar.muli v8 c1_i32_218
  let v250 : BitVec 32 := Scalar.addi v248 v249
  v250.toNat
def k0_off12 (d0 : Dev nD) (c0_i32_241 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v273 : BitVec 32 := Scalar.addi c0_i32_241 v226
  let v274 : Index := Scalar.indexCast v273
  let c0_242 : Index := 0#32
  ![v274.toNat, 0]
def k0_off13 (d0 : Dev nD) (c0_i32_248 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v283 : BitVec 32 := Scalar.addi c0_i32_248 v226
  let c1_i32_249 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let v284 : BitVec 32 := Scalar.subi c1_i32_249 v15
  let c128_i32 : BitVec 32 := 128#32
  let v285 : BitVec 32 := Scalar.muli v284 c128_i32
  let v286 : BitVec 32 := Scalar.addi v283 v285
  let c0_i32_261 : BitVec 32 := 0#32
  ![v286.toNat, 0]
def k0_dev9 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v289 : BitVec 32 := Scalar.muli v2 c16_i32_255
  let v290 : BitVec 32 := Scalar.addi c0_i32_256 v289
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_257 : BitVec 32 := 4#32
  let v291 : BitVec 32 := Scalar.muli v10 c4_i32_257
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v293 : BitVec 32 := Scalar.muli v8 c1_i32_258
  let v294 : BitVec 32 := Scalar.addi v292 v293
  v294.toNat
def k0_dev10 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v334 : BitVec 32 := Scalar.muli v2 c16_i32_296
  let v335 : BitVec 32 := Scalar.addi c0_i32_297 v334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_298 : BitVec 32 := 4#32
  let v336 : BitVec 32 := Scalar.muli v10 c4_i32_298
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v338 : BitVec 32 := Scalar.muli v8 c1_i32_299
  let v339 : BitVec 32 := Scalar.addi v337 v338
  v339.toNat
def k0_dev11 (d0 : Dev nD) : Nat :=
  let c0_i32_334 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_333 : BitVec 32 := 16#32
  let v368 : BitVec 32 := Scalar.muli v2 c16_i32_333
  let v369 : BitVec 32 := Scalar.addi c0_i32_334 v368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_335 : BitVec 32 := 4#32
  let v370 : BitVec 32 := Scalar.muli v10 c4_i32_335
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v372 : BitVec 32 := Scalar.muli v8 c1_i32_336
  let v373 : BitVec 32 := Scalar.addi v371 v372
  v373.toNat
def k0_off14 (d0 : Dev nD) (c0_i32_359 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v396 : BitVec 32 := Scalar.addi c0_i32_359 v288
  let v397 : Index := Scalar.indexCast v396
  let c0_360 : Index := 0#32
  ![v397.toNat, 0]
def k0_off15 (d0 : Dev nD) (c0_i32_366 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v406 : BitVec 32 := Scalar.addi c0_i32_366 v288
  let c1_i32_367 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let v407 : BitVec 32 := Scalar.subi c1_i32_367 v16
  let c64_i32 : BitVec 32 := 64#32
  let v408 : BitVec 32 := Scalar.muli v407 c64_i32
  let v409 : BitVec 32 := Scalar.addi v406 v408
  let c0_i32_379 : BitVec 32 := 0#32
  ![v409.toNat, 0]
def k0_dev12 (d0 : Dev nD) : Nat :=
  let c0_i32_374 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_373 : BitVec 32 := 16#32
  let v412 : BitVec 32 := Scalar.muli v2 c16_i32_373
  let v413 : BitVec 32 := Scalar.addi c0_i32_374 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_375 : BitVec 32 := 4#32
  let v414 : BitVec 32 := Scalar.muli v5 c4_i32_375
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_376 : BitVec 32 := 1#32
  let v416 : BitVec 32 := Scalar.muli v11 c1_i32_376
  let v417 : BitVec 32 := Scalar.addi v415 v416
  v417.toNat
def k0_dev13 (d0 : Dev nD) : Nat :=
  let c0_i32_414 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_413 : BitVec 32 := 16#32
  let v457 : BitVec 32 := Scalar.muli v2 c16_i32_413
  let v458 : BitVec 32 := Scalar.addi c0_i32_414 v457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_415 : BitVec 32 := 4#32
  let v459 : BitVec 32 := Scalar.muli v5 c4_i32_415
  let v460 : BitVec 32 := Scalar.addi v458 v459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_416 : BitVec 32 := 1#32
  let v461 : BitVec 32 := Scalar.muli v11 c1_i32_416
  let v462 : BitVec 32 := Scalar.addi v460 v461
  v462.toNat
def k0_dev14 (d0 : Dev nD) : Nat :=
  let c0_i32_451 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_450 : BitVec 32 := 16#32
  let v491 : BitVec 32 := Scalar.muli v2 c16_i32_450
  let v492 : BitVec 32 := Scalar.addi c0_i32_451 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_452 : BitVec 32 := 4#32
  let v493 : BitVec 32 := Scalar.muli v5 c4_i32_452
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_453 : BitVec 32 := 1#32
  let v495 : BitVec 32 := Scalar.muli v11 c1_i32_453
  let v496 : BitVec 32 := Scalar.addi v494 v495
  v496.toNat
def k0_off16 (d0 : Dev nD) (c0_i32_476 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let v519 : BitVec 32 := Scalar.addi c0_i32_476 v411
  let v520 : Index := Scalar.indexCast v519
  let c0_477 : Index := 0#32
  ![v520.toNat, 0]
def k0_off17 (d0 : Dev nD) (c0_i32_483 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let v529 : BitVec 32 := Scalar.addi c0_i32_483 v411
  let c1_i32_484 : BitVec 32 := 1#32
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let v530 : BitVec 32 := Scalar.subi c1_i32_484 v34
  let c32_i32_485 : BitVec 32 := 32#32
  let v531 : BitVec 32 := Scalar.muli v530 c32_i32_485
  let v532 : BitVec 32 := Scalar.addi v529 v531
  let c0_i32_496 : BitVec 32 := 0#32
  ![v532.toNat, 0]
def k0_dev15 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v535 : BitVec 32 := Scalar.muli v2 c16_i32_490
  let v536 : BitVec 32 := Scalar.addi c0_i32_491 v535
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_492 : BitVec 32 := 4#32
  let v537 : BitVec 32 := Scalar.muli v12 c4_i32_492
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v539 : BitVec 32 := Scalar.muli v8 c1_i32_493
  let v540 : BitVec 32 := Scalar.addi v538 v539
  v540.toNat
def k0_dev16 (d0 : Dev nD) : Nat :=
  let c0_i32_531 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_530 : BitVec 32 := 16#32
  let v580 : BitVec 32 := Scalar.muli v2 c16_i32_530
  let v581 : BitVec 32 := Scalar.addi c0_i32_531 v580
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_532 : BitVec 32 := 4#32
  let v582 : BitVec 32 := Scalar.muli v12 c4_i32_532
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v584 : BitVec 32 := Scalar.muli v8 c1_i32_533
  let v585 : BitVec 32 := Scalar.addi v583 v584
  v585.toNat
def k0_dev17 (d0 : Dev nD) : Nat :=
  let c0_i32_568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_567 : BitVec 32 := 16#32
  let v614 : BitVec 32 := Scalar.muli v2 c16_i32_567
  let v615 : BitVec 32 := Scalar.addi c0_i32_568 v614
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_569 : BitVec 32 := 4#32
  let v616 : BitVec 32 := Scalar.muli v12 c4_i32_569
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v618 : BitVec 32 := Scalar.muli v8 c1_i32_570
  let v619 : BitVec 32 := Scalar.addi v617 v618
  v619.toNat
def k0_off18 (d0 : Dev nD) (c0_i32_593 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let v642 : BitVec 32 := Scalar.addi c0_i32_593 v534
  let v643 : Index := Scalar.indexCast v642
  let c0_594 : Index := 0#32
  ![v643.toNat, 0]
def k0_off19 (d0 : Dev nD) (c0_i32_600 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let v652 : BitVec 32 := Scalar.addi c0_i32_600 v534
  let c1_i32_601 : BitVec 32 := 1#32
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let v653 : BitVec 32 := Scalar.subi c1_i32_601 v52
  let c16_i32_602 : BitVec 32 := 16#32
  let v654 : BitVec 32 := Scalar.muli v653 c16_i32_602
  let v655 : BitVec 32 := Scalar.addi v652 v654
  let c0_i32_614 : BitVec 32 := 0#32
  ![v655.toNat, 0]
def k0_dev18 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_608 : BitVec 32 := 16#32
  let v658 : BitVec 32 := Scalar.muli v2 c16_i32_608
  let v659 : BitVec 32 := Scalar.addi c0_i32_609 v658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_610 : BitVec 32 := 4#32
  let v660 : BitVec 32 := Scalar.muli v5 c4_i32_610
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_611 : BitVec 32 := 1#32
  let v662 : BitVec 32 := Scalar.muli v13 c1_i32_611
  let v663 : BitVec 32 := Scalar.addi v661 v662
  v663.toNat
def k0_dev19 (d0 : Dev nD) : Nat :=
  let c0_i32_649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_648 : BitVec 32 := 16#32
  let v703 : BitVec 32 := Scalar.muli v2 c16_i32_648
  let v704 : BitVec 32 := Scalar.addi c0_i32_649 v703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_650 : BitVec 32 := 4#32
  let v705 : BitVec 32 := Scalar.muli v5 c4_i32_650
  let v706 : BitVec 32 := Scalar.addi v704 v705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_651 : BitVec 32 := 1#32
  let v707 : BitVec 32 := Scalar.muli v13 c1_i32_651
  let v708 : BitVec 32 := Scalar.addi v706 v707
  v708.toNat
def k0_dev20 (d0 : Dev nD) : Nat :=
  let c0_i32_686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_685 : BitVec 32 := 16#32
  let v737 : BitVec 32 := Scalar.muli v2 c16_i32_685
  let v738 : BitVec 32 := Scalar.addi c0_i32_686 v737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_687 : BitVec 32 := 4#32
  let v739 : BitVec 32 := Scalar.muli v5 c4_i32_687
  let v740 : BitVec 32 := Scalar.addi v738 v739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_688 : BitVec 32 := 1#32
  let v741 : BitVec 32 := Scalar.muli v13 c1_i32_688
  let v742 : BitVec 32 := Scalar.addi v740 v741
  v742.toNat
def k0_off20 (d0 : Dev nD) (c0_i32_711 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let v765 : BitVec 32 := Scalar.addi c0_i32_711 v657
  let v766 : Index := Scalar.indexCast v765
  let c0_712 : Index := 0#32
  ![v766.toNat, 0]
def k0_off21 (d0 : Dev nD) (c0_i32_719 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let v776 : BitVec 32 := Scalar.addi c0_i32_719 v657
  let c0_i32_726 : BitVec 32 := 0#32
  ![v776.toNat, 0]
def k0_dev21 (d0 : Dev nD) : Nat :=
  let c0_i32_723 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_722 : BitVec 32 := 16#32
  let v779 : BitVec 32 := Scalar.muli v2 c16_i32_722
  let v780 : BitVec 32 := Scalar.addi c0_i32_723 v779
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_724 : BitVec 32 := 4#32
  let v781 : BitVec 32 := Scalar.muli v5 c4_i32_724
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_725 : BitVec 32 := 1#32
  let v783 : BitVec 32 := Scalar.muli v13 c1_i32_725
  let v784 : BitVec 32 := Scalar.addi v782 v783
  v784.toNat
def k0_dev22 (d0 : Dev nD) : Nat :=
  let c0_i32_759 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_758 : BitVec 32 := 16#32
  let v821 : BitVec 32 := Scalar.muli v2 c16_i32_758
  let v822 : BitVec 32 := Scalar.addi c0_i32_759 v821
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_760 : BitVec 32 := 4#32
  let v823 : BitVec 32 := Scalar.muli v5 c4_i32_760
  let v824 : BitVec 32 := Scalar.addi v822 v823
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_761 : BitVec 32 := 1#32
  let v825 : BitVec 32 := Scalar.muli v13 c1_i32_761
  let v826 : BitVec 32 := Scalar.addi v824 v825
  v826.toNat
def k0_off22 (d0 : Dev nD) (c0_i32_805 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let c16_i32_720 : BitVec 32 := 16#32
  let v777 : BitVec 32 := Scalar.muli v52 c16_i32_720
  let v778 : BitVec 32 := Scalar.subi v657 v777
  let v869 : BitVec 32 := Scalar.addi c0_i32_805 v778
  let c0_i32_812 : BitVec 32 := 0#32
  ![v869.toNat, 0]
def k0_dev23 (d0 : Dev nD) : Nat :=
  let c0_i32_809 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_808 : BitVec 32 := 16#32
  let v872 : BitVec 32 := Scalar.muli v2 c16_i32_808
  let v873 : BitVec 32 := Scalar.addi c0_i32_809 v872
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_810 : BitVec 32 := 4#32
  let v874 : BitVec 32 := Scalar.muli v12 c4_i32_810
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_811 : BitVec 32 := 1#32
  let v876 : BitVec 32 := Scalar.muli v8 c1_i32_811
  let v877 : BitVec 32 := Scalar.addi v875 v876
  v877.toNat
def k0_dev24 (d0 : Dev nD) : Nat :=
  let c0_i32_832 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_831 : BitVec 32 := 16#32
  let v902 : BitVec 32 := Scalar.muli v2 c16_i32_831
  let v903 : BitVec 32 := Scalar.addi c0_i32_832 v902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_833 : BitVec 32 := 4#32
  let v904 : BitVec 32 := Scalar.muli v12 c4_i32_833
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v906 : BitVec 32 := Scalar.muli v8 c1_i32_834
  let v907 : BitVec 32 := Scalar.addi v905 v906
  v907.toNat
def k0_off23 (d0 : Dev nD) (c0_i32_851 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let c16_i32_720 : BitVec 32 := 16#32
  let v777 : BitVec 32 := Scalar.muli v52 c16_i32_720
  let v778 : BitVec 32 := Scalar.subi v657 v777
  let c32_i32_806 : BitVec 32 := 32#32
  let v870 : BitVec 32 := Scalar.muli v34 c32_i32_806
  let v871 : BitVec 32 := Scalar.subi v778 v870
  let v929 : BitVec 32 := Scalar.addi c0_i32_851 v871
  let c0_i32_858 : BitVec 32 := 0#32
  ![v929.toNat, 0]
def k0_dev25 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v932 : BitVec 32 := Scalar.muli v2 c16_i32_854
  let v933 : BitVec 32 := Scalar.addi c0_i32_855 v932
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v934 : BitVec 32 := Scalar.muli v5 c4_i32_856
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_857 : BitVec 32 := 1#32
  let v936 : BitVec 32 := Scalar.muli v11 c1_i32_857
  let v937 : BitVec 32 := Scalar.addi v935 v936
  v937.toNat
def k0_dev26 (d0 : Dev nD) : Nat :=
  let c0_i32_878 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_877 : BitVec 32 := 16#32
  let v962 : BitVec 32 := Scalar.muli v2 c16_i32_877
  let v963 : BitVec 32 := Scalar.addi c0_i32_878 v962
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_879 : BitVec 32 := 4#32
  let v964 : BitVec 32 := Scalar.muli v5 c4_i32_879
  let v965 : BitVec 32 := Scalar.addi v963 v964
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_880 : BitVec 32 := 1#32
  let v966 : BitVec 32 := Scalar.muli v11 c1_i32_880
  let v967 : BitVec 32 := Scalar.addi v965 v966
  v967.toNat
def k0_off24 (d0 : Dev nD) (c0_i32_897 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let c16_i32_720 : BitVec 32 := 16#32
  let v777 : BitVec 32 := Scalar.muli v52 c16_i32_720
  let v778 : BitVec 32 := Scalar.subi v657 v777
  let c32_i32_806 : BitVec 32 := 32#32
  let v870 : BitVec 32 := Scalar.muli v34 c32_i32_806
  let v871 : BitVec 32 := Scalar.subi v778 v870
  let c64_i32_852 : BitVec 32 := 64#32
  let v930 : BitVec 32 := Scalar.muli v16 c64_i32_852
  let v931 : BitVec 32 := Scalar.subi v871 v930
  let v989 : BitVec 32 := Scalar.addi c0_i32_897 v931
  let c0_i32_905 : BitVec 32 := 0#32
  ![v989.toNat, 0]
def k0_dev27 (d0 : Dev nD) : Nat :=
  let c0_i32_902 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_901 : BitVec 32 := 16#32
  let v992 : BitVec 32 := Scalar.muli v2 c16_i32_901
  let v993 : BitVec 32 := Scalar.addi c0_i32_902 v992
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_903 : BitVec 32 := 4#32
  let v994 : BitVec 32 := Scalar.muli v10 c4_i32_903
  let v995 : BitVec 32 := Scalar.addi v993 v994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_904 : BitVec 32 := 1#32
  let v996 : BitVec 32 := Scalar.muli v8 c1_i32_904
  let v997 : BitVec 32 := Scalar.addi v995 v996
  v997.toNat
def k0_dev28 (d0 : Dev nD) : Nat :=
  let c0_i32_925 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_924 : BitVec 32 := 16#32
  let v1022 : BitVec 32 := Scalar.muli v2 c16_i32_924
  let v1023 : BitVec 32 := Scalar.addi c0_i32_925 v1022
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_926 : BitVec 32 := 4#32
  let v1024 : BitVec 32 := Scalar.muli v10 c4_i32_926
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_927 : BitVec 32 := 1#32
  let v1026 : BitVec 32 := Scalar.muli v8 c1_i32_927
  let v1027 : BitVec 32 := Scalar.addi v1025 v1026
  v1027.toNat
def k0_off25 (d0 : Dev nD) (c0_i32_944 : BitVec 32) : Fin 2 → Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v14 : BitVec 32 := Scalar.andi v2 c1_i32_7
  let c256_i32_195 : BitVec 32 := 256#32
  let v225 : BitVec 32 := Scalar.muli v14 c256_i32_195
  let v226 : BitVec 32 := Scalar.addi c0_i32_196 v225
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.andi v5 c1_i32_8
  let c128_i32_250 : BitVec 32 := 128#32
  let v287 : BitVec 32 := Scalar.muli v15 c128_i32_250
  let v288 : BitVec 32 := Scalar.addi v226 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v16 : BitVec 32 := Scalar.andi v8 c1_i32_9
  let c64_i32_368 : BitVec 32 := 64#32
  let v410 : BitVec 32 := Scalar.muli v16 c64_i32_368
  let v411 : BitVec 32 := Scalar.addi v288 v410
  let c0_i32 : BitVec 32 := 0#32
  let v18 : BitVec 1 := Scalar.cmpi .sgt v5 c0_i32
  let v19 : BitVec 32 := Scalar.extui v18
  let c0_i32_11 : BitVec 32 := 0#32
  let v20 : BitVec 1 := Scalar.cmpi .slt v5 c0_i32_11
  let v21 : BitVec 32 := Scalar.extui v20
  let v22 : BitVec 32 := Scalar.subi v19 v21
  let c2_i32_10 : BitVec 32 := 2#32
  let c0_i32_12 : BitVec 32 := 0#32
  let v23 : BitVec 1 := Scalar.cmpi .sgt c2_i32_10 c0_i32_12
  let v24 : BitVec 32 := Scalar.extui v23
  let c0_i32_13 : BitVec 32 := 0#32
  let v25 : BitVec 1 := Scalar.cmpi .slt c2_i32_10 c0_i32_13
  let v26 : BitVec 32 := Scalar.extui v25
  let v27 : BitVec 32 := Scalar.subi v24 v26
  let v28 : BitVec 1 := Scalar.cmpi .ne v22 v27
  let v29 : BitVec 32 := Scalar.remsi v5 c2_i32_10
  let c0_i32_14 : BitVec 32 := 0#32
  let v30 : BitVec 1 := Scalar.cmpi .ne v29 c0_i32_14
  let v31 : BitVec 1 := Scalar.andi v28 v30
  let v17 : BitVec 32 := Scalar.divsi v5 c2_i32_10
  let c1_i32_15 : BitVec 32 := 1#32
  let v32 : BitVec 32 := Scalar.subi v17 c1_i32_15
  let v33 : BitVec 32 := Scalar.select v31 v32 v17
  let c1_i32_16 : BitVec 32 := 1#32
  let v34 : BitVec 32 := Scalar.andi v33 c1_i32_16
  let c32_i32_486 : BitVec 32 := 32#32
  let v533 : BitVec 32 := Scalar.muli v34 c32_i32_486
  let v534 : BitVec 32 := Scalar.addi v411 v533
  let c0_i32_18 : BitVec 32 := 0#32
  let v36 : BitVec 1 := Scalar.cmpi .sgt v8 c0_i32_18
  let v37 : BitVec 32 := Scalar.extui v36
  let c0_i32_19 : BitVec 32 := 0#32
  let v38 : BitVec 1 := Scalar.cmpi .slt v8 c0_i32_19
  let v39 : BitVec 32 := Scalar.extui v38
  let v40 : BitVec 32 := Scalar.subi v37 v39
  let c2_i32_17 : BitVec 32 := 2#32
  let c0_i32_20 : BitVec 32 := 0#32
  let v41 : BitVec 1 := Scalar.cmpi .sgt c2_i32_17 c0_i32_20
  let v42 : BitVec 32 := Scalar.extui v41
  let c0_i32_21 : BitVec 32 := 0#32
  let v43 : BitVec 1 := Scalar.cmpi .slt c2_i32_17 c0_i32_21
  let v44 : BitVec 32 := Scalar.extui v43
  let v45 : BitVec 32 := Scalar.subi v42 v44
  let v46 : BitVec 1 := Scalar.cmpi .ne v40 v45
  let v47 : BitVec 32 := Scalar.remsi v8 c2_i32_17
  let c0_i32_22 : BitVec 32 := 0#32
  let v48 : BitVec 1 := Scalar.cmpi .ne v47 c0_i32_22
  let v49 : BitVec 1 := Scalar.andi v46 v48
  let v35 : BitVec 32 := Scalar.divsi v8 c2_i32_17
  let c1_i32_23 : BitVec 32 := 1#32
  let v50 : BitVec 32 := Scalar.subi v35 c1_i32_23
  let v51 : BitVec 32 := Scalar.select v49 v50 v35
  let c1_i32_24 : BitVec 32 := 1#32
  let v52 : BitVec 32 := Scalar.andi v51 c1_i32_24
  let c16_i32_603 : BitVec 32 := 16#32
  let v656 : BitVec 32 := Scalar.muli v52 c16_i32_603
  let v657 : BitVec 32 := Scalar.addi v534 v656
  let c16_i32_720 : BitVec 32 := 16#32
  let v777 : BitVec 32 := Scalar.muli v52 c16_i32_720
  let v778 : BitVec 32 := Scalar.subi v657 v777
  let c32_i32_806 : BitVec 32 := 32#32
  let v870 : BitVec 32 := Scalar.muli v34 c32_i32_806
  let v871 : BitVec 32 := Scalar.subi v778 v870
  let c64_i32_852 : BitVec 32 := 64#32
  let v930 : BitVec 32 := Scalar.muli v16 c64_i32_852
  let v931 : BitVec 32 := Scalar.subi v871 v930
  let c128_i32_898 : BitVec 32 := 128#32
  let v990 : BitVec 32 := Scalar.muli v15 c128_i32_898
  let v991 : BitVec 32 := Scalar.subi v931 v990
  let v1049 : BitVec 32 := Scalar.addi c0_i32_944 v991
  let c0_i32_950 : BitVec 32 := 0#32
  ![v1049.toNat, 0]
def k0_dev29 (d0 : Dev nD) : Nat :=
  let c0_i32_947 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_946 : BitVec 32 := 16#32
  let v1050 : BitVec 32 := Scalar.muli v9 c16_i32_946
  let v1051 : BitVec 32 := Scalar.addi c0_i32_947 v1050
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_948 : BitVec 32 := 4#32
  let v1052 : BitVec 32 := Scalar.muli v5 c4_i32_948
  let v1053 : BitVec 32 := Scalar.addi v1051 v1052
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_949 : BitVec 32 := 1#32
  let v1054 : BitVec 32 := Scalar.muli v8 c1_i32_949
  let v1055 : BitVec 32 := Scalar.addi v1053 v1054
  v1055.toNat
def k0_dev30 (d0 : Dev nD) : Nat :=
  let c0_i32_969 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v9 : BitVec 32 := Scalar.xori v2 c1_i32_2
  let c16_i32_968 : BitVec 32 := 16#32
  let v1078 : BitVec 32 := Scalar.muli v9 c16_i32_968
  let v1079 : BitVec 32 := Scalar.addi c0_i32_969 v1078
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_970 : BitVec 32 := 4#32
  let v1080 : BitVec 32 := Scalar.muli v5 c4_i32_970
  let v1081 : BitVec 32 := Scalar.addi v1079 v1080
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_971 : BitVec 32 := 1#32
  let v1082 : BitVec 32 := Scalar.muli v8 c1_i32_971
  let v1083 : BitVec 32 := Scalar.addi v1081 v1082
  v1083.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x32x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x32x8x128 : Shape := ⟨4, ![4, 32, 8, 128]⟩
abbrev S4x16384x8x128 : Shape := ⟨4, ![4, 16384, 8, 128]⟩
abbrev S4x8x32x16384 : Shape := ⟨4, ![4, 8, 32, 16384]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x16384x8x128, .f32⟩
  | .hbm, ⟨2, _⟩ => ⟨S4x16384x8x128, .f32⟩
  | .hbm, ⟨3, _⟩ => ⟨S4x8x32x16384, .f32⟩
  | .hbm, ⟨4, _⟩ => ⟨S_, .f32⟩
  | .hbm, ⟨5, _⟩ => ⟨S4x8x32x16384, .f32⟩
  | .hbm, ⟨6, _⟩ => ⟨S4x8x32x16384, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x16384, .f32⟩
  | .hbm, ⟨11, _⟩ => ⟨S4x8x32x16384, .f32⟩
  | .hbm, ⟨12, _⟩ => ⟨S4x8x32x16384, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x16384, .f32⟩
  | .hbm, ⟨17, _⟩ => ⟨S4x8x32x16384, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
# The mesh: partners, row blocks, and the kernel's address arithmetic

The thirty-two devices form a five-bit hypercube: device `16 x + 4 y + z` has the bits `x`, `y % 2`, `z % 2`, `y / 2`, `z / 2`.
Round `r` of the collective pairs a device with the one whose bit `r` differs. Each half of the accumulator (512 rows) is cut
by halving: after `k` rounds a device works on one of `2 ^ k` blocks of `512 / 2 ^ k` rows, chosen by its first `k` bits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Attn

open Idealize.ShloMosaic Idealize.ShloMosaic.TcCoe
open Cert.KernelIdeal Cert.KernelIdeal.Gen

/-! ## Partners -/

/-- The device whose bit `r` differs from `c`'s: in order `x`, `y % 2`, `z % 2`, `y / 2`, `z / 2`. -/
def peer (r : Fin 5) (c : Dev nD) : Dev nD :=
  ⟨(match r with | 0 => c.val ^^^ 16 | 1 => c.val ^^^ 4 | 2 => c.val ^^^ 1 | 3 => c.val ^^^ 8 | 4 => c.val ^^^ 2) % 32, Nat.mod_lt _ (by decide)⟩

theorem peer_peer (r : Fin 5) (c : Dev nD) : peer r (peer r c) = c := by revert r c; decide
theorem peer_ne (r : Fin 5) (c : Dev nD) : peer r c ≠ c := by revert r c; decide
theorem peer_inj {r r' : Fin 5} {c : Dev nD} : peer r c = peer r' c → r = r' := by revert r r' c; decide

/-- The pairing of round `r` as a permutation. -/
def swap (r : Fin 5) : Dev nD ≃ Dev nD := ⟨peer r, peer r, peer_peer r, peer_peer r⟩

/-! ## Row blocks -/

/-- The first row, within a half, of the 16-row block device `c` ends on: its bits read from the top. -/
def home (c : Dev nD) : ℕ := c.val / 16 * 256 + c.val / 4 % 2 * 128 + c.val % 2 * 64 + c.val / 8 % 2 * 32 + c.val / 2 % 2 * 16

theorem home_lt (c : Dev nD) : home c < 512 := by revert c; decide

/-- Rows in a block after `k` halvings. -/
def sz (k : ℕ) : ℕ := 512 / 2 ^ k

/-- The number of the block of `sz k` rows device `c` holds in half `s` after `k` halvings. -/
def num (k : ℕ) (s : Fin 2) (c : Dev nD) : ℕ := (512 * s.val + home c) / sz k

/-- The rows of block number `n` among blocks of `sz k` rows. -/
def blk (k n : ℕ) : Finset S1024x128.Idx := Finset.univ.filter fun i => (i 0).val / sz k = n

/-- The rows device `c` holds in half `s` after `k` halvings. -/
abbrev K (k : ℕ) (s : Fin 2) (c : Dev nD) : Finset S1024x128.Idx := blk k (num k s c)

theorem mem_blk {k n : ℕ} {i : S1024x128.Idx} : i ∈ blk k n ↔ (i 0).val / sz k = n := by simp [blk]

theorem blk_disjoint (k : ℕ) {n n' : ℕ} (h : n ≠ n') : Disjoint (blk k n) (blk k n') :=
  Finset.disjoint_left.mpr fun i hi hi' => h ((mem_blk.mp hi).symm.trans (mem_blk.mp hi'))

/-- A block is its two halves. -/
theorem blk_split (k : Fin 5) (n : ℕ) : blk k n = blk (k + 1) (2 * n) ∪ blk (k + 1) (2 * n + 1) := by
  ext i
  rw [Finset.mem_union, mem_blk, mem_blk, mem_blk]
  fin_cases k <;> simp only [sz] <;> omega

/-- A device's block and its round-`r` partner's are the two halves of the block they held together. -/
theorem num_succ (r : Fin 5) (s : Fin 2) (c : Dev nD) :
    (num (r + 1) s c = 2 * num r s c ∧ num (r + 1) s (peer r c) = 2 * num r s c + 1)
      ∨ (num (r + 1) s c = 2 * num r s c + 1 ∧ num (r + 1) s (peer r c) = 2 * num r s c) := by
  revert r s c; decide +kernel

theorem num_peer (r : Fin 5) (s : Fin 2) (c : Dev nD) : num r s (peer r c) = num r s c := by revert r s c; decide +kernel

theorem K_peer (r : Fin 5) (s : Fin 2) (c : Dev nD) : K r s (peer r c) = K r s c := by rw [K, num_peer]

theorem K_split (r : Fin 5) (s : Fin 2) (c : Dev nD) : K r s c = K (r + 1) s c ∪ K (r + 1) s (peer r c) := by
  rw [K, blk_split]
  rcases num_succ r s c with ⟨h, h'⟩ | ⟨h, h'⟩
  · rw [K, K, h, h']
  · rw [K, K, h, h', Finset.union_comm]

theorem K_disjoint (r : Fin 5) (s : Fin 2) (c : Dev nD) : Disjoint (K (r + 1) s c) (K (r + 1) s (peer r c)) :=
  blk_disjoint _ (by rcases num_succ r s c with ⟨h, h'⟩ | ⟨h, h'⟩ <;> omega)

/-- Before the first round a device holds the whole half. -/
theorem num_zero (s : Fin 2) (c : Dev nD) : num 0 s c = s.val := by revert s c; decide +kernel

/-- The device that ends on the 16-row block number `q`, of either half. -/
def owner (q : ℕ) : Dev nD :=
  ⟨(q / 16 % 2 * 16 + q / 2 % 2 * 8 + q / 8 % 2 * 4 + q % 2 * 2 + q / 4 % 2) % 32, Nat.mod_lt _ (by decide)⟩

theorem owner_num (s : Fin 2) (c : Dev nD) : owner (num 5 s c) = c := by revert s c; decide +kernel

/-! ## The kernel's addresses, in closed form -/

/-- Half `s`'s row offset as the kernel's literal. -/
def half (s : Fin 2) : BitVec 32 := match s with | 0 => 0#32 | 1 => 512#32

theorem off10_eq (c : Dev nD) : k0_off10 c = ![num 1 0 (peer 0 c) * 256, 0] := by revert c; decide +kernel
theorem off11_eq (c : Dev nD) : k0_off11 c 512#32 = ![num 1 1 (peer 0 c) * 256, 0] := by revert c; decide +kernel
theorem off12_eq (s : Fin 2) (c : Dev nD) : k0_off12 c (half s) = ![num 1 s c * 256, 0] := by revert s c; decide +kernel
theorem off13_eq (s : Fin 2) (c : Dev nD) : k0_off13 c (half s) = ![num 2 s (peer 1 c) * 128, 0] := by revert s c; decide +kernel
theorem off14_eq (s : Fin 2) (c : Dev nD) : k0_off14 c (half s) = ![num 2 s c * 128, 0] := by revert s c; decide +kernel
theorem off15_eq (s : Fin 2) (c : Dev nD) : k0_off15 c (half s) = ![num 3 s (peer 2 c) * 64, 0] := by revert s c; decide +kernel
theorem off16_eq (s : Fin 2) (c : Dev nD) : k0_off16 c (half s) = ![num 3 s c * 64, 0] := by revert s c; decide +kernel
theorem off17_eq (s : Fin 2) (c : Dev nD) : k0_off17 c (half s) = ![num 4 s (peer 3 c) * 32, 0] := by revert s c; decide +kernel
theorem off18_eq (s : Fin 2) (c : Dev nD) : k0_off18 c (half s) = ![num 4 s c * 32, 0] := by revert s c; decide +kernel
theorem off19_eq (s : Fin 2) (c : Dev nD) : k0_off19 c (half s) = ![num 5 s (peer 4 c) * 16, 0] := by revert s c; decide +kernel
theorem off20_eq (s : Fin 2) (c : Dev nD) : k0_off20 c (half s) = ![num 5 s c * 16, 0] := by revert s c; decide +kernel
theorem off21_eq (s : Fin 2) (c : Dev nD) : k0_off21 c (half s) = ![num 5 s c * 16, 0] := by revert s c; decide +kernel
theorem off22_eq (s : Fin 2) (c : Dev nD) : k0_off22 c (half s) = ![num 4 s c * 32, 0] := by revert s c; decide +kernel
theorem off23_eq (s : Fin 2) (c : Dev nD) : k0_off23 c (half s) = ![num 3 s c * 64, 0] := by revert s c; decide +kernel
theorem off24_eq (s : Fin 2) (c : Dev nD) : k0_off24 c (half s) = ![num 2 s c * 128, 0] := by revert s c; decide +kernel
theorem off25_eq (s : Fin 2) (c : Dev nD) : k0_off25 c (half s) = ![num 1 s c * 256, 0] := by revert s c; decide +kernel

theorem dev1_eq (c : Dev nD) : k0_dev1 c = peer 0 c := by revert c; decide +kernel
theorem dev2_eq (c : Dev nD) : k0_dev2 c = peer 1 c := by revert c; decide +kernel
theorem dev3_eq (c : Dev nD) : k0_dev3 c = peer 2 c := by revert c; decide +kernel
theorem dev4_eq (c : Dev nD) : k0_dev4 c = peer 3 c := by revert c; decide +kernel
theorem dev5_eq (c : Dev nD) : k0_dev5 c = peer 4 c := by revert c; decide +kernel
theorem dev6_eq (c : Dev nD) : k0_dev6 c = peer 0 c := by revert c; decide +kernel
theorem dev7_eq (c : Dev nD) : k0_dev7 c = peer 0 c := by revert c; decide +kernel
theorem dev8_eq (c : Dev nD) : k0_dev8 c = peer 0 c := by revert c; decide +kernel
theorem dev9_eq (c : Dev nD) : k0_dev9 c = peer 1 c := by revert c; decide +kernel
theorem dev10_eq (c : Dev nD) : k0_dev10 c = peer 1 c := by revert c; decide +kernel
theorem dev11_eq (c : Dev nD) : k0_dev11 c = peer 1 c := by revert c; decide +kernel
theorem dev12_eq (c : Dev nD) : k0_dev12 c = peer 2 c := by revert c; decide +kernel
theorem dev13_eq (c : Dev nD) : k0_dev13 c = peer 2 c := by revert c; decide +kernel
theorem dev14_eq (c : Dev nD) : k0_dev14 c = peer 2 c := by revert c; decide +kernel
theorem dev15_eq (c : Dev nD) : k0_dev15 c = peer 3 c := by revert c; decide +kernel
theorem dev16_eq (c : Dev nD) : k0_dev16 c = peer 3 c := by revert c; decide +kernel
theorem dev17_eq (c : Dev nD) : k0_dev17 c = peer 3 c := by revert c; decide +kernel
theorem dev18_eq (c : Dev nD) : k0_dev18 c = peer 4 c := by revert c; decide +kernel
theorem dev19_eq (c : Dev nD) : k0_dev19 c = peer 4 c := by revert c; decide +kernel
theorem dev20_eq (c : Dev nD) : k0_dev20 c = peer 4 c := by revert c; decide +kernel
theorem dev21_eq (c : Dev nD) : k0_dev21 c = peer 4 c := by revert c; decide +kernel
theorem dev22_eq (c : Dev nD) : k0_dev22 c = peer 4 c := by revert c; decide +kernel
theorem dev23_eq (c : Dev nD) : k0_dev23 c = peer 3 c := by revert c; decide +kernel
theorem dev24_eq (c : Dev nD) : k0_dev24 c = peer 3 c := by revert c; decide +kernel
theorem dev25_eq (c : Dev nD) : k0_dev25 c = peer 2 c := by revert c; decide +kernel
theorem dev26_eq (c : Dev nD) : k0_dev26 c = peer 2 c := by revert c; decide +kernel
theorem dev27_eq (c : Dev nD) : k0_dev27 c = peer 1 c := by revert c; decide +kernel
theorem dev28_eq (c : Dev nD) : k0_dev28 c = peer 1 c := by revert c; decide +kernel
theorem dev29_eq (c : Dev nD) : k0_dev29 c = peer 0 c := by revert c; decide +kernel
theorem dev30_eq (c : Dev nD) : k0_dev30 c = peer 0 c := by revert c; decide +kernel

end Cert.KernelIdeal.Attn

end
-- ==== Proof.Sched.lean ====
/-
# The collective: what the buffers hold, and the schedule of the copies

Twenty-five copies leave every device: for each half `s` of the accumulator five reduce-scatter copies (numbers `2 r + s`,
`r < 5`) and five all-gather copies (numbers `2 i + s`, `5 ≤ i < 10`), and five exchanges of the row sums (numbers `20 + r`).
Reduce-scatter copy `r` carries the half block the device gives up to its partner's landing slot; its source stays reserved
until the landing and is then the partner's, who writes it again in the all-gather.
-/
module

public import proofs.«01_k».proof.Proof.Mesh
public import Idealize.ShloMosaic.Lib.ValueLayout

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

/-- The pipeline library's ghost state and the collective's: its barrier cells have a duty for each of five partners. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

abbrev accM : Memref sig .tc .vmem S1024x128 .f32 := Memref.whole cc0_scratch0
abbrev lM : Memref sig .tc .vmem S4x32x8 .f32 := Memref.whole cc0_scratch1
abbrev rbufM : Memref sig .tc .vmem S5x2x256x128 .f32 := Memref.whole cc0_scratch3
abbrev rlM : Memref sig .tc .vmem S5x4x32x8 .f32 := Memref.whole cc0_scratch4

/-! ## Copies, their semaphores and partners -/

/-- The round whose partner copy `k` goes to (and comes from). -/
def dir (k : ℕ) : Fin 5 := if k < 10 then Fin.ofNat 5 (k / 2) else if k < 20 then Fin.ofNat 5 (9 - k / 2) else Fin.ofNat 5 (k - 20)

/-- The half copy `k` moves rows of. -/
def hf (k : ℕ) : Fin 2 := Fin.ofNat 2 k

/-- The halvings behind the block copy `k` moves. -/
def dep (k : ℕ) : ℕ := if k < 10 then k / 2 + 1 else 10 - k / 2

def ssem (k : ℕ) : DmaSem sig := ⟨(if k < 20 then 7 + k else 27 + k) % 57, Nat.mod_lt _ (by decide)⟩
def rsem (k : ℕ) : DmaSem sig := ⟨(if k < 20 then 27 + k else 32 + k) % 57, Nat.mod_lt _ (by decide)⟩

abbrev barCell (c : Dev nD) : GSem nD τ sig := ((c : Thread nD τ), .reg barrier0)
abbrev sCell (k : ℕ) (c : Dev nD) : GSem nD τ sig := ((c : Thread nD τ), .dma (ssem k))
abbrev rCell (k : ℕ) (c : Dev nD) : GSem nD τ sig := ((c : Thread nD τ), .dma (rsem k))

/-- What completing copy `k` adds to a counter. -/
def amt (k : ℕ) : ℕ := if k < 20 then RefSig.tileCredit ⟨2, ![sz (dep k), 128]⟩ .f32 else RefSig.tileCredit S4x32x8 .f32

theorem amt_pos (k : Fin 25) : 0 < amt k := by revert k; decide +kernel

/-! ## What the buffers hold -/

section Contents

variable (A0 : Dev nD → S1024x128.Idx → Elt F .f32) (L0 : Dev nD → S4x32x8.Idx → Elt F .f32)

/-- The running sums after `k` rounds: the device's own contribution, then its sum with its partner's, round by round. -/
def accV : ℕ → Dev nD → S1024x128.Idx → Elt F .f32
  | 0, c => A0 c
  | k + 1, c => addf (F := F) (s := S1024x128) (φ := .f32) (accV k c) (accV k (peer (Fin.ofNat 5 k) c))

/-- The row sums after `k` rounds. -/
def lV : ℕ → Dev nD → S4x32x8.Idx → Elt F .f32
  | 0, c => L0 c
  | k + 1, c => addf (F := F) (s := S4x32x8) (φ := .f32) (lV k c) (lV k (peer (Fin.ofNat 5 k) c))

/-- The gathered accumulator: every row at the sum its owner ended with. -/
def finV (i : S1024x128.Idx) : Elt F .f32 := accV A0 5 (owner ((i 0).val / 16)) i

/-- Rows and columns of the accumulator by number. -/
def accIx (row col : ℕ) : S1024x128.Idx := ix2 (n0 := 1024) (n1 := 128) (Fin.ofNat 1024 row) (Fin.ofNat 128 col)

/-- What lands in device `c`'s landing slots: in slot `(r, s)` the block of its round-`r` partner's sums it keeps. -/
def rbufV (c : Dev nD) (x : S5x2x256x128.Idx) : Elt F .f32 :=
  accV A0 (x 0).val (peer (Fin.ofNat 5 (x 0).val) c)
    (accIx (num ((x 0).val + 1) (x 1) c * sz ((x 0).val + 1) + (x 2).val) (x 3).val)

/-- What lands in device `c`'s row-sum slots. -/
def rlV (c : Dev nD) (x : S5x4x32x8.Idx) : Elt F .f32 :=
  lV L0 (x 0).val (peer (Fin.ofNat 5 (x 0).val) c) (ix3 (n0 := 4) (n1 := 32) (n2 := 8) (x 1) (x 2) (x 3))

end Contents

/-- Landing slot `(r, s)`, its used rows. -/
def rslot (r : ℕ) (s : Fin 2) : Finset S5x2x256x128.Idx :=
  Finset.univ.filter fun x => (x 0).val = r ∧ (x 1).val = s.val ∧ (x 2).val < sz (r + 1)
/-- Row-sum slot `r`. -/
def lslot (r : ℕ) : Finset S5x4x32x8.Idx := Finset.univ.filter fun x => (x 0).val = r

/-! ## Points-tos -/

def accPt (c : Dev nD) (I : Finset S1024x128.Idx) (f : S1024x128.Idx → Elt F .f32) : sProp 𝕄 :=
  ((c : Thread nD τ).loc cc0_scratch0) ↦[I]{fullShare} f
def lPt (c : Dev nD) (f : S4x32x8.Idx → Elt F .f32) : sProp 𝕄 :=
  ((c : Thread nD τ).loc cc0_scratch1) ↦[Finset.univ]{fullShare} f
def rbufPt (c : Dev nD) (I : Finset S5x2x256x128.Idx) (f : S5x2x256x128.Idx → Elt F .f32) : sProp 𝕄 :=
  ((c : Thread nD τ).loc cc0_scratch3) ↦[I]{fullShare} f
def rlPt (c : Dev nD) (I : Finset S5x4x32x8.Idx) (f : S5x4x32x8.Idx → Elt F .f32) : sProp 𝕄 :=
  ((c : Thread nD τ).loc cc0_scratch4) ↦[I]{fullShare} f

/-- The same, at contents not named. -/
def accAny (c : Dev nD) (I : Finset S1024x128.Idx) : sProp 𝕄 := iprop(∃ f, accPt c I f)
def rbufAny (c : Dev nD) (I : Finset S5x2x256x128.Idx) : sProp 𝕄 := iprop(∃ f, rbufPt c I f)
def rlAny (c : Dev nD) (I : Finset S5x4x32x8.Idx) : sProp 𝕄 := iprop(∃ f, rlPt c I f)

section Storable
omit [FloatOps F]
instance accPt_storable (c : Dev nD) (I f) : BI.Storable (upEmb : UEmb _ 𝕄) (accPt (F := F) c I f) := by unfold accPt; infer_instance
instance lPt_storable (c : Dev nD) (f) : BI.Storable (upEmb : UEmb _ 𝕄) (lPt (F := F) c f) := by unfold lPt; infer_instance
instance rbufPt_storable (c : Dev nD) (I f) : BI.Storable (upEmb : UEmb _ 𝕄) (rbufPt (F := F) c I f) := by unfold rbufPt; infer_instance
instance rlPt_storable (c : Dev nD) (I f) : BI.Storable (upEmb : UEmb _ 𝕄) (rlPt (F := F) c I f) := by unfold rlPt; infer_instance
instance accAny_storable (c : Dev nD) (I) : BI.Storable (upEmb : UEmb _ 𝕄) (accAny (F := F) c I) := by unfold accAny; infer_instance
instance rbufAny_storable (c : Dev nD) (I) : BI.Storable (upEmb : UEmb _ 𝕄) (rbufAny (F := F) c I) := by unfold rbufAny; infer_instance
instance rlAny_storable (c : Dev nD) (I) : BI.Storable (upEmb : UEmb _ 𝕄) (rlAny (F := F) c I) := by unfold rlAny; infer_instance
end Storable

/-! ## The schedule -/

variable (A0 : Dev nD → S1024x128.Idx → Elt F .f32) (L0 : Dev nD → S4x32x8.Idx → Elt F .f32)

/-- What the round-`r` partner's barrier signal hands device `c`: the partner's landing slots, and that the partner's receive
    cells `c` pays are open. -/
def barPay (c : Dev nD) (r : Fin 5) : sProp 𝕄 :=
  iprop(rbufAny (peer r c) (rslot r 0) ∗ rbufAny (peer r c) (rslot r 1) ∗ rlAny (peer r c) (lslot r)
    ∗ reached ER (rCell (2 * r) (peer r c)) 0 ∗ reached ER (rCell (2 * r + 1) (peer r c)) 0
    ∗ reached ER (rCell (2 * (9 - r)) (peer r c)) 0 ∗ reached ER (rCell (2 * (9 - r) + 1) (peer r c)) 0
    ∗ reached ER (rCell (20 + r) (peer r c)) 0)

/-- What comes back to device `c` when its copy `k` has been read. -/
def sPay (k : ℕ) (c : Dev nD) : sProp 𝕄 :=
  if k < 10 then iprop(emp)
  else if k < 20 then accPt c (K (dep k) (hf k) c) (finV A0)
  else lPt c (lV L0 (k - 20) c)

/-- What device `c` gets with copy `k` of its partner. -/
def rPay (k : ℕ) (c : Dev nD) : sProp 𝕄 :=
  if k < 10 then iprop(rbufPt c (rslot (k / 2) (hf k)) (rbufV A0 c)
    ∗ accPt (peer (dir k) c) (K (dep k) (hf k) c) (accV A0 (k / 2) (peer (dir k) c)))
  else if k < 20 then accPt c (K (dep k) (hf k) (peer (dir k) c)) (finV A0)
  else rlPt c (lslot (k - 20)) (rlV L0 c)

/-- The send cell copy, or receive cell copy, a DMA semaphore of the kernel's serves, with its payload. -/
def dmaPay (q : ℕ) (c : Dev nD) : sProp 𝕄 :=
  if q < 27 then sPay A0 L0 (q - 7) c else if q < 47 then rPay A0 L0 (q - 27) c
  else if q < 52 then sPay A0 L0 (q - 27) c else rPay A0 L0 (q - 32) c

def dmaAmt (q : ℕ) : ℕ :=
  if q < 27 then amt (q - 7) else if q < 47 then amt (q - 27) else if q < 52 then amt (q - 27) else amt (q - 32)

theorem dmaAmt_pos (q : Fin 57) : 0 < dmaAmt q := by revert q; decide +kernel

instance sPay_storable (k : ℕ) (c : Dev nD) : BI.Storable (upEmb : UEmb _ 𝕄) (sPay A0 L0 k c) := by
  unfold sPay; (repeat' split) <;> infer_instance
instance rPay_storable (k : ℕ) (c : Dev nD) : BI.Storable (upEmb : UEmb _ 𝕄) (rPay A0 L0 k c) := by
  unfold rPay; (repeat' split) <;> infer_instance
instance dmaPay_storable (k : ℕ) (c : Dev nD) : BI.Storable (upEmb : UEmb _ 𝕄) (dmaPay A0 L0 k c) := by
  unfold dmaPay; (repeat' split) <;> infer_instance
omit [FloatOps F] in
instance barPay_storable (c : Dev nD) (r : Fin 5) : BI.Storable (upEmb : UEmb _ 𝕄) (barPay (F := F) c r) := by
  unfold barPay; infer_instance

def dutiesOf : SemLoc sig → Finset (Fin 5)
  | .reg _ => Finset.univ
  | .dma q => if 7 ≤ q.val then {0} else ∅
def amountOf : SemLoc sig → ℕ
  | .reg _ => 1
  | .dma q => dmaAmt q.val
def payloadOf (c : Dev nD) (r : Fin 5) : SemLoc sig → sProp 𝕄
  | .reg _ => barPay c r
  | .dma q => dmaPay A0 L0 q.val c

/-- One round on every cell: on a barrier cell a unit from each partner; on a DMA cell the completion of its copy. -/
def sched : Rounds.Schedule (GSem nD τ sig) (Fin 5) 𝕄 where
  duties g r := if r = 0 ∧ g.1.2 = .tc then dutiesOf g.2 else ∅
  unitless _ := False
  amount g _ _ := amountOf g.2
  payload g _ d := payloadOf A0 L0 g.1.1 d g.2
  amount_pos g _ _ _ := by
    rcases h : g.2 with q | q
    · exact Nat.one_pos
    · exact dmaAmt_pos q

instance sched_payload_storable (g : GSem nD τ sig) (r : ℕ) (d : Fin 5) :
    BI.Storable (upEmb : UEmb _ 𝕄) ((sched A0 L0).payload g r d) := by
  show BI.Storable upEmb (payloadOf A0 L0 g.1.1 d g.2)
  unfold payloadOf
  split <;> infer_instance

section Tables

variable (c : Dev nD)

theorem duties_bar : (sched A0 L0).duties (barCell c) 0 = Finset.univ := by
  dsimp only [sched]; rw [if_pos ⟨rfl, rfl⟩]; rfl
theorem duties_s (k : Fin 25) : (sched A0 L0).duties (sCell k c) 0 = {0} := by
  dsimp only [sched]; rw [if_pos ⟨rfl, rfl⟩]; revert k; unfold dutiesOf; decide
theorem duties_r (k : Fin 25) : (sched A0 L0).duties (rCell k c) 0 = {0} := by
  dsimp only [sched]; rw [if_pos ⟨rfl, rfl⟩]; revert k; unfold dutiesOf; decide
theorem duties_later (g : GSem nD τ sig) : ∀ r, 1 ≤ r → (sched A0 L0).duties g r = ∅ :=
  fun r hr => by dsimp only [sched]; exact if_neg fun h => by omega

theorem amount_bar (d : Fin 5) : (sched A0 L0).amount (barCell c) 0 d = 1 := rfl
theorem dmaAmt_s (k : Fin 25) : dmaAmt (ssem k).val = amt k := by revert k; decide +kernel
theorem dmaAmt_r (k : Fin 25) : dmaAmt (rsem k).val = amt k := by revert k; decide +kernel
theorem amount_s (k : Fin 25) (d : Fin 5) : (sched A0 L0).amount (sCell k c) 0 d = amt k := dmaAmt_s k
theorem amount_r (k : Fin 25) (d : Fin 5) : (sched A0 L0).amount (rCell k c) 0 d = amt k := dmaAmt_r k

theorem expect_bar : (sched A0 L0).expect (barCell c) 0 = 5 := by
  unfold Schedule.expect Schedule.amountOf
  rw [duties_bar, Finset.sum_congr rfl fun d _ => amount_bar A0 L0 c d]; rfl
theorem expect_s (k : Fin 25) : (sched A0 L0).expect (sCell k c) 0 = amt k := by
  unfold Schedule.expect Schedule.amountOf; rw [duties_s, Finset.sum_singleton, amount_s]
theorem expect_r (k : Fin 25) : (sched A0 L0).expect (rCell k c) 0 = amt k := by
  unfold Schedule.expect Schedule.amountOf; rw [duties_r, Finset.sum_singleton, amount_r]

theorem payload_bar (d : Fin 5) : (sched A0 L0).payload (barCell c) 0 d = barPay c d := rfl
theorem payload_s (k : Fin 25) (d : Fin 5) : (sched A0 L0).payload (sCell k c) 0 d = sPay A0 L0 k c := by
  show dmaPay A0 L0 (ssem k).val c = _
  unfold dmaPay
  fin_cases k <;> rfl
theorem payload_r (k : Fin 25) (d : Fin 5) : (sched A0 L0).payload (rCell k c) 0 d = rPay A0 L0 k c := by
  show dmaPay A0 L0 (rsem k).val c = _
  unfold dmaPay
  fin_cases k <;> rfl

theorem rest_bar : bigSep ((sched A0 L0).duties (barCell c) 0 \ ∅) (fun d => (sched A0 L0).payload (barCell c) 0 d)
    = bigSep Finset.univ (barPay (F := F) c) := by
  rw [Finset.sdiff_empty, duties_bar]; rfl
theorem rest_s (k : Fin 25) : bigSep ((sched A0 L0).duties (sCell k c) 0 \ ∅) (fun d => (sched A0 L0).payload (sCell k c) 0 d)
    = sPay A0 L0 k c := by
  rw [Finset.sdiff_empty, duties_s, bigSep_singleton, payload_s]
theorem rest_r (k : Fin 25) : bigSep ((sched A0 L0).duties (rCell k c) 0 \ ∅) (fun d => (sched A0 L0).payload (rCell k c) 0 d)
    = rPay A0 L0 k c := by
  rw [Finset.sdiff_empty, duties_r, bigSep_singleton, payload_r]

end Tables

/-! ## What a device owes, and the levels -/

/-- A device's copies in the order it starts them. -/
def copies : List (Fin 25) := [0, 1, 20, 2, 3, 21, 4, 5, 22, 6, 7, 23, 8, 9, 24, 10, 11, 12, 13, 14, 15, 16, 17, 18, 19]

/-- What device `c` owes for the copies `l` it has not started. -/
def owesOf (c : Dev nD) : List (Fin 25) → CellTallies nD τ sig Unit
  | [] => 0
  | k :: l => owesOf c l + tallyAt (rCell k (peer (dir k) c)) () (amt k)

/-- What it owes for the barrier signals `l` it has not sent besides. -/
def owesBar (c : Dev nD) : List (Fin 5) → CellTallies nD τ sig Unit
  | [] => owesOf c copies
  | r :: l => owesBar c l + tallyAt (barCell (peer r c)) () 1

def lvlOf (k : ℕ) : ℕ := if k < 20 then 2 + k / 2 else k - 18

def L (g : GSem nD τ sig) : Finset Unit := if g.1.2 = .tc then {()} else ∅
/-- Barrier cells at 1; a receive cell at 2 plus its copy's round; the rest at 0. -/
def lv (g : GSem nD τ sig) (_ : Unit) : ℕ :=
  match g.2 with
  | .reg _ => 1
  | .dma q => if q.val < 27 then 0 else if q.val < 47 then lvlOf (q.val - 27) else if q.val < 52 then 0 else lvlOf (q.val - 32)

theorem L_of_ne (g : GSem nD τ sig) (h : g.1.2 ≠ .tc) : L g = ∅ := if_neg h
theorem L_tc (c : Dev nD) (sm : SemLoc sig) : L ((c : Thread nD τ), sm) = {()} := if_pos rfl

theorem lv_r (k : Fin 25) (c : Dev nD) (u : Unit) : lv (rCell k c) u = lvlOf k := by
  show (fun q : Fin 57 => if q.val < 27 then 0 else if q.val < 47 then lvlOf (q.val - 27) else if q.val < 52 then 0 else lvlOf (q.val - 32)) (rsem k) = _
  revert k; decide
theorem lv_s (k : Fin 25) (c : Dev nD) (u : Unit) : lv (sCell k c) u = 0 := by
  show (fun q : Fin 57 => if q.val < 27 then 0 else if q.val < 47 then lvlOf (q.val - 27) else if q.val < 52 then 0 else lvlOf (q.val - 32)) (ssem k) = _
  revert k; decide

theorem owesOf_pos {c : Dev nD} {g : GSem nD τ sig} {u : Unit} : ∀ {l : List (Fin 25)}, 0 < owesOf c l g u →
    ∃ k ∈ l, g = rCell k (peer (dir k) c)
  | [], h => absurd h (Nat.lt_irrefl 0)
  | k :: l, h => by
    unfold owesOf at h
    rw [Pi.add_apply, Finsupp.add_apply, tallyAt_apply] at h
    by_cases hg : g = rCell k (peer (dir k) c) ∧ u = ()
    · exact ⟨k, List.mem_cons_self .., hg.1⟩
    · rw [if_neg hg, Nat.add_zero] at h
      obtain ⟨k', hk', e⟩ := owesOf_pos h
      exact ⟨k', List.mem_cons_of_mem _ hk', e⟩

theorem owesBar_pos {c : Dev nD} {g : GSem nD τ sig} {u : Unit} : ∀ {l : List (Fin 5)}, 0 < owesBar c l g u →
    (∃ k ∈ copies, g = rCell k (peer (dir k) c)) ∨ ∃ r ∈ l, g = barCell (peer r c)
  | [], h => .inl (owesOf_pos h)
  | r :: l, h => by
    unfold owesBar at h
    rw [Pi.add_apply, Finsupp.add_apply, tallyAt_apply] at h
    by_cases hg : g = barCell (peer r c) ∧ u = ()
    · exact .inr ⟨r, List.mem_cons_self .., hg.1⟩
    · rw [if_neg hg, Nat.add_zero] at h
      rcases owesBar_pos h with h | ⟨r', hr', e⟩
      · exact .inl h
      · exact .inr ⟨r', List.mem_cons_of_mem _ hr', e⟩

omit [FloatOps F] in
/-- A wait on a cell of level `n` while owing only copies of higher level. -/
theorem mayWait (c : Dev nD) (sm : SemLoc sig) (n : ℕ) (hn : lv ((c : Thread nD τ), sm) () ≤ n) (l : List (Fin 25))
    (hl : ∀ k ∈ l, n < lvlOf k) : (levAts L lv : sProp 𝕄) ⊢ MayWait (c : Thread nD τ) sm () (owesOf c l) :=
  MayOwe.of_cut (L := L) (lev := lv) n (fun p hp => by rw [Finset.mem_singleton.mp hp, L_tc]; exact Finset.mem_singleton_self _)
    (fun g u hg => by obtain ⟨k, _, rfl⟩ := owesOf_pos hg; rw [L_tc]; exact Finset.mem_singleton_self _)
    (fun p hp => by rw [Finset.mem_singleton.mp hp]; exact hn)
    (fun g u hg => by obtain ⟨k, hk, rfl⟩ := owesOf_pos hg; rw [lv_r]; exact hl k hk)

end Cert.KernelIdeal.Attn

end
-- ==== Proof.Geom.lean ====
/-
# The rectangles the copies and sums go through

The elements each view touches, and what a copy or a sum leaves there, as functions on whole buffers.
-/
module

public import proofs.«01_k».proof.Proof.Sched
public import Idealize.ShloMosaic.Lib.Pipeline.Value
public import Idealize.ShloMosaic.Lib.Pipeline.ValueKit.Geometry

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open Idealize.ShloMosaic.ValueIdx (ix2 ix3 ix4)

variable {F : FTy → Type} [FloatOps F]

/-! ## Index plumbing -/

theorem sz_pos (k : Fin 6) : 0 < sz k := by revert k; decide

theorem accIx_ext {i : S1024x128.Idx} {row col : ℕ} (h0 : (i 0).val = row) (h1 : (i 1).val = col) : accIx row col = i := by
  subst h0 h1
  have e0 := (i 0).isLt
  have e1 := (i 1).isLt
  funext a
  apply Fin.ext
  rcases a with ⟨_ | _ | n, ha⟩
  · exact Nat.mod_eq_of_lt e0
  · exact Nat.mod_eq_of_lt e1
  · exact absurd ha (by simp)

theorem ix2_eta {a b : ℕ} (y : (⟨2, ![a, b]⟩ : Shape).Idx) : ix2 (n0 := a) (n1 := b) (y 0) (y 1) = y := by
  funext k
  rcases k with ⟨_ | _ | n, hk⟩
  · rfl
  · rfl
  · exact absurd hk (by simp)

theorem ix3_eta {a b c : ℕ} (y : (⟨3, ![a, b, c]⟩ : Shape).Idx) : ix3 (n0 := a) (n1 := b) (n2 := c) (y 0) (y 1) (y 2) = y := by
  funext k
  rcases k with ⟨_ | _ | _ | n, hk⟩
  · rfl
  · rfl
  · rfl
  · exact absurd hk (by simp)

theorem exists_emb {sp : Space} {S : Shape} {e : EltTy} (v : View sig .tc sp S e) {i : v.ty.Idx} (hi : i ∈ v.set) : ∃ x, v.emb x = i := by
  obtain ⟨x, -, hx⟩ := Finset.mem_map.mp hi
  exact ⟨x, hx⟩

theorem forall_fin4 (P : Fin 4 → Prop) : (∀ a, P a) ↔ P 0 ∧ P 1 ∧ P 2 ∧ P 3 :=
  ⟨fun h => ⟨h 0, h 1, h 2, h 3⟩, fun ⟨a, b, c, d⟩ x => by fin_cases x <;> assumption⟩

theorem unit_val {r : ℕ} {d : Fin r → ℕ} (off size : Fin r → ℕ) (inb : ∀ a, off a + size a ≤ d a) (j : (⟨r, size⟩ : Shape).Idx) (a : Fin r) :
    ((Rect.unit (s := ⟨r, d⟩) off size inb).emb j a).val = off a + (j a).val :=
  ValueKit.rect_emb_unit_val (s := ⟨r, d⟩) off size inb j a

/-! ## The accumulator's blocks -/

section Acc

variable {k q n : ℕ} {off : Fin 2 → ℕ} (hoff : off = ![q * n, 0]) (inb : ∀ a, off a + (![n, 128] : Fin 2 → ℕ) a ≤ S1024x128.size a)

include hoff in
theorem acc_emb (y : (⟨2, ![n, 128]⟩ : Shape).Idx) :
    (Rect.unit (s := S1024x128) off ![n, 128] inb).emb y = accIx (q * n + (y 0).val) (y 1).val := by
  subst hoff
  refine (accIx_ext ?_ ?_).symm
  · exact unit_val _ _ inb y (0 : Fin 2)
  · exact (unit_val _ _ inb y (1 : Fin 2)).trans (Nat.zero_add _)

include hoff in
theorem acc_set (hn : n = sz k) (hk : 0 < sz k) :
    (accM.slice (Rect.unit (s := S1024x128) off ![n, 128] inb) (fun _ => rfl)).view.set = blk k q := by
  subst hoff hn
  ext i
  show i ∈ ((View.whole cc0_scratch0).slice (Rect.unit (s := S1024x128) _ _ inb)).set ↔ _
  rw [View.set_slice_whole, Rect.mem_set_unit, mem_blk]
  refine (Fin.forall_fin_two (p := fun a : Fin 2 => ![q * sz k, 0] a ≤ (i a).val ∧ (i a).val < ![q * sz k, 0] a + ![sz k, 128] a)).trans ?_
  have h1 := (i 1).isLt
  show (q * sz k ≤ (i 0).val ∧ (i 0).val < q * sz k + sz k) ∧ (0 ≤ (i 1).val ∧ (i 1).val < 0 + 128) ↔ _
  rw [Nat.div_eq_iff hk]
  change (i 1).val < 128 at h1
  constructor
  · rintro ⟨⟨a, b⟩, -⟩; exact ⟨a, by omega⟩
  · rintro ⟨a, b⟩; exact ⟨⟨a, by omega⟩, Nat.zero_le _, by omega⟩

include hoff in
theorem acc_readAt (f : S1024x128.Idx → Elt F .f32) (y : (⟨2, ![n, 128]⟩ : Shape).Idx) :
    accM.view.readAt (Elt F) (Rect.unit (s := S1024x128) off ![n, 128] inb).toLoadRect f y = f (accIx (q * n + (y 0).val) (y 1).val) :=
  congrArg f (acc_emb hoff inb y)

include hoff in
/-- A copy within the rectangle from the device's accumulator to its partner's leaves there what it read. -/
theorem acc_copy (f g : S1024x128.Idx → Elt F .f32) (i : S1024x128.Idx)
    (hi : i ∈ (accM.slice (Rect.unit (s := S1024x128) off ![n, 128] inb) (fun _ => rfl)).view.set) :
    (accM.slice (Rect.unit (s := S1024x128) off ![n, 128] inb) (fun _ => rfl)).view.write (Elt F) g
      ((accM.slice (Rect.unit (s := S1024x128) off ![n, 128] inb) (fun _ => rfl)).view.read (Elt F) f) Finset.univ i = f i := by
  obtain ⟨y, rfl⟩ := exists_emb _ hi
  rw [View.write_emb, if_pos (Finset.mem_univ _)]
  rfl

end Acc

/-! ## Landing slots -/

theorem rbufV_eq (A0 : Dev nD → S1024x128.Idx → Elt F .f32) (c : Dev nD) (x : S5x2x256x128.Idx) {r a b : ℕ} {s : Fin 2}
    (h : (x 0).val = r ∧ (x 1).val = s.val ∧ (x 2).val = a ∧ (x 3).val = b) :
    rbufV A0 c x = accV A0 r (peer (Fin.ofNat 5 r) c) (accIx (num (r + 1) s c * sz (r + 1) + a) b) := by
  obtain ⟨rfl, h1, rfl, rfl⟩ := h
  obtain rfl : (x 1 : Fin 2) = s := Fin.ext h1
  rfl

theorem rlV_eq (L0 : Dev nD → S4x32x8.Idx → Elt F .f32) (c : Dev nD) (x : S5x4x32x8.Idx) {r : ℕ} {y : S4x32x8.Idx}
    (h : (x 0).val = r ∧ ix3 (n0 := 4) (n1 := 32) (n2 := 8) (x 1) (x 2) (x 3) = y) :
    rlV L0 c x = lV L0 r (peer (Fin.ofNat 5 r) c) y := by
  obtain ⟨rfl, rfl⟩ := h
  rfl

section Slot

variable {r n : ℕ} {s : Fin 2} {off : Fin 4 → ℕ} (hoff : off = ![r, s.val, 0, 0])
    (inb : ∀ a, off a + (![1, 1, n, 128] : Fin 4 → ℕ) a ≤ S5x2x256x128.size a)
    (hq : (⟨4, ![1, 1, n, 128]⟩ : Shape).Squeezes ⟨2, ![n, 128]⟩)

include hoff in
theorem slot_emb_val (y : (⟨2, ![n, 128]⟩ : Shape).Idx) (x : S5x2x256x128.Idx)
    (hx : x = (Rect.unit (s := S5x2x256x128) off ![1, 1, n, 128] inb).emb (Shape.reshapeEquiv hq.numel_eq y)) :
    (x 0).val = r ∧ (x 1).val = s.val ∧ (x 2).val = (y 0).val ∧ (x 3).val = (y 1).val := by
  subst hoff
  have e : Shape.reshapeEquiv hq.numel_eq y = ix4 (⟨0, Nat.one_pos⟩ : Fin 1) (⟨0, Nat.one_pos⟩ : Fin 1) (y 0) (y 1) := by
    conv_lhs => rw [← ix2_eta y]
    exact ValueIdx.reshapeEquiv_ix2_11ab _ _ _
  rw [e] at hx
  subst hx
  refine ⟨?_, ?_, ?_, ?_⟩
  · exact (unit_val _ _ inb _ (0 : Fin 4)).trans (Nat.add_zero _)
  · exact (unit_val _ _ inb _ (1 : Fin 4)).trans (Nat.add_zero _)
  · exact (unit_val _ _ inb _ (2 : Fin 4)).trans (Nat.zero_add _)
  · exact (unit_val _ _ inb _ (3 : Fin 4)).trans (Nat.zero_add _)

include hoff in
theorem slot_set' (hn : n = sz (r + 1)) :
    ((View.whole cc0_scratch3).slice (Rect.unit (s := S5x2x256x128) off ![1, 1, n, 128] inb)).set = rslot r s := by
  subst hoff hn
  ext i
  rw [View.set_slice_whole, Rect.mem_set_unit, rslot, Finset.mem_filter, and_iff_right (Finset.mem_univ _)]
  have h3 : (i 3).val < 128 := (i 3).isLt
  refine (forall_fin4 (fun a : Fin 4 => ![r, s.val, 0, 0] a ≤ (i a).val ∧ (i a).val < ![r, s.val, 0, 0] a + ![1, 1, sz (r + 1), 128] a)).trans ?_
  show (r ≤ (i 0).val ∧ (i 0).val < r + 1) ∧ (s.val ≤ (i 1).val ∧ (i 1).val < s.val + 1) ∧ (0 ≤ (i 2).val ∧ (i 2).val < 0 + sz (r + 1))
    ∧ (0 ≤ (i 3).val ∧ (i 3).val < 0 + 128) ↔ _
  constructor
  · rintro ⟨⟨a, b⟩, ⟨c, d⟩, ⟨-, e⟩, -⟩; exact ⟨by omega, by omega, by omega⟩
  · rintro ⟨a, b, d⟩; exact ⟨⟨by omega, by omega⟩, ⟨by omega, by omega⟩, ⟨by omega, by omega⟩, by omega, by omega⟩

include hoff in
theorem slot_set (hn : n = sz (r + 1)) :
    ((rbufM.slice (Rect.unit (s := S5x2x256x128) off ![1, 1, n, 128] inb) (fun _ => rfl)).squeeze ⟨2, ![n, 128]⟩ hq).view.set = rslot r s := by
  refine (View.set_reshape _ _).trans ?_
  exact slot_set' hoff inb hn

variable (A0 : Dev nD → S1024x128.Idx → Elt F .f32)

include hoff hq in
/-- Reading a landing slot after the landing: the partner's sums on the block kept. -/
theorem slot_readAt (c : Dev nD) (hn : n = sz (r + 1)) (hr : r < 5)
    (hc : (⟨4, ![1, 1, n, 128]⟩ : Shape).ShapeCasts ⟨2, ![n, 128]⟩) (y : (⟨2, ![n, 128]⟩ : Shape).Idx) :
    shapeCast ⟨2, ![n, 128]⟩ (rbufM.view.readAt (Elt F) (Rect.unit (s := S5x2x256x128) off ![1, 1, n, 128] inb).toLoadRect (rbufV A0 c)) hc y
      = accV A0 r (peer (Fin.ofNat 5 r) c) (accIx (num (r + 1) s c * n + (y 0).val) (y 1).val) := by
  show rbufV A0 c ((Rect.unit (s := S5x2x256x128) off ![1, 1, n, 128] inb).emb (Shape.reshapeEquiv hq.numel_eq y)) = _
  rw [rbufV_eq A0 c _ (slot_emb_val hoff inb hq y _ rfl), ← hn]

variable {off' : Fin 2 → ℕ} (inb' : ∀ a, off' a + (![n, 128] : Fin 2 → ℕ) a ≤ S1024x128.size a)

include hoff in
/-- A reduce-scatter copy leaves in the partner's landing slot what `rbufV` names. -/
theorem slot_copy (c : Dev nD) (hn : n = sz (r + 1)) (hr : r < 5)
    (hoff' : off' = ![num (r + 1) s (peer (Fin.ofNat 5 r) c) * n, 0]) (g : S5x2x256x128.Idx → Elt F .f32) (x : S5x2x256x128.Idx)
    (hx : x ∈ ((rbufM.slice (Rect.unit (s := S5x2x256x128) off ![1, 1, n, 128] inb) (fun _ => rfl)).squeeze ⟨2, ![n, 128]⟩ hq).view.set) :
    ((rbufM.slice (Rect.unit (s := S5x2x256x128) off ![1, 1, n, 128] inb) (fun _ => rfl)).squeeze ⟨2, ![n, 128]⟩ hq).view.write (Elt F) g
      ((accM.slice (Rect.unit (s := S1024x128) off' ![n, 128] inb') (fun _ => rfl)).view.read (Elt F) (accV A0 r c)) Finset.univ x
      = rbufV A0 (peer (Fin.ofNat 5 r) c) x := by
  obtain ⟨y, rfl⟩ := exists_emb _ hx
  rw [View.write_emb, if_pos (Finset.mem_univ _)]
  refine (congrArg (accV A0 r c) (acc_emb hoff' inb' y)).trans ?_
  refine Eq.trans ?_ (rbufV_eq A0 (peer (Fin.ofNat 5 r) c) _ (slot_emb_val hoff inb hq y _ rfl)).symm
  rw [← hn, peer_peer]

end Slot

/-! ## A sum -/

/-- Storing values of `g` on its rows leaves `g` there. -/
theorem acc_store {q n : ℕ} {off : Fin 2 → ℕ} (hoff : off = ![q * n, 0])
    (inb : ∀ a, off a + (![n, 128] : Fin 2 → ℕ) a ≤ S1024x128.size a) (w : (⟨2, ![n, 128]⟩ : Shape).Idx → Elt F .f32)
    (g : S1024x128.Idx → Elt F .f32) (hw : ∀ y, w y = g (accIx (q * n + (y 0).val) (y 1).val)) (f : S1024x128.Idx → Elt F .f32) (i : S1024x128.Idx)
    (hi : i ∈ (accM.slice (Rect.unit (s := S1024x128) off ![n, 128] inb) (fun _ => rfl)).view.set) :
    (accM.access (Rect.unit (s := S1024x128) off ![n, 128] inb)).write (Elt F) f w Finset.univ i = g i := by
  obtain ⟨y, rfl⟩ := exists_emb _ hi
  show (accM.access (Rect.unit (s := S1024x128) off ![n, 128] inb)).write (Elt F) f w Finset.univ
    ((accM.access (Rect.unit (s := S1024x128) off ![n, 128] inb)).emb y) = _
  rw [View.write_emb, if_pos (Finset.mem_univ _)]
  exact (hw y).trans (congrArg g (acc_emb hoff inb y).symm)

/-! ## Row-sum slots -/

section LSlot

variable {r : ℕ} {off : Fin 4 → ℕ} (hoff : off = ![r, 0, 0, 0])
    (inb : ∀ a, off a + (![1, 4, 32, 8] : Fin 4 → ℕ) a ≤ S5x4x32x8.size a)
    (hq : (⟨4, ![1, 4, 32, 8]⟩ : Shape).Squeezes S4x32x8)

include hoff in
theorem lslot_emb_val (y : S4x32x8.Idx) (x : S5x4x32x8.Idx)
    (hx : x = (Rect.unit (s := S5x4x32x8) off ![1, 4, 32, 8] inb).emb (Shape.reshapeEquiv hq.numel_eq y)) :
    (x 0).val = r ∧ ix3 (n0 := 4) (n1 := 32) (n2 := 8) (x 1) (x 2) (x 3) = y := by
  subst hoff
  have e : Shape.reshapeEquiv hq.numel_eq y = ix4 (⟨0, Nat.one_pos⟩ : Fin 1) (y 0) (y 1) (y 2) := by
    conv_lhs => rw [← ix3_eta (a := 4) (b := 32) (c := 8) y]
    exact ValueIdx.reshapeEquiv_ix3_1abc _ _ _ _
  rw [e] at hx
  subst hx
  refine ⟨(unit_val _ _ inb _ (0 : Fin 4)).trans (Nat.add_zero _), ?_⟩
  rw [← ix3_eta (a := 4) (b := 32) (c := 8) y]
  congr 1
  · exact Fin.ext ((unit_val _ _ inb _ (1 : Fin 4)).trans (Nat.zero_add _))
  · exact Fin.ext ((unit_val _ _ inb _ (2 : Fin 4)).trans (Nat.zero_add _))
  · exact Fin.ext ((unit_val _ _ inb _ (3 : Fin 4)).trans (Nat.zero_add _))

include hoff in
theorem lslot_set' :
    ((View.whole cc0_scratch4).slice (Rect.unit (s := S5x4x32x8) off ![1, 4, 32, 8] inb)).set = lslot r := by
  subst hoff
  ext i
  rw [View.set_slice_whole, Rect.mem_set_unit, lslot, Finset.mem_filter, and_iff_right (Finset.mem_univ _)]
  have h1 : (i 1).val < 4 := (i 1).isLt
  have h2 : (i 2).val < 32 := (i 2).isLt
  have h3 : (i 3).val < 8 := (i 3).isLt
  refine (forall_fin4 (fun a : Fin 4 => ![r, 0, 0, 0] a ≤ (i a).val ∧ (i a).val < ![r, 0, 0, 0] a + ![1, 4, 32, 8] a)).trans ?_
  show (r ≤ (i 0).val ∧ (i 0).val < r + 1) ∧ (0 ≤ (i 1).val ∧ (i 1).val < 0 + 4) ∧ (0 ≤ (i 2).val ∧ (i 2).val < 0 + 32)
    ∧ (0 ≤ (i 3).val ∧ (i 3).val < 0 + 8) ↔ _
  constructor
  · rintro ⟨⟨a, b⟩, -⟩; omega
  · intro a; exact ⟨⟨by omega, by omega⟩, ⟨by omega, by omega⟩, ⟨by omega, by omega⟩, by omega, by omega⟩

include hoff in
theorem lslot_set :
    ((rlM.slice (Rect.unit (s := S5x4x32x8) off ![1, 4, 32, 8] inb) (fun _ => rfl)).squeeze S4x32x8 hq).view.set = lslot r := by
  refine (View.set_reshape _ _).trans ?_
  exact lslot_set' hoff inb

variable (L0 : Dev nD → S4x32x8.Idx → Elt F .f32)

include hoff hq in
theorem lslot_readAt (c : Dev nD) (hc : (⟨4, ![1, 4, 32, 8]⟩ : Shape).ShapeCasts S4x32x8) :
    shapeCast S4x32x8 (rlM.view.readAt (Elt F) (Rect.unit (s := S5x4x32x8) off ![1, 4, 32, 8] inb).toLoadRect (rlV L0 c)) hc
      = lV L0 r (peer (Fin.ofNat 5 r) c) := by
  funext y
  show rlV L0 c ((Rect.unit (s := S5x4x32x8) off ![1, 4, 32, 8] inb).emb (Shape.reshapeEquiv hq.numel_eq y)) = _
  exact rlV_eq L0 c _ (lslot_emb_val hoff inb hq y _ rfl)

include hoff in
theorem lslot_copy (c : Dev nD) (g : S5x4x32x8.Idx → Elt F .f32) (x : S5x4x32x8.Idx)
    (hx : x ∈ ((rlM.slice (Rect.unit (s := S5x4x32x8) off ![1, 4, 32, 8] inb) (fun _ => rfl)).squeeze S4x32x8 hq).view.set) :
    ((rlM.slice (Rect.unit (s := S5x4x32x8) off ![1, 4, 32, 8] inb) (fun _ => rfl)).squeeze S4x32x8 hq).view.write (Elt F) g
      (lM.view.read (Elt F) (lV L0 r c)) Finset.univ x = rlV L0 (peer (Fin.ofNat 5 r) c) x := by
  obtain ⟨y, rfl⟩ := exists_emb _ hx
  rw [View.write_emb, if_pos (Finset.mem_univ _)]
  refine Eq.trans ?_ (rlV_eq L0 (peer (Fin.ofNat 5 r) c) _ (lslot_emb_val hoff inb hq y _ rfl)).symm
  rw [peer_peer]
  rfl

end LSlot

/-! ## The owner's sums are the gathered ones -/

theorem finV_own (A0 : Dev nD → S1024x128.Idx → Elt F .f32) (s : Fin 2) (c : Dev nD) (i : S1024x128.Idx) (hi : i ∈ K 5 s c) :
    accV A0 5 c i = finV A0 i := by
  have h := mem_blk.mp hi
  unfold finV
  have e : (i 0).val / 16 = num 5 s c := h
  rw [e, owner_num]

end Cert.KernelIdeal.Attn

end
-- ==== Proof.Steps.lean ====
/-
# One operation of the collective at a time

What a device holds for a copy before it starts, while it is in flight, once its source is back, and once it is over; and for
each operation the collective is made of, what it takes and gives.
-/
module

public import proofs.«01_k».proof.Proof.Geom
public import Idealize.ShloMosaic.Rules

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

abbrev 𝒱₀ : Variants := Variants.none

variable (A0 : Dev nD → S1024x128.Idx → Elt F .f32) (L0 : Dev nD → S4x32x8.Idx → Elt F .f32)

/-! ## The life of a copy -/

def invs (κ : GSem nD τ sig → ℕ) (k : ℕ) (c : Dev nD) : sProp 𝕄 :=
  iprop(cellInv ER (sched A0 L0) (κ (sCell k c)) (sCell k c) ∗ cellInv ER (sched A0 L0) (κ (rCell k c)) (rCell k c)
    ∗ cellInv ER (sched A0 L0) (κ (rCell k (peer (dir k) c))) (rCell k (peer (dir k) c)))

instance invs_persistent (κ : GSem nD τ sig → ℕ) (k : ℕ) (c : Dev nD) : BI.Persistent (invs A0 L0 κ k c) := by unfold invs; infer_instance

/-- Copy `k` not started: the right to pay both its cells, the place at one's own two, the credit for the partner's copy. -/
def ready (k : ℕ) (c : Dev nD) : sProp 𝕄 :=
  iprop(∃ κ, invs A0 L0 κ k c ∗ dutyTok ER (sCell k c) 0 0 ∗ reached ER (sCell k c) 0 ∗ atPos ER (sCell k c) 0 ∅ 0
    ∗ dutyTok ER (rCell k (peer (dir k) c)) 0 0 ∗ reached ER (rCell k (peer (dir k) c)) 0 ∗ atPos ER (rCell k c) 0 ∅ 0
    ∗ cred (tallyAt (rCell k c) () (amt k)))
/-- Copy `k` in flight. -/
def sent (k : ℕ) (c : Dev nD) : sProp 𝕄 :=
  iprop(∃ κ, invs A0 L0 κ k c ∗ cred (tallyAt (sCell k c) () (amt k)) ∗ atPos ER (sCell k c) 0 ∅ 0 ∗ atPos ER (rCell k c) 0 ∅ 0
    ∗ cred (tallyAt (rCell k c) () (amt k)))
/-- Its source read. -/
def halfway (k : ℕ) (c : Dev nD) : sProp 𝕄 :=
  iprop(∃ κ, invs A0 L0 κ k c ∗ semVal (sCell k c) 0 ∗ atPos ER (rCell k c) 0 ∅ 0 ∗ cred (tallyAt (rCell k c) () (amt k)))
/-- The partner's copy arrived as well. -/
def over (k : ℕ) (c : Dev nD) : sProp 𝕄 := iprop(semVal (sCell k c) 0 ∗ semVal (rCell k c) 0)

/-- What is owed for the copies `l` still to start, with the levels. -/
def owing (c : Dev nD) (l : List (Fin 25)) : sProp 𝕄 :=
  iprop(levAts L lv ∗ ∃ W, owes (c : Thread nD τ) (owesOf c l) W)

theorem close (κ : ℕ) (g : GSem nD τ sig) :
    iprop(cellInv ER (sched A0 L0) κ g ∗ atPos ER g (0 + 1) ∅ 0) ⊢ (|={Set.univ}=> semVal g 0 : sProp 𝕄) :=
  Rounds.cell_close ER (sched A0 L0) (Set.mem_univ κ) id (duties_later A0 L0 g)

section Copy

/-- Starting copy `k`, its source coming back when it has been read. -/
theorem start_copy {s : Shape} {e : EltTy} {α : Type} {Kt : α → sProp 𝕄} {k' : PUnit → Prog (TpuEff nD τ sig (Elt F) Λ₀ .tc) α}
    (k : Fin 25) {c p : Dev nD} (hp : p = peer (dir k) c) {src : Memref sig .tc .vmem s e} {dst : Memref sig .tc .vmem s e}
    {sS sR : DmaSem sig} (hsS : sS = ssem k) (hsR : sR = rsem k) (hN : dst.view.dmaCredit = amt k) {hsc hsrc hdst hsem}
    {fs : Buf (Elt F) (src.view.loc (c : Thread nD τ))} {fd : Buf (Elt F) (dst.view.loc (p : Thread nD τ))}
    (hpay₁ : (src.view.loc (c : Thread nD τ) ↦[src.view.set]{fullShare} fs) ⊢ sPay A0 L0 k c)
    (hpay₂ : (dst.view.loc (p : Thread nD τ) ↦[dst.view.set]{fullShare} (dst.view.write (Elt F) fd (src.view.read (Elt F) fs) Finset.univ))
      ⊢ rPay A0 L0 k p) (l : List (Fin 25)) :
    iprop(ready A0 L0 k c ∗ (src.view.loc (c : Thread nD τ) ↦[src.view.set]{fullShare} fs)
        ∗ (dst.view.loc (p : Thread nD τ) ↦[dst.view.set]{fullShare} fd) ∗ owing c (k :: l))
      ⊢ iprop(((sent A0 L0 k c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ
              (.op (.enqueueDma src (.remote (p : Thread nD τ) dst (.dma sS) hsc) (.dma sR) hsrc hdst hsem) k') Kt) := by
  subst hp hsS hsR
  unfold ready owing sent invs
  iintro ⟨⟨%κ, ⟨#HIs, #HIr, #HIp⟩, HtS, #HrS, HaS, HtR, #HrR, HaR, Hc⟩, Hs, Hd, #Hlev, ⟨%W, HO⟩⟩ Hk
  iapply (Rounds.wp_send_pointsTo 𝒱₀ ER (sched A0 L0) (c : Thread nD τ) none (c' := (peer (dir k) c : Thread nD τ)) (src := src) (dst := dst)
      (sS := .dma (ssem k)) (sem := .dma (rsem k)) (q := fullShare) (fs := fs) (fd := fd) (κ₁ := κ (sCell k c)) (κ₂ := κ (rCell k (peer (dir k) c)))
      (r₁ := 0) (r₂ := 0) (d₁ := 0) (d₂ := 0)
      (by rw [duties_s]; exact Finset.mem_singleton_self _) (by rw [duties_r]; exact Finset.mem_singleton_self _)
      () () (amt k) hN (amount_s A0 L0 c k 0) (amount_r A0 L0 _ k 0) (owesOf c l) rfl (W := W)
      (by rw [payload_s]; exact hpay₁) (by rw [payload_r]; exact hpay₂)) $$ [Hs Hd HO HtS HtR]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS HaS HaR Hc]
  · iexists κ
    isplitr
    · isplitr; · iexact HIs
      isplitr; · iexact HIr
      iexact HIp
    isplitl [HcS]; · iexact HcS
    isplitl [HaS]; · iexact HaS
    isplitl [HaR]; · iexact HaR
    iexact Hc
  · isplitr; · iexact Hlev
    iexists W; iexact HO

/-- Starting copy `k`, its source going to the partner with the landing. -/
theorem start_giving {s : Shape} {e : EltTy} {α : Type} {Kt : α → sProp 𝕄} {k' : PUnit → Prog (TpuEff nD τ sig (Elt F) Λ₀ .tc) α}
    (k : Fin 25) {c p : Dev nD} (hp : p = peer (dir k) c) {src : Memref sig .tc .vmem s e} {dst : Memref sig .tc .vmem s e}
    {sS sR : DmaSem sig} (hsS : sS = ssem k) (hsR : sR = rsem k) (hN : dst.view.dmaCredit = amt k) {hsc hsrc hdst hsem}
    {fs : Buf (Elt F) (src.view.loc (c : Thread nD τ))} {fd : Buf (Elt F) (dst.view.loc (p : Thread nD τ))}
    (hpay₁ : emp ⊢ sPay A0 L0 k c)
    (hpay₂ : iprop((dst.view.loc (p : Thread nD τ) ↦[dst.view.set]{fullShare} (dst.view.write (Elt F) fd (src.view.read (Elt F) fs) Finset.univ))
      ∗ (src.view.loc (c : Thread nD τ) ↦[src.view.set]{fullShare} fs)) ⊢ rPay A0 L0 k p) (l : List (Fin 25)) :
    iprop(ready A0 L0 k c ∗ (src.view.loc (c : Thread nD τ) ↦[src.view.set]{fullShare} fs)
        ∗ (dst.view.loc (p : Thread nD τ) ↦[dst.view.set]{fullShare} fd) ∗ owing c (k :: l))
      ⊢ iprop(((sent A0 L0 k c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ
              (.op (.enqueueDma src (.remote (p : Thread nD τ) dst (.dma sS) hsc) (.dma sR) hsrc hdst hsem) k') Kt) := by
  subst hp hsS hsR
  unfold ready owing sent invs
  iintro ⟨⟨%κ, ⟨#HIs, #HIr, #HIp⟩, HtS, #HrS, HaS, HtR, #HrR, HaR, Hc⟩, Hs, Hd, #Hlev, ⟨%W, HO⟩⟩ Hk
  iapply (Rounds.wp_send_landing_pointsTo 𝒱₀ ER (sched A0 L0) (c : Thread nD τ) none (c' := (peer (dir k) c : Thread nD τ)) (src := src) (dst := dst)
      (sS := .dma (ssem k)) (sem := .dma (rsem k)) (q := fullShare) (fs := fs) (fd := fd) (κ₁ := κ (sCell k c)) (κ₂ := κ (rCell k (peer (dir k) c)))
      (r₁ := 0) (r₂ := 0) (d₁ := 0) (d₂ := 0)
      (by rw [duties_s]; exact Finset.mem_singleton_self _) (by rw [duties_r]; exact Finset.mem_singleton_self _)
      () () (amt k) hN (amount_s A0 L0 c k 0) (amount_r A0 L0 _ k 0) (owesOf c l) rfl (W := W)
      (by rw [payload_s]; exact hpay₁) (by rw [payload_r]; exact hpay₂)) $$ [Hs Hd HO HtS HtR]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS HaS HaR Hc]
  · iexists κ
    isplitr
    · isplitr; · iexact HIs
      isplitr; · iexact HIr
      iexact HIp
    isplitl [HcS]; · iexact HcS
    isplitl [HaS]; · iexact HaS
    isplitl [HaR]; · iexact HaR
    iexact Hc
  · isplitr; · iexact Hlev
    iexists W; iexact HO

/-- Waiting till copy `k` has been read. -/
theorem wait_sent {s : Shape} {e : EltTy} {α : Type} {Kt : α → sProp 𝕄} {k' : PUnit → Prog (TpuEff nD τ sig (Elt F) Λ₀ .tc) α}
    (k : Fin 25) {c : Dev nD} {src : Memref sig .tc .vmem s e} {dst : Memref sig .tc .vmem s e}
    {sS : DmaSem sig} (hsS : sS = ssem k) (hN : dst.view.dmaCredit = amt k) {h₁ h₂} (l : List (Fin 25)) :
    iprop(sent A0 L0 k c ∗ owing c l)
      ⊢ iprop(((halfway A0 L0 k c ∗ sPay A0 L0 k c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sS src dst h₁ h₂) k') Kt) := by
  subst hsS
  unfold owing sent halfway invs
  iintro ⟨⟨%κ, ⟨#HIs, #HIr, #HIp⟩, HcS, HaS, HaR, Hc⟩, #Hlev, ⟨%W, HO⟩⟩ Hk
  iapply (Rounds.wp_wait_rest_token 𝒱₀ ER (sched A0 L0) (c : Thread nD τ) none (κ := κ (sCell k c))
      (wpE_waitDma2_eq (src := src) (dst := dst) 𝒱₀ (c : Thread nD τ) none Set.univ) (Set.mem_univ _) () (O := owesOf c l) (W := W) (R := 0) (m := 0) (T := ∅)
      ((Nat.zero_add _).trans (hN.trans (expect_s A0 L0 c k).symm))) $$ [HcS HO HaS]
  · isplitr; · iexact HIs
    isplitl [HcS]; · rw [hN]; iexact HcS
    isplitl [HO]; · iexact HO
    isplitr
    · iapply (mayWait c (.dma (ssem k)) 0 (le_of_eq (lv_s k c ())) l (fun k _ => by unfold lvlOf; have := k.isLt; split <;> omega)); iexact Hlev
    iexact HaS
  iintro ⟨HO, HaS, -, Hpay⟩
  ihave Hp := (Entails.of_eq (rest_s A0 L0 c k)) $$ Hpay
  imod (close A0 L0 (κ (sCell k c)) (sCell k c)) $$ [HaS] with Hs0
  · isplitr; · iexact HIs
    iexact HaS
  iapply Hk
  isplitl [Hs0 HaR Hc]
  · iexists κ
    isplitr
    · isplitr; · iexact HIs
      isplitr; · iexact HIr
      iexact HIp
    isplitl [Hs0]; · iexact Hs0
    isplitl [HaR]; · iexact HaR
    iexact Hc
  isplitl [Hp]; · iexact Hp
  isplitr; · iexact Hlev
  iexists _; iexact HO

/-- Waiting for the partner's copy `k`, what is still owed being of later rounds. -/
theorem wait_recv {s : Shape} {e : EltTy} {α : Type} {Kt : α → sProp 𝕄} {k' : PUnit → Prog (TpuEff nD τ sig (Elt F) Λ₀ .tc) α}
    (k : Fin 25) {c : Dev nD} {src : Memref sig .tc .vmem s e} {dst : Memref sig .tc .vmem s e}
    {sR : DmaSem sig} (hsR : sR = rsem k) (hN : dst.view.dmaCredit = amt k) {h₁ h₂} (l : List (Fin 25)) (hl : ∀ j ∈ l, lvlOf k < lvlOf j) :
    iprop(halfway A0 L0 k c ∗ owing c l)
      ⊢ iprop(((over k c ∗ rPay A0 L0 k c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sR src dst h₁ h₂) k') Kt) := by
  subst hsR
  unfold owing halfway over invs
  iintro ⟨⟨%κ, ⟨#HIs, #HIr, #HIp⟩, Hs0, HaR, Hc⟩, #Hlev, ⟨%W, HO⟩⟩ Hk
  iapply (Rounds.wp_wait_rest_token 𝒱₀ ER (sched A0 L0) (c : Thread nD τ) none (κ := κ (rCell k c))
      (wpE_waitDma2_eq (src := src) (dst := dst) 𝒱₀ (c : Thread nD τ) none Set.univ) (Set.mem_univ _) () (O := owesOf c l) (W := W) (R := 0) (m := 0) (T := ∅)
      ((Nat.zero_add _).trans (hN.trans (expect_r A0 L0 c k).symm))) $$ [Hc HO HaR]
  · isplitr; · iexact HIr
    isplitl [Hc]; · rw [hN]; iexact Hc
    isplitl [HO]; · iexact HO
    isplitr
    · iapply (mayWait c (.dma (rsem k)) (lvlOf k) (le_of_eq (lv_r k c ())) l hl); iexact Hlev
    iexact HaR
  iintro ⟨HO, HaR, -, Hpay⟩
  ihave Hp := (Entails.of_eq (rest_r A0 L0 c k)) $$ Hpay
  imod (close A0 L0 (κ (rCell k c)) (rCell k c)) $$ [HaR] with Hr0
  · isplitr; · iexact HIr
    iexact HaR
  iapply Hk
  isplitl [Hs0 Hr0]
  · isplitl [Hs0]; · iexact Hs0
    iexact Hr0
  isplitl [Hp]; · iexact Hp
  isplitr; · iexact Hlev
  iexists _; iexact HO

end Copy

end Cert.KernelIdeal.Attn

end
-- ==== Proof.Chan.lean ====
/-
# The three exchanges, step by step

Each half of the accumulator goes through ten copies, the row sums through five. Here is what a device holds of one half (of the
row sums) between two operations, and what each operation does to it.
-/
module

public import proofs.«01_k».proof.Proof.Steps

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

variable (A0 : Dev nD → S1024x128.Idx → Elt F .f32) (L0 : Dev nD → S4x32x8.Idx → Elt F .f32)

/-! ## Numbers of the copies -/

abbrev pr (r : ℕ) (c : Dev nD) : Dev nD := peer (Fin.ofNat 5 r) c

theorem rs_num {r : ℕ} (hr : r < 5) (s : Fin 2) :
    dir (2 * r + s.val) = Fin.ofNat 5 r ∧ hf (2 * r + s.val) = s ∧ dep (2 * r + s.val) = r + 1 ∧ (2 * r + s.val) / 2 = r ∧ 2 * r + s.val < 10 := by
  revert s; interval_cases r <;> decide
theorem ag_num {i : ℕ} (h5 : 5 ≤ i) (hi : i < 10) (s : Fin 2) :
    dir (2 * i + s.val) = Fin.ofNat 5 (9 - i) ∧ hf (2 * i + s.val) = s ∧ dep (2 * i + s.val) = 9 - i + 1 ∧ ¬ 2 * i + s.val < 10 ∧ 2 * i + s.val < 20 := by
  revert s; interval_cases i <;> decide
theorem l_num {r : ℕ} (hr : r < 5) : dir (20 + r) = Fin.ofNat 5 r ∧ 20 + r - 20 = r ∧ ¬ 20 + r < 10 ∧ ¬ 20 + r < 20 := by
  interval_cases r <;> decide

theorem pr_pr (r : ℕ) (c : Dev nD) : pr r (pr r c) = c := peer_peer _ c

theorem K_split' {r : ℕ} (hr : r < 5) (s : Fin 2) (c : Dev nD) : K r s c = K (r + 1) s c ∪ K (r + 1) s (pr r c) := by
  have := K_split ⟨r, hr⟩ s c
  have e : (⟨r, hr⟩ : Fin 5) = Fin.ofNat 5 r := Fin.ext (Nat.mod_eq_of_lt hr).symm
  dsimp only [pr]
  rw [← e]; exact this
theorem K_disjoint' {r : ℕ} (hr : r < 5) (s : Fin 2) (c : Dev nD) : Disjoint (K (r + 1) s c) (K (r + 1) s (pr r c)) := by
  have := K_disjoint ⟨r, hr⟩ s c
  have e : (⟨r, hr⟩ : Fin 5) = Fin.ofNat 5 r := Fin.ext (Nat.mod_eq_of_lt hr).symm
  dsimp only [pr]
  rw [← e]; exact this

theorem sz_pos' {k : ℕ} (hk : k < 6) : 0 < sz k := sz_pos ⟨k, hk⟩

theorem sPay_rs {r : ℕ} (hr : r < 5) (s : Fin 2) (c : Dev nD) : sPay A0 L0 (2 * r + s.val) c = iprop(emp) := by
  unfold sPay; rw [if_pos (rs_num hr s).2.2.2.2]
theorem rPay_rs {r : ℕ} (hr : r < 5) (s : Fin 2) (c : Dev nD) : rPay A0 L0 (2 * r + s.val) c
    = iprop(rbufPt c (rslot r s) (rbufV A0 c) ∗ accPt (pr r c) (K (r + 1) s c) (accV A0 r (pr r c))) := by
  obtain ⟨h1, h2, h3, h4, h5⟩ := rs_num hr s
  unfold rPay; rw [if_pos h5, h1, h2, h3, h4]
theorem sPay_ag {i : ℕ} (h5 : 5 ≤ i) (hi : i < 10) (s : Fin 2) (c : Dev nD) :
    sPay A0 L0 (2 * i + s.val) c = accPt c (K (9 - i + 1) s c) (finV A0) := by
  obtain ⟨h1, h2, h3, h4, h5⟩ := ag_num h5 hi s
  unfold sPay; rw [if_neg h4, if_pos h5, h2, h3]
theorem rPay_ag {i : ℕ} (h5 : 5 ≤ i) (hi : i < 10) (s : Fin 2) (c : Dev nD) :
    rPay A0 L0 (2 * i + s.val) c = accPt c (K (9 - i + 1) s (pr (9 - i) c)) (finV A0) := by
  obtain ⟨h1, h2, h3, h4, h5⟩ := ag_num h5 hi s
  unfold rPay; rw [if_neg h4, if_pos h5, h1, h2, h3]
theorem sPay_l {r : ℕ} (hr : r < 5) (c : Dev nD) : sPay A0 L0 (20 + r) c = lPt c (lV L0 r c) := by
  obtain ⟨h1, h2, h3, h4⟩ := l_num hr
  unfold sPay; rw [if_neg h3, if_neg h4, h2]
theorem rPay_l {r : ℕ} (hr : r < 5) (c : Dev nD) : rPay A0 L0 (20 + r) c = rlPt c (lslot r) (rlV L0 c) := by
  obtain ⟨h1, h2, h3, h4⟩ := l_num hr
  unfold rPay; rw [if_neg h3, if_neg h4, h2]

/-! ## Splitting points-tos and conjunctions -/

omit [FloatOps F] in
theorem accPt_union (c : Dev nD) {I J : Finset S1024x128.Idx} (h : Disjoint I J) (f : S1024x128.Idx → Elt F .f32) :
    (accPt c (I ∪ J) f : sProp 𝕄) ⊣⊢ iprop(accPt c I f ∗ accPt c J f) := pointsTo_union h

omit [FloatOps F] in
theorem accPt_congr (c : Dev nD) {I : Finset S1024x128.Idx} {f g : S1024x128.Idx → Elt F .f32} (h : ∀ i ∈ I, f i = g i) :
    (accPt c I f : sProp 𝕄) = accPt c I g := pointsTo_congr h

theorem bigSep_Ico {M : Type} [URA M] {i n : ℕ} (h : i < n) (Φ : ℕ → sProp M) :
    bigSep (Finset.Ico i n) Φ = iprop(Φ i ∗ bigSep (Finset.Ico (i + 1) n) Φ) := by
  rw [show Finset.Ico i n = insert i (Finset.Ico (i + 1) n) by ext x; simp only [Finset.mem_Ico, Finset.mem_insert]; omega]
  exact bigSep_insert (by simp)
theorem bigSep_range_succ {M : Type} [URA M] (i : ℕ) (Φ : ℕ → sProp M) :
    bigSep (Finset.range (i + 1)) Φ = iprop(Φ i ∗ bigSep (Finset.range i) Φ) := by
  rw [Finset.range_add_one]
  exact bigSep_insert Finset.notMem_range_self

/-! ## What a device holds of one half -/

/-- The partner's landing slot for copy `j`, if it has one. -/
def slotOf (j : ℕ) (s : Fin 2) (c : Dev nD) : sProp 𝕄 := if j < 5 then rbufAny c (rslot j s) else iprop(emp)

/-- For the copies from `i` on: everything to start them. -/
def fut (s : Fin 2) (i : ℕ) (c : Dev nD) : sProp 𝕄 :=
  bigSep (Finset.Ico i 10) fun j => iprop(ready A0 L0 (2 * j + s.val) c ∗ slotOf j s (pr j c))
/-- For the copies before `i`: their counters at zero, and the slots the partner's went through. -/
def past (s : Fin 2) (i : ℕ) (c : Dev nD) : sProp 𝕄 :=
  bigSep (Finset.range i) fun j => iprop(over (2 * j + s.val) c ∗ slotOf j s c)
/-- The blocks the device was given by its partners of the first `n` rounds. -/
def held (s : Fin 2) (n : ℕ) (c : Dev nD) : sProp 𝕄 :=
  bigSep (Finset.range n) fun j => accAny (pr j c) (K (j + 1) s c)

def RsReady (s : Fin 2) (r : ℕ) (c : Dev nD) : sProp 𝕄 :=
  iprop(fut A0 L0 s r c ∗ past s r c ∗ held s r c ∗ accPt c (K r s c) (accV A0 r c))
def RsSent (s : Fin 2) (r : ℕ) (c : Dev nD) : sProp 𝕄 :=
  iprop(sent A0 L0 (2 * r + s.val) c ∗ fut A0 L0 s (r + 1) c ∗ past s r c ∗ held s r c ∗ accPt c (K (r + 1) s c) (accV A0 r c))
def RsHalf (s : Fin 2) (r : ℕ) (c : Dev nD) : sProp 𝕄 :=
  iprop(halfway A0 L0 (2 * r + s.val) c ∗ fut A0 L0 s (r + 1) c ∗ past s r c ∗ held s r c ∗ accPt c (K (r + 1) s c) (accV A0 r c))
/-- What goes unused while the device adds. -/
def RsIdle (s : Fin 2) (r : ℕ) (c : Dev nD) : sProp 𝕄 :=
  iprop(over (2 * r + s.val) c ∗ fut A0 L0 s (r + 1) c ∗ past s r c ∗ held s (r + 1) c)
def RsRecv (s : Fin 2) (r : ℕ) (c : Dev nD) : sProp 𝕄 :=
  iprop(RsIdle A0 L0 s r c ∗ accPt c (K (r + 1) s c) (accV A0 r c) ∗ rbufPt c (rslot r s) (rbufV A0 c))
def AgReady (s : Fin 2) (i : ℕ) (c : Dev nD) : sProp 𝕄 :=
  iprop(fut A0 L0 s i c ∗ past s i c ∗ held s (10 - i) c ∗ accPt c (K (10 - i) s c) (finV A0))
def AgSent (s : Fin 2) (i : ℕ) (c : Dev nD) : sProp 𝕄 :=
  iprop(sent A0 L0 (2 * i + s.val) c ∗ fut A0 L0 s (i + 1) c ∗ past s i c ∗ held s (9 - i) c)
def AgHalf (s : Fin 2) (i : ℕ) (c : Dev nD) : sProp 𝕄 :=
  iprop(halfway A0 L0 (2 * i + s.val) c ∗ fut A0 L0 s (i + 1) c ∗ past s i c ∗ held s (9 - i) c ∗ accPt c (K (9 - i + 1) s c) (finV A0))

/-- After the last sum the owned block is at the gathered values. -/
theorem rs_ag (s : Fin 2) (c : Dev nD) : RsReady A0 L0 s 5 c ⊢ AgReady A0 L0 s 5 c := by
  unfold RsReady AgReady
  rw [accPt_congr (f := accV A0 5 c) (g := finV A0) c (fun i hi => finV_own A0 s c i hi)]

section Rows

variable {q n k : ℕ} {off : Fin 2 → ℕ} (hoff : off = ![q * n, 0]) (inb : ∀ a, off a + (![n, 128] : Fin 2 → ℕ) a ≤ S1024x128.size a)
    (hn : n = sz k) (hk : k < 6)

include hoff hn hk in
theorem accPt_rows (c : Dev nD) (f : S1024x128.Idx → Elt F .f32) : (accPt c (blk k q) f : sProp 𝕄)
    = ((accM.slice (Rect.unit (s := S1024x128) off ![n, 128] inb) (fun _ => rfl)).view.loc (c : Thread nD τ)
        ↦[(accM.slice (Rect.unit (s := S1024x128) off ![n, 128] inb) (fun _ => rfl)).view.set]{fullShare} f) :=
  congrArg (fun I : Finset S1024x128.Idx => (accPt c I f : sProp 𝕄)) (acc_set hoff inb hn (sz_pos' hk)).symm

include hoff hn hk in
/-- Loading the rows of a block. -/
theorem load_rows {α : Type} {Kt : α → sProp 𝕄} (c : Dev nD) {f : S1024x128.Idx → Elt F .f32} {hl}
    {k' : ((⟨2, ![n, 128]⟩ : Shape).Idx → Elt F .f32) → Prog (TpuEff nD τ sig (Elt F) Λ₀ .tc) α} :
    accPt c (blk k q) f ⊢ iprop((accPt c (blk k q) f -∗ wp frame (wpE (defs₀ (F := F)) 𝒱₀ (c : Thread nD τ) none) Set.univ
        (k' (accM.view.readAt (Elt F) (Rect.unit (s := S1024x128) off ![n, 128] inb).toLoadRect f)) Kt)
      -∗ wp frame (wpE (defs₀ (F := F)) 𝒱₀ (c : Thread nD τ) none) Set.univ
        (.op (.load accM (Rect.unit (s := S1024x128) off ![n, 128] inb).toLoadRect hl) k') Kt) := by
  rw [accPt_rows hoff inb hn hk c f]
  exact wp_load_rect 𝒱₀ (c : Thread nD τ) none Set.univ (m := accM) (r := Rect.unit (s := S1024x128) off ![n, 128] inb) (Finset.Subset.refl _)

include hoff hn hk in
/-- Storing the rows of a block. -/
theorem store_rows {α : Type} {Kt : α → sProp 𝕄} (c : Dev nD) {f g : S1024x128.Idx → Elt F .f32}
    {w : (⟨2, ![n, 128]⟩ : Shape).Idx → Elt F .f32} (hw : ∀ y, w y = g (accIx (q * n + (y 0).val) (y 1).val)) {hx hm}
    {k' : PUnit → Prog (TpuEff nD τ sig (Elt F) Λ₀ .tc) α} :
    accPt c (blk k q) f ⊢ iprop((accPt c (blk k q) g -∗ wp frame (wpE (defs₀ (F := F)) 𝒱₀ (c : Thread nD τ) none) Set.univ (k' ⟨⟩) Kt)
      -∗ wp frame (wpE (defs₀ (F := F)) 𝒱₀ (c : Thread nD τ) none) Set.univ
        (.op (.store accM (Rect.unit (s := S1024x128) off ![n, 128] inb) w Finset.univ hx hm) k') Kt) := by
  have e : (accPt c (blk k q) g : sProp 𝕄) = ((accM.access (Rect.unit (s := S1024x128) off ![n, 128] inb)).loc (c : Thread nD τ)
      ↦[(accM.access (Rect.unit (s := S1024x128) off ![n, 128] inb)).set]{fullShare}
        (accM.access (Rect.unit (s := S1024x128) off ![n, 128] inb)).write (Elt F) f w Finset.univ) :=
    (accPt_rows hoff inb hn hk c g).trans (pointsTo_congr fun i hi => (acc_store hoff inb w g hw f i hi).symm)
  rw [e, accPt_rows hoff inb hn hk c f]
  exact wp_store 𝒱₀ (c : Thread nD τ) none Set.univ (m := accM) (r := Rect.unit (s := S1024x128) off ![n, 128] inb) (hx := hx) (hm := hm)
    (subset_of_eq (View.setOn_univ _))

end Rows

/-! ## Reduce-scatter -/

section Rs

theorem rbufPt_slot {r n : ℕ} {s : Fin 2} {off4 : Fin 4 → ℕ} (hoff4 : off4 = ![r, s.val, 0, 0])
    (inb4 : ∀ a, off4 a + (![1, 1, n, 128] : Fin 4 → ℕ) a ≤ S5x2x256x128.size a)
    (hq : (⟨4, ![1, 1, n, 128]⟩ : Shape).Squeezes ⟨2, ![n, 128]⟩) (hn : n = sz (r + 1))
    (p : Dev nD) (f : S5x2x256x128.Idx → Elt F .f32) : (rbufPt p (rslot r s) f : sProp 𝕄)
    = (((rbufM.slice (Rect.unit (s := S5x2x256x128) off4 ![1, 1, n, 128] inb4) (fun _ => rfl)).squeeze ⟨2, ![n, 128]⟩ hq).view.loc (p : Thread nD τ)
        ↦[((rbufM.slice (Rect.unit (s := S5x2x256x128) off4 ![1, 1, n, 128] inb4) (fun _ => rfl)).squeeze ⟨2, ![n, 128]⟩ hq).view.set]{fullShare} f) :=
  congrArg (fun I : Finset S5x2x256x128.Idx => (rbufPt p I f : sProp 𝕄)) (slot_set hoff4 inb4 hq hn).symm

/-- Starting a reduce-scatter copy: the block given up goes, with the partner's slot. -/
theorem rs_send {α : Type} {Kt : α → sProp 𝕄} {k' : PUnit → Prog (TpuEff nD τ sig (Elt F) Λ₀ .tc) α}
    (l : List (Fin 25)) {r : ℕ} (hr : r < 5) (s : Fin 2) (k : Fin 25) (hk : k.val = 2 * r + s.val) {c : Dev nD} {n : ℕ} (hn : n = sz (r + 1))
    {off4 : Fin 4 → ℕ} (hoff4 : off4 = ![r, s.val, 0, 0]) {p : Dev nD} (hp : p.val = (pr r c).val) {off : Fin 2 → ℕ}
    (hoff : off = ![num (r + 1) s (pr r c) * n, 0])
    {sS sR : DmaSem sig} (hsS : sS = ssem k) (hsR : sR = rsem k) (hN : RefSig.tileCredit ⟨2, ![n, 128]⟩ .f32 = amt k)
    {inb inb4 hq hsc hsrc hdst hsem} :
    iprop(RsReady A0 L0 s r c ∗ owing c (k :: l))
      ⊢ iprop(((RsSent A0 L0 s r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ
              (.op (.enqueueDma (accM.slice (Rect.unit (s := S1024x128) off ![n, 128] inb) (fun _ => rfl))
                (.remote (p : Thread nD τ) ((rbufM.slice (Rect.unit (s := S5x2x256x128) off4 ![1, 1, n, 128] inb4) (fun _ => rfl)).squeeze ⟨2, ![n, 128]⟩ hq)
                  (.dma sS) hsc) (.dma sR) hsrc hdst hsem) k') Kt) := by
  obtain rfl : p = pr r c := Fin.ext hp
  unfold RsReady RsSent fut
  rw [bigSep_Ico (show r < 10 by omega), slotOf, if_pos hr, ← hk]
  unfold rbufAny
  iintro ⟨⟨⟨⟨Hrdy, ⟨%fd, Hd⟩⟩, Hf⟩, Hp, Hh, Ha⟩, HO⟩ Hk
  ihave Ha := (Entails.of_eq (by rw [K_split' hr]) : accPt c (K r s c) (accV A0 r c) ⊢ accPt c (K (r + 1) s c ∪ K (r + 1) s (pr r c)) (accV A0 r c)) $$ Ha
  icases (accPt_union c (K_disjoint' hr s c) (accV A0 r c)).1 $$ Ha with ⟨Ha, Hs⟩
  iapply (start_giving A0 L0 k (c := c) (p := pr r c) (by rw [hk, (rs_num hr s).1])
      (src := accM.slice (Rect.unit (s := S1024x128) off ![n, 128] inb) (fun _ => rfl))
      (dst := (rbufM.slice (Rect.unit (s := S5x2x256x128) off4 ![1, 1, n, 128] inb4) (fun _ => rfl)).squeeze ⟨2, ![n, 128]⟩ hq)
      hsS hsR hN (fs := accV A0 r c) (fd := fd) (by rw [hk, sPay_rs A0 L0 hr])
      (by
        rw [hk, rPay_rs A0 L0 hr, pr_pr, accPt_rows hoff inb hn (by omega) c, rbufPt_slot hoff4 inb4 hq hn (pr r c)]
        exact Entails.of_eq (congrArg (fun P => iprop(P ∗ _)) (pointsTo_congr fun x hx => slot_copy hoff4 inb4 hq A0 inb c hn hr hoff fd x hx)))
      l) $$ [Hrdy Hs Hd HO]
  · isplitl [Hrdy]; · iexact Hrdy
    isplitl [Hs]; · iapply (Entails.of_eq (accPt_rows hoff inb hn (by omega) c (accV A0 r c))); iexact Hs
    isplitl [Hd]; · iapply (Entails.of_eq (rbufPt_slot hoff4 inb4 hq hn (pr r c) fd)); iexact Hd
    iexact HO
  iintro ⟨Hsent, HO⟩
  iapply Hk
  isplitr [HO]
  · isplitl [Hsent]; · iexact Hsent
    isplitl [Hf]; · iexact Hf
    isplitl [Hp]; · iexact Hp
    isplitl [Hh]; · iexact Hh
    iexact Ha
  · iexact HO

/-- Waiting till a reduce-scatter copy's source has been read. -/
theorem rs_wait_send {α : Type} {Kt : α → sProp 𝕄} {k' : PUnit → Prog (TpuEff nD τ sig (Elt F) Λ₀ .tc) α}
    (l : List (Fin 25)) {r : ℕ} (hr : r < 5) (s : Fin 2) (k : Fin 25) (hk : k.val = 2 * r + s.val) {c : Dev nD} {S : Shape} {e : EltTy}
    {src dst : Memref sig .tc .vmem S e} {sS : DmaSem sig} (hsS : sS = ssem k) (hN : dst.view.dmaCredit = amt k) {h₁ h₂} :
    iprop(RsSent A0 L0 s r c ∗ owing c l)
      ⊢ iprop(((RsHalf A0 L0 s r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sS src dst h₁ h₂) k') Kt) := by
  unfold RsSent RsHalf
  rw [← hk]
  iintro ⟨⟨Hs, Hf, Hp, Hh, Ha⟩, HO⟩ Hk
  iapply (wait_sent A0 L0 k (c := c) (src := src) (dst := dst) hsS hN l) $$ [Hs HO]
  · isplitl [Hs]; · iexact Hs
    iexact HO
  iintro ⟨Hs, -, HO⟩
  iapply Hk
  isplitr [HO]
  · isplitl [Hs]; · iexact Hs
    isplitl [Hf]; · iexact Hf
    isplitl [Hp]; · iexact Hp
    isplitl [Hh]; · iexact Hh
    iexact Ha
  · iexact HO

/-- Waiting for the partner's reduce-scatter copy: its sums land, and its block is given. -/
theorem rs_wait_recv {α : Type} {Kt : α → sProp 𝕄} {k' : PUnit → Prog (TpuEff nD τ sig (Elt F) Λ₀ .tc) α}
    (l : List (Fin 25)) {r : ℕ} (hr : r < 5) (s : Fin 2) (k : Fin 25) (hk : k.val = 2 * r + s.val) (hl : ∀ j ∈ l, lvlOf k < lvlOf j) {c : Dev nD}
    {S : Shape} {e : EltTy}
    {src dst : Memref sig .tc .vmem S e} {sR : DmaSem sig} (hsR : sR = rsem k) (hN : dst.view.dmaCredit = amt k) {h₁ h₂} :
    iprop(RsHalf A0 L0 s r c ∗ owing c l)
      ⊢ iprop(((RsRecv A0 L0 s r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sR src dst h₁ h₂) k') Kt) := by
  unfold RsHalf RsRecv RsIdle held accAny
  rw [bigSep_range_succ, ← hk]
  iintro ⟨⟨Hs, Hf, Hp, Hh, Ha⟩, HO⟩ Hk
  iapply (wait_recv A0 L0 k (c := c) (src := src) (dst := dst) hsR hN l hl) $$ [Hs HO]
  · isplitl [Hs]; · iexact Hs
    iexact HO
  iintro ⟨Hs, Hpay, HO⟩
  ihave Hpay := (Entails.of_eq (by rw [hk, rPay_rs A0 L0 hr])) $$ Hpay
  icases Hpay with ⟨Hd, Hg⟩
  iapply Hk
  isplitr [HO]
  · isplitr [Ha Hd]
    · isplitl [Hs]; · iexact Hs
      isplitl [Hf]; · iexact Hf
      isplitl [Hp]; · iexact Hp
      isplitl [Hg]; · iexists _; iexact Hg
      iexact Hh
    isplitl [Ha]; · iexact Ha
    iexact Hd
  · iexact HO

/-- Loading what landed. -/
theorem rs_load_slot {α : Type} {Kt : α → sProp 𝕄} {n : ℕ} {k' : ((⟨4, ![1, 1, n, 128]⟩ : Shape).Idx → Elt F .f32) → Prog (TpuEff nD τ sig (Elt F) Λ₀ .tc) α}
    {r : ℕ} {s : Fin 2} {c : Dev nD} (hn : n = sz (r + 1)) {off4 : Fin 4 → ℕ} (hoff4 : off4 = ![r, s.val, 0, 0]) {inb4 hl}
    {f : S5x2x256x128.Idx → Elt F .f32} :
    rbufPt c (rslot r s) f
      ⊢ iprop((rbufPt c (rslot r s) f -∗ wp frame (wpE (defs₀ (F := F)) 𝒱₀ (c : Thread nD τ) none) Set.univ (k' (rbufM.view.readAt (Elt F) (Rect.unit (s := S5x2x256x128) off4 ![1, 1, n, 128] inb4).toLoadRect f)) Kt)
          -∗ wp frame (wpE (defs₀ (F := F)) 𝒱₀ (c : Thread nD τ) none) Set.univ (.op (.load rbufM (Rect.unit (s := S5x2x256x128) off4 ![1, 1, n, 128] inb4).toLoadRect hl) k') Kt) :=
  wp_load_rect 𝒱₀ (c : Thread nD τ) none Set.univ (m := rbufM) (r := Rect.unit (s := S5x2x256x128) off4 ![1, 1, n, 128] inb4)
    (subset_of_eq (slot_set' hoff4 inb4 hn))

/-- The sum of what the device has on its block and what landed. -/
theorem sum_val {r : ℕ} (hr : r < 5) (s : Fin 2) (c : Dev nD) {n : ℕ} (hn : n = sz (r + 1)) {off : Fin 2 → ℕ} (hoff : off = ![num (r + 1) s c * n, 0])
    (inb : ∀ a, off a + (![n, 128] : Fin 2 → ℕ) a ≤ S1024x128.size a) {off4 : Fin 4 → ℕ} (hoff4 : off4 = ![r, s.val, 0, 0])
    (inb4 : ∀ a, off4 a + (![1, 1, n, 128] : Fin 4 → ℕ) a ≤ S5x2x256x128.size a) (hq : (⟨4, ![1, 1, n, 128]⟩ : Shape).Squeezes ⟨2, ![n, 128]⟩)
    (hc : (⟨4, ![1, 1, n, 128]⟩ : Shape).ShapeCasts ⟨2, ![n, 128]⟩) (y : (⟨2, ![n, 128]⟩ : Shape).Idx) :
    addf (F := F) (s := ⟨2, ![n, 128]⟩) (φ := .f32) (accM.view.readAt (Elt F) (Rect.unit (s := S1024x128) off ![n, 128] inb).toLoadRect (accV A0 r c))
      (shapeCast ⟨2, ![n, 128]⟩ (rbufM.view.readAt (Elt F) (Rect.unit (s := S5x2x256x128) off4 ![1, 1, n, 128] inb4).toLoadRect (rbufV A0 c)) hc) y
      = accV A0 (r + 1) c (accIx (num (r + 1) s c * n + (y 0).val) (y 1).val) := by
  exact congrArg₂ (FloatOps.addf (F := F) (φ := .f32)) (acc_readAt hoff inb _ _) (slot_readAt hoff4 inb4 hq A0 c hn hr hc y)

/-- Storing the sums. -/
theorem rs_store {α : Type} {Kt : α → sProp 𝕄} {k' : PUnit → Prog (TpuEff nD τ sig (Elt F) Λ₀ .tc) α}
    {r : ℕ} (hr : r < 5) (s : Fin 2) {c : Dev nD} {n : ℕ} (hn : n = sz (r + 1)) {off : Fin 2 → ℕ} (hoff : off = ![num (r + 1) s c * n, 0])
    {w : (⟨2, ![n, 128]⟩ : Shape).Idx → Elt F .f32} (hw : ∀ y, w y = accV A0 (r + 1) c (accIx (num (r + 1) s c * n + (y 0).val) (y 1).val)) {inb hx hm} :
    RsRecv A0 L0 s r c ⊢ iprop((RsReady A0 L0 s (r + 1) c -∗ wp frame (wpE (defs₀ (F := F)) 𝒱₀ (c : Thread nD τ) none) Set.univ (k' ⟨⟩) Kt)
      -∗ wp frame (wpE (defs₀ (F := F)) 𝒱₀ (c : Thread nD τ) none) Set.univ (.op (.store accM (Rect.unit (s := S1024x128) off ![n, 128] inb) w Finset.univ hx hm) k') Kt) := by
  unfold RsRecv RsReady RsIdle
  iintro ⟨⟨Hs, Hf, Hp, Hh⟩, Ha, Hd⟩ Hk
  iapply (store_rows (q := num (r + 1) s c) (k := r + 1) hoff inb hn (by omega) c hw) $$ [Ha]
  · iexact Ha
  iintro Ha
  iapply Hk
  isplitl [Hf]; · iexact Hf
  isplitl [Hs Hp Hd]
  · unfold past
    rw [bigSep_range_succ, slotOf, if_pos hr]
    isplitr [Hp]
    · isplitl [Hs]; · iexact Hs
      unfold rbufAny
      iexists _; iexact Hd
    · iexact Hp
  isplitl [Hh]; · iexact Hh
  iexact Ha

end Rs

/-! ## All-gather -/

section Ag

/-- Starting an all-gather copy: the device's rows go into the same rows of its partner's accumulator. -/
theorem ag_send {α : Type} {Kt : α → sProp 𝕄} {k' : PUnit → Prog (TpuEff nD τ sig (Elt F) Λ₀ .tc) α}
    (l : List (Fin 25)) {i : ℕ} (h5 : 5 ≤ i) (hi : i < 10) (s : Fin 2) (k : Fin 25) (hk : k.val = 2 * i + s.val) {c : Dev nD} {n : ℕ} (hn : n = sz (9 - i + 1))
    {p : Dev nD} (hp : p.val = (pr (9 - i) c).val) {off : Fin 2 → ℕ} (hoff : off = ![num (9 - i + 1) s c * n, 0])
    {sS sR : DmaSem sig} (hsS : sS = ssem k) (hsR : sR = rsem k) (hN : RefSig.tileCredit ⟨2, ![n, 128]⟩ .f32 = amt k)
    {inb hsc hsrc hdst hsem} :
    iprop(AgReady A0 L0 s i c ∗ owing c (k :: l))
      ⊢ iprop(((AgSent A0 L0 s i c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.enqueueDma (accM.slice (Rect.unit (s := S1024x128) off ![n, 128] inb) (fun _ => rfl))
                (.remote (p : Thread nD τ) (accM.slice (Rect.unit (s := S1024x128) off ![n, 128] inb) (fun _ => rfl))
                  (.dma sS) hsc) (.dma sR) hsrc hdst hsem) k') Kt) := by
  obtain rfl : p = pr (9 - i) c := Fin.ext hp
  unfold AgReady AgSent fut held
  rw [bigSep_Ico hi, slotOf, if_neg (by omega), ← hk, show 10 - i = 9 - i + 1 by omega, bigSep_range_succ]
  unfold accAny
  iintro ⟨⟨⟨⟨Hrdy, -⟩, Hf⟩, Hp, ⟨⟨%fd, Hd⟩, Hh⟩, Hs⟩, HO⟩ Hk
  iapply (start_copy A0 L0 k (c := c) (p := pr (9 - i) c) (by rw [hk, (ag_num h5 hi s).1])
      (src := accM.slice (Rect.unit (s := S1024x128) off ![n, 128] inb) (fun _ => rfl))
      (dst := accM.slice (Rect.unit (s := S1024x128) off ![n, 128] inb) (fun _ => rfl))
      hsS hsR hN (fs := finV A0) (fd := fd)
      (by rw [hk, sPay_ag A0 L0 h5 hi, accPt_rows hoff inb hn (by omega) c])
      (by
        rw [hk, rPay_ag A0 L0 h5 hi, pr_pr, accPt_rows hoff inb hn (by omega) (pr (9 - i) c)]
        exact Entails.of_eq (pointsTo_congr fun x hx => acc_copy hoff inb (finV A0) fd x hx))
      l) $$ [Hrdy Hs Hd HO]
  · isplitl [Hrdy]; · iexact Hrdy
    isplitl [Hs]; · iapply (Entails.of_eq (accPt_rows hoff inb hn (by omega) c (finV A0))); iexact Hs
    isplitl [Hd]; · iapply (Entails.of_eq (accPt_rows hoff inb hn (by omega) (pr (9 - i) c) fd)); iexact Hd
    iexact HO
  iintro ⟨Hsent, HO⟩
  iapply Hk
  isplitr [HO]
  · isplitl [Hsent]; · iexact Hsent
    isplitl [Hf]; · iexact Hf
    isplitl [Hp]; · iexact Hp
    iexact Hh
  · iexact HO

/-- Waiting till an all-gather copy's source has been read: the source comes back. -/
theorem ag_wait_send {α : Type} {Kt : α → sProp 𝕄} {k' : PUnit → Prog (TpuEff nD τ sig (Elt F) Λ₀ .tc) α}
    (l : List (Fin 25)) {i : ℕ} (h5 : 5 ≤ i) (hi : i < 10) (s : Fin 2) (k : Fin 25) (hk : k.val = 2 * i + s.val) {c : Dev nD} {S : Shape} {e : EltTy}
    {src dst : Memref sig .tc .vmem S e} {sS : DmaSem sig} (hsS : sS = ssem k) (hN : dst.view.dmaCredit = amt k) {h₁ h₂} :
    iprop(AgSent A0 L0 s i c ∗ owing c l)
      ⊢ iprop(((AgHalf A0 L0 s i c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sS src dst h₁ h₂) k') Kt) := by
  unfold AgSent AgHalf
  rw [← hk]
  iintro ⟨⟨Hs, Hf, Hp, Hh⟩, HO⟩ Hk
  iapply (wait_sent A0 L0 k (c := c) (src := src) (dst := dst) hsS hN l) $$ [Hs HO]
  · isplitl [Hs]; · iexact Hs
    iexact HO
  iintro ⟨Hs, Ha, HO⟩
  iapply Hk
  isplitr [HO]
  · isplitl [Hs]; · iexact Hs
    isplitl [Hf]; · iexact Hf
    isplitl [Hp]; · iexact Hp
    isplitl [Hh]; · iexact Hh
    iapply (Entails.of_eq (by rw [hk, sPay_ag A0 L0 h5 hi])) $$ Ha
  · iexact HO

/-- Waiting for the partner's all-gather copy: its rows join the device's. -/
theorem ag_wait_recv {α : Type} {Kt : α → sProp 𝕄} {k' : PUnit → Prog (TpuEff nD τ sig (Elt F) Λ₀ .tc) α}
    (l : List (Fin 25)) {i : ℕ} (h5 : 5 ≤ i) (hi : i < 10) (s : Fin 2) (k : Fin 25) (hk : k.val = 2 * i + s.val) (hl : ∀ j ∈ l, lvlOf k < lvlOf j)
    {c : Dev nD} {S : Shape} {e : EltTy}
    {src dst : Memref sig .tc .vmem S e} {sR : DmaSem sig} (hsR : sR = rsem k) (hN : dst.view.dmaCredit = amt k) {h₁ h₂} :
    iprop(AgHalf A0 L0 s i c ∗ owing c l)
      ⊢ iprop(((AgReady A0 L0 s (i + 1) c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sR src dst h₁ h₂) k') Kt) := by
  unfold AgHalf AgReady
  rw [← hk]
  iintro ⟨⟨Hs, Hf, Hp, Hh, Ha⟩, HO⟩ Hk
  iapply (wait_recv A0 L0 k (c := c) (src := src) (dst := dst) hsR hN l hl) $$ [Hs HO]
  · isplitl [Hs]; · iexact Hs
    iexact HO
  iintro ⟨Hs, Hg, HO⟩
  ihave Hg := (Entails.of_eq (by rw [hk, rPay_ag A0 L0 h5 hi])) $$ Hg
  iapply Hk
  isplitr [HO]
  · isplitl [Hf]; · iexact Hf
    isplitl [Hs Hp]
    · unfold past
      rw [bigSep_range_succ, slotOf, if_neg (by omega), ← hk]
      isplitr [Hp]
      · isplitl [Hs]; · iexact Hs
        iempintro
      · iexact Hp
    rw [show 10 - (i + 1) = 9 - i by omega, K_split' (show 9 - i < 5 by omega)]
    isplitl [Hh]; · iexact Hh
    iapply (accPt_union c (K_disjoint' (by omega) s c) (finV A0)).2
    isplitl [Ha]; · iexact Ha
    iexact Hg
  · iexact HO

end Ag

/-! ## Row sums -/

section Lsum

def futL (r : ℕ) (c : Dev nD) : sProp 𝕄 :=
  bigSep (Finset.Ico r 5) fun j => iprop(ready A0 L0 (20 + j) c ∗ rlAny (pr j c) (lslot j))
def pastL (r : ℕ) (c : Dev nD) : sProp 𝕄 :=
  bigSep (Finset.range r) fun j => iprop(over (20 + j) c ∗ rlAny c (lslot j))
def LReady (r : ℕ) (c : Dev nD) : sProp 𝕄 := iprop(futL A0 L0 r c ∗ pastL r c ∗ lPt c (lV L0 r c))
def LSent (r : ℕ) (c : Dev nD) : sProp 𝕄 := iprop(sent A0 L0 (20 + r) c ∗ futL A0 L0 (r + 1) c ∗ pastL r c)
def LHalf (r : ℕ) (c : Dev nD) : sProp 𝕄 :=
  iprop(halfway A0 L0 (20 + r) c ∗ futL A0 L0 (r + 1) c ∗ pastL r c ∗ lPt c (lV L0 r c))
def LIdle (r : ℕ) (c : Dev nD) : sProp 𝕄 := iprop(over (20 + r) c ∗ futL A0 L0 (r + 1) c ∗ pastL r c)
def LRecv (r : ℕ) (c : Dev nD) : sProp 𝕄 :=
  iprop(LIdle A0 L0 r c ∗ lPt c (lV L0 r c) ∗ rlPt c (lslot r) (rlV L0 c))

theorem lPt_whole (c : Dev nD) (f : S4x32x8.Idx → Elt F .f32) : (lPt c f : sProp 𝕄)
    = (lM.view.loc (c : Thread nD τ) ↦[lM.view.set]{fullShare} f) :=
  congrArg (fun I : Finset S4x32x8.Idx => (((c : Thread nD τ).loc cc0_scratch1) ↦[I]{fullShare} f : sProp 𝕄)) (View.set_whole cc0_scratch1).symm

theorem rlPt_slot {r : ℕ} {off4 : Fin 4 → ℕ} (hoff4 : off4 = ![r, 0, 0, 0])
    (inb4 : ∀ a, off4 a + (![1, 4, 32, 8] : Fin 4 → ℕ) a ≤ S5x4x32x8.size a) (hq : (⟨4, ![1, 4, 32, 8]⟩ : Shape).Squeezes S4x32x8)
    (p : Dev nD) (f : S5x4x32x8.Idx → Elt F .f32) : (rlPt p (lslot r) f : sProp 𝕄)
    = (((rlM.slice (Rect.unit (s := S5x4x32x8) off4 ![1, 4, 32, 8] inb4) (fun _ => rfl)).squeeze S4x32x8 hq).view.loc (p : Thread nD τ)
        ↦[((rlM.slice (Rect.unit (s := S5x4x32x8) off4 ![1, 4, 32, 8] inb4) (fun _ => rfl)).squeeze S4x32x8 hq).view.set]{fullShare} f) :=
  congrArg (fun I : Finset S5x4x32x8.Idx => (rlPt p I f : sProp 𝕄)) (lslot_set hoff4 inb4 hq).symm

/-- Starting an exchange of row sums. -/
theorem l_send {α : Type} {Kt : α → sProp 𝕄} {k' : PUnit → Prog (TpuEff nD τ sig (Elt F) Λ₀ .tc) α}
    (l : List (Fin 25)) {r : ℕ} (hr : r < 5) (k : Fin 25) (hk : k.val = 20 + r) {c : Dev nD}
    {off4 : Fin 4 → ℕ} (hoff4 : off4 = ![r, 0, 0, 0]) {p : Dev nD} (hp : p.val = (pr r c).val)
    {sS sR : DmaSem sig} (hsS : sS = ssem k) (hsR : sR = rsem k) (hN : RefSig.tileCredit S4x32x8 .f32 = amt k)
    {inb4 hq hsc hsrc hdst hsem} :
    iprop(LReady A0 L0 r c ∗ owing c (k :: l))
      ⊢ iprop(((LSent A0 L0 r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.enqueueDma lM
                (.remote (p : Thread nD τ) ((rlM.slice (Rect.unit (s := S5x4x32x8) off4 ![1, 4, 32, 8] inb4) (fun _ => rfl)).squeeze S4x32x8 hq)
                  (.dma sS) hsc) (.dma sR) hsrc hdst hsem) k') Kt) := by
  obtain rfl : p = pr r c := Fin.ext hp
  unfold LReady LSent futL
  rw [bigSep_Ico hr, ← hk]
  unfold rlAny
  iintro ⟨⟨⟨⟨Hrdy, ⟨%fd, Hd⟩⟩, Hf⟩, Hp, Hs⟩, HO⟩ Hk
  iapply (start_copy A0 L0 k (c := c) (p := pr r c) (by rw [hk, (l_num hr).1])
      (src := lM) (dst := (rlM.slice (Rect.unit (s := S5x4x32x8) off4 ![1, 4, 32, 8] inb4) (fun _ => rfl)).squeeze S4x32x8 hq)
      hsS hsR hN (fs := lV L0 r c) (fd := fd)
      (by rw [hk, sPay_l A0 L0 hr, lPt_whole])
      (by
        rw [hk, rPay_l A0 L0 hr, rlPt_slot hoff4 inb4 hq (pr r c)]
        exact Entails.of_eq (pointsTo_congr fun x hx => lslot_copy hoff4 inb4 hq L0 c fd x hx))
      l) $$ [Hrdy Hs Hd HO]
  · isplitl [Hrdy]; · iexact Hrdy
    isplitl [Hs]; · iapply (Entails.of_eq (lPt_whole c (lV L0 r c))); iexact Hs
    isplitl [Hd]; · iapply (Entails.of_eq (rlPt_slot hoff4 inb4 hq (pr r c) fd)); iexact Hd
    iexact HO
  iintro ⟨Hsent, HO⟩
  iapply Hk
  isplitr [HO]
  · isplitl [Hsent]; · iexact Hsent
    isplitl [Hf]; · iexact Hf
    iexact Hp
  · iexact HO

theorem l_wait_send {α : Type} {Kt : α → sProp 𝕄} {k' : PUnit → Prog (TpuEff nD τ sig (Elt F) Λ₀ .tc) α}
    (l : List (Fin 25)) {r : ℕ} (hr : r < 5) (k : Fin 25) (hk : k.val = 20 + r) {c : Dev nD} {S : Shape} {e : EltTy}
    {src dst : Memref sig .tc .vmem S e} {sS : DmaSem sig} (hsS : sS = ssem k) (hN : dst.view.dmaCredit = amt k) {h₁ h₂} :
    iprop(LSent A0 L0 r c ∗ owing c l)
      ⊢ iprop(((LHalf A0 L0 r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sS src dst h₁ h₂) k') Kt) := by
  unfold LSent LHalf
  rw [← hk]
  iintro ⟨⟨Hs, Hf, Hp⟩, HO⟩ Hk
  iapply (wait_sent A0 L0 k (c := c) (src := src) (dst := dst) hsS hN l) $$ [Hs HO]
  · isplitl [Hs]; · iexact Hs
    iexact HO
  iintro ⟨Hs, Ha, HO⟩
  iapply Hk
  isplitr [HO]
  · isplitl [Hs]; · iexact Hs
    isplitl [Hf]; · iexact Hf
    isplitl [Hp]; · iexact Hp
    iapply (Entails.of_eq (by rw [hk, sPay_l A0 L0 hr])) $$ Ha
  · iexact HO

theorem l_wait_recv {α : Type} {Kt : α → sProp 𝕄} {k' : PUnit → Prog (TpuEff nD τ sig (Elt F) Λ₀ .tc) α}
    (l : List (Fin 25)) {r : ℕ} (hr : r < 5) (k : Fin 25) (hk : k.val = 20 + r) (hl : ∀ j ∈ l, lvlOf k < lvlOf j)
    {c : Dev nD} {S : Shape} {e : EltTy}
    {src dst : Memref sig .tc .vmem S e} {sR : DmaSem sig} (hsR : sR = rsem k) (hN : dst.view.dmaCredit = amt k) {h₁ h₂} :
    iprop(LHalf A0 L0 r c ∗ owing c l)
      ⊢ iprop(((LRecv A0 L0 r c ∗ owing c l) -∗ wp frame (wpE (defs₀ (F := F)) 𝒱₀ (c : Thread nD τ) none) Set.univ (k' ⟨⟩) Kt)
          -∗ wp frame (wpE (defs₀ (F := F)) 𝒱₀ (c : Thread nD τ) none) Set.univ (.op (.waitDma2 sR src dst h₁ h₂) k') Kt) := by
  unfold LHalf LRecv LIdle
  rw [← hk]
  iintro ⟨⟨Hs, Hf, Hp, Ha⟩, HO⟩ Hk
  iapply (wait_recv A0 L0 k (c := c) (src := src) (dst := dst) hsR hN l hl) $$ [Hs HO]
  · isplitl [Hs]; · iexact Hs
    iexact HO
  iintro ⟨Hs, Hd, HO⟩
  iapply Hk
  isplitr [HO]
  · isplitr [Ha Hd]
    · isplitl [Hs]; · iexact Hs
      isplitl [Hf]; · iexact Hf
      iexact Hp
    isplitl [Ha]; · iexact Ha
    iapply (Entails.of_eq (by rw [hk, rPay_l A0 L0 hr])) $$ Hd
  · iexact HO

/-- Loading and storing the row sums whole. -/
theorem l_load {α : Type} {Kt : α → sProp 𝕄} {k' : (S4x32x8.Idx → Elt F .f32) → Prog (TpuEff nD τ sig (Elt F) Λ₀ .tc) α}
    {c : Dev nD} {f : S4x32x8.Idx → Elt F .f32} {inb hl} :
    lPt c f ⊢ iprop((lPt c f -∗ wp frame (wpE (defs₀ (F := F)) 𝒱₀ (c : Thread nD τ) none) Set.univ (k' f) Kt)
      -∗ wp frame (wpE (defs₀ (F := F)) 𝒱₀ (c : Thread nD τ) none) Set.univ (.op (.load lM (Rect.unit (s := S4x32x8) ![0, 0, 0] S4x32x8.size inb).toLoadRect hl) k') Kt) := by
  have e := Memref.readAt_unit_zero (Elt F) cc0_scratch1 (off := ![0, 0, 0]) (by decide) inb f
  have h : lPt c f ⊢ iprop((lPt c f -∗ wp frame (wpE (defs₀ (F := F)) 𝒱₀ (c : Thread nD τ) none) Set.univ (k' (lM.view.readAt (Elt F) (Rect.unit (s := S4x32x8) ![0, 0, 0] S4x32x8.size inb).toLoadRect f)) Kt)
      -∗ wp frame (wpE (defs₀ (F := F)) 𝒱₀ (c : Thread nD τ) none) Set.univ (.op (.load lM (Rect.unit (s := S4x32x8) ![0, 0, 0] S4x32x8.size inb).toLoadRect hl) k') Kt) :=
    wp_load 𝒱₀ (c : Thread nD τ) none Set.univ (m := lM) (Finset.subset_univ _)
  rw [show lM.view.readAt (Elt F) (Rect.unit (s := S4x32x8) ![0, 0, 0] S4x32x8.size inb).toLoadRect f = f from e] at h
  exact h

theorem l_load_slot {α : Type} {Kt : α → sProp 𝕄} {k' : ((⟨4, ![1, 4, 32, 8]⟩ : Shape).Idx → Elt F .f32) → Prog (TpuEff nD τ sig (Elt F) Λ₀ .tc) α}
    {r : ℕ} {c : Dev nD} {off4 : Fin 4 → ℕ} (hoff4 : off4 = ![r, 0, 0, 0]) {inb4 hl} {f : S5x4x32x8.Idx → Elt F .f32} :
    rlPt c (lslot r) f
      ⊢ iprop((rlPt c (lslot r) f -∗ wp frame (wpE (defs₀ (F := F)) 𝒱₀ (c : Thread nD τ) none) Set.univ (k' (rlM.view.readAt (Elt F) (Rect.unit (s := S5x4x32x8) off4 ![1, 4, 32, 8] inb4).toLoadRect f)) Kt)
          -∗ wp frame (wpE (defs₀ (F := F)) 𝒱₀ (c : Thread nD τ) none) Set.univ (.op (.load rlM (Rect.unit (s := S5x4x32x8) off4 ![1, 4, 32, 8] inb4).toLoadRect hl) k') Kt) :=
  wp_load_rect 𝒱₀ (c : Thread nD τ) none Set.univ (m := rlM) (r := Rect.unit (s := S5x4x32x8) off4 ![1, 4, 32, 8] inb4)
    (subset_of_eq (lslot_set' hoff4 inb4))

/-- The row sums plus what landed. -/
theorem lsum_val {r : ℕ} (c : Dev nD) {off4 : Fin 4 → ℕ} (hoff4 : off4 = ![r, 0, 0, 0])
    (inb4 : ∀ a, off4 a + (![1, 4, 32, 8] : Fin 4 → ℕ) a ≤ S5x4x32x8.size a) (hq : (⟨4, ![1, 4, 32, 8]⟩ : Shape).Squeezes S4x32x8)
    (hc : (⟨4, ![1, 4, 32, 8]⟩ : Shape).ShapeCasts S4x32x8) :
    addf (F := F) (s := S4x32x8) (φ := .f32) (lV L0 r c)
      (shapeCast S4x32x8 (rlM.view.readAt (Elt F) (Rect.unit (s := S5x4x32x8) off4 ![1, 4, 32, 8] inb4).toLoadRect (rlV L0 c)) hc) = lV L0 (r + 1) c := by
  rw [lslot_readAt hoff4 inb4 hq L0 c hc]; rfl

/-- Storing the row sums. -/
theorem l_store {α : Type} {Kt : α → sProp 𝕄} {k' : PUnit → Prog (TpuEff nD τ sig (Elt F) Λ₀ .tc) α} {r : ℕ} {c : Dev nD}
    {w : S4x32x8.Idx → Elt F .f32} (hw : w = lV L0 (r + 1) c) {inb hx hm} :
    LRecv A0 L0 r c ⊢ iprop((LReady A0 L0 (r + 1) c -∗ wp frame (wpE (defs₀ (F := F)) 𝒱₀ (c : Thread nD τ) none) Set.univ (k' ⟨⟩) Kt)
      -∗ wp frame (wpE (defs₀ (F := F)) 𝒱₀ (c : Thread nD τ) none) Set.univ (.op (.store lM (Rect.unit (s := S4x32x8) ![0, 0, 0] S4x32x8.size inb) w Finset.univ hx hm) k') Kt) := by
  subst hw
  unfold LRecv LReady LIdle
  have h : lPt c (lV L0 r c) ⊢ iprop((lPt c ((lM.access (Rect.unit (s := S4x32x8) ![0, 0, 0] S4x32x8.size inb)).write (Elt F) (lV L0 r c) (lV L0 (r + 1) c) Finset.univ)
        -∗ wp frame (wpE (defs₀ (F := F)) 𝒱₀ (c : Thread nD τ) none) Set.univ (k' ⟨⟩) Kt)
      -∗ wp frame (wpE (defs₀ (F := F)) 𝒱₀ (c : Thread nD τ) none) Set.univ (.op (.store lM (Rect.unit (s := S4x32x8) ![0, 0, 0] S4x32x8.size inb) (lV L0 (r + 1) c) Finset.univ hx hm) k') Kt) :=
    wp_store 𝒱₀ (c : Thread nD τ) none Set.univ (m := lM) (hx := hx) (hm := hm) (Finset.subset_univ _)
  rw [show (lM.access (Rect.unit (s := S4x32x8) ![0, 0, 0] S4x32x8.size inb)).write (Elt F) (lV L0 r c) (lV L0 (r + 1) c) Finset.univ = lV L0 (r + 1) c from
    Memref.write_access_unit_zero_univ (Elt F) cc0_scratch1 (off := ![0, 0, 0]) (by decide) inb _ _] at h
  iintro ⟨⟨Hs, Hf, Hp⟩, Ha, Hd⟩ Hk
  iapply h $$ [Ha]
  · iexact Ha
  iintro Ha
  iapply Hk
  isplitl [Hf]; · iexact Hf
  isplitl [Hs Hp Hd]
  · unfold pastL
    rw [bigSep_range_succ]
    isplitr [Hp]
    · isplitl [Hs]; · iexact Hs
      unfold rlAny
      iexists _; iexact Hd
    · iexact Hp
  iexact Ha

end Lsum

/-! ## Whole additions -/

section Adds

/-- A step in curried form. -/
theorem cur {A B C D : sProp 𝕄} (h : iprop(A ∗ B) ⊢ iprop(C -∗ D)) : A ⊢ iprop(B -∗ C -∗ D) := by
  iintro HA HB
  iapply h
  isplitl [HA]; · iexact HA
  iexact HB

/-- The same, the copy started at the head of the list. -/
theorem curS {A C D : sProp 𝕄} {c : Dev nD} {l l' : List (Fin 25)} {k : Fin 25} (e : l' = k :: l) (h : iprop(A ∗ owing c (k :: l)) ⊢ iprop(C -∗ D)) :
    A ⊢ iprop(owing c l' -∗ C -∗ D) := by
  subst e; exact cur h

/-- The three loads of an addition. -/
theorem rs_loads {α : Type} {Kt : α → sProp 𝕄} {r : ℕ} (hr : r < 5) (s : Fin 2) {c : Dev nD} {n : ℕ} (hn : n = sz (r + 1))
    {off : Fin 2 → ℕ} (hoff : off = ![num (r + 1) s c * n, 0]) {off4 : Fin 4 → ℕ} (hoff4 : off4 = ![r, s.val, 0, 0]) {inb inb4 inb' hl hl4 hl'}
    {k' : ((⟨2, ![n, 128]⟩ : Shape).Idx → Elt F .f32) → ((⟨4, ![1, 1, n, 128]⟩ : Shape).Idx → Elt F .f32) → ((⟨2, ![n, 128]⟩ : Shape).Idx → Elt F .f32)
      → Prog (TpuEff nD τ sig (Elt F) Λ₀ .tc) α} :
    RsRecv A0 L0 s r c ⊢ iprop((RsRecv A0 L0 s r c -∗
        wp frame (wpE (defs₀ (F := F)) 𝒱₀ (c : Thread nD τ) none) Set.univ (k' (accM.view.readAt (Elt F) (Rect.unit (s := S1024x128) off ![n, 128] inb).toLoadRect (accV A0 r c))
          (rbufM.view.readAt (Elt F) (Rect.unit (s := S5x2x256x128) off4 ![1, 1, n, 128] inb4).toLoadRect (rbufV A0 c))
          (accM.view.readAt (Elt F) (Rect.unit (s := S1024x128) off ![n, 128] inb').toLoadRect (accV A0 r c))) Kt)
      -∗ wp frame (wpE (defs₀ (F := F)) 𝒱₀ (c : Thread nD τ) none) Set.univ (.op (.load accM (Rect.unit (s := S1024x128) off ![n, 128] inb).toLoadRect hl) fun va =>
          .op (.load rbufM (Rect.unit (s := S5x2x256x128) off4 ![1, 1, n, 128] inb4).toLoadRect hl4) fun vr =>
          .op (.load accM (Rect.unit (s := S1024x128) off ![n, 128] inb').toLoadRect hl') fun vb => k' va vr vb) Kt) := by
  unfold RsRecv
  iintro ⟨HI, Ha, Hd⟩ Hk
  iapply (load_rows (q := num (r + 1) s c) (k := r + 1) hoff inb hn (by omega) c) $$ Ha
  iintro Ha
  iapply (rs_load_slot (s := s) (r := r) hn hoff4) $$ Hd
  iintro Hd
  iapply (load_rows (q := num (r + 1) s c) (k := r + 1) hoff inb' hn (by omega) c) $$ Ha
  iintro Ha
  iapply Hk
  isplitl [HI]; · iexact HI
  isplitl [Ha]; · iexact Ha
  iexact Hd

/-- A whole addition of what landed. -/
theorem rs_add {α : Type} {Kt : α → sProp 𝕄} {k' : PUnit → Prog (TpuEff nD τ sig (Elt F) Λ₀ .tc) α} {r : ℕ} (hr : r < 5) (s : Fin 2) {c : Dev nD}
    {n : ℕ} (hn : n = sz (r + 1)) {off : Fin 2 → ℕ} (hoff : off = ![num (r + 1) s c * n, 0]) {off4 : Fin 4 → ℕ} (hoff4 : off4 = ![r, s.val, 0, 0])
    {hc : (⟨4, ![1, 1, n, 128]⟩ : Shape).ShapeCasts ⟨2, ![n, 128]⟩} {hs : (⟨2, ![n, 128]⟩ : Shape).ShapeCasts ⟨2, ![n, 128]⟩}
    (hq : (⟨4, ![1, 1, n, 128]⟩ : Shape).Squeezes ⟨2, ![n, 128]⟩)
    {pay : ((⟨2, ![n, 128]⟩ : Shape).Idx → Elt F .f32) → ((⟨4, ![1, 1, n, 128]⟩ : Shape).Idx → Elt F .f32) → ((⟨2, ![n, 128]⟩ : Shape).Idx → Elt F .f32)}
    (hpay : ∀ va vr, pay va vr = shapeCast ⟨2, ![n, 128]⟩ (addf (F := F) (s := ⟨2, ![n, 128]⟩) (φ := .f32) va (shapeCast ⟨2, ![n, 128]⟩ vr hc)) hs)
    {inb inb4 inb' hl hl4 hl' inb'' hx hm} :
    RsRecv A0 L0 s r c ⊢ iprop((RsReady A0 L0 s (r + 1) c -∗ wp frame (wpE (defs₀ (F := F)) 𝒱₀ (c : Thread nD τ) none) Set.univ (k' ⟨⟩) Kt)
      -∗ wp frame (wpE (defs₀ (F := F)) 𝒱₀ (c : Thread nD τ) none) Set.univ (.op (.load accM (Rect.unit (s := S1024x128) off ![n, 128] inb).toLoadRect hl) fun va =>
          .op (.load rbufM (Rect.unit (s := S5x2x256x128) off4 ![1, 1, n, 128] inb4).toLoadRect hl4) fun vr =>
          .op (.load accM (Rect.unit (s := S1024x128) off ![n, 128] inb').toLoadRect hl') fun _ =>
          .op (.store accM (Rect.unit (s := S1024x128) off ![n, 128] inb'') (pay va vr) Finset.univ hx hm) k') Kt) := by
  iintro HR Hk
  iapply (rs_loads A0 L0 hr s hn hoff hoff4) $$ HR
  iintro HR
  iapply (rs_store A0 L0 hr s hn hoff (fun y => by
    rw [hpay, shapeCast_self]; exact sum_val A0 hr s c hn hoff inb hoff4 inb4 hq hc y)) $$ HR
  iexact Hk

/-- A whole addition of the row sums that landed. -/
theorem l_add {α : Type} {Kt : α → sProp 𝕄} {k' : PUnit → Prog (TpuEff nD τ sig (Elt F) Λ₀ .tc) α} {r : ℕ} {c : Dev nD}
    {off4 : Fin 4 → ℕ} (hoff4 : off4 = ![r, 0, 0, 0])
    {hc : (⟨4, ![1, 4, 32, 8]⟩ : Shape).ShapeCasts S4x32x8} {hs : S4x32x8.ShapeCasts S4x32x8} (hq : (⟨4, ![1, 4, 32, 8]⟩ : Shape).Squeezes S4x32x8)
    {pay : (S4x32x8.Idx → Elt F .f32) → ((⟨4, ![1, 4, 32, 8]⟩ : Shape).Idx → Elt F .f32) → (S4x32x8.Idx → Elt F .f32)}
    (hpay : ∀ va vr, pay va vr = shapeCast S4x32x8 (addf (F := F) (s := S4x32x8) (φ := .f32) va (shapeCast S4x32x8 vr hc)) hs) {inb4 inb' hl4 hl' inb'' hx hm} :
    LRecv A0 L0 r c ⊢ iprop((LReady A0 L0 (r + 1) c -∗ wp frame (wpE (defs₀ (F := F)) 𝒱₀ (c : Thread nD τ) none) Set.univ (k' ⟨⟩) Kt)
      -∗ wp frame (wpE (defs₀ (F := F)) 𝒱₀ (c : Thread nD τ) none) Set.univ (.op (.load rlM (Rect.unit (s := S5x4x32x8) off4 ![1, 4, 32, 8] inb4).toLoadRect hl4) fun vr =>
          .op (.load lM (Rect.unit (s := S4x32x8) ![0, 0, 0] S4x32x8.size inb').toLoadRect hl') fun _ =>
          .op (.store lM (Rect.unit (s := S4x32x8) ![0, 0, 0] S4x32x8.size inb'') (pay (lV L0 r c) vr) Finset.univ hx hm) k') Kt) := by
  unfold LRecv
  iintro ⟨HI, Ha, Hd⟩ Hk
  iapply (l_load_slot (r := r) hoff4) $$ Hd
  iintro Hd
  iapply l_load $$ Ha
  iintro Ha
  iapply (l_store A0 L0 (r := r) (by rw [hpay, shapeCast_self]; exact lsum_val L0 c hoff4 inb4 hq hc)) $$ [HI Ha Hd]
  · unfold LRecv
    isplitl [HI]; · iexact HI
    isplitl [Ha]; · iexact Ha
    iexact Hd
  iexact Hk

/-- Loading the row sums between an exchange and its addition. -/
theorem l_load_recv {α : Type} {Kt : α → sProp 𝕄} {r : ℕ} {c : Dev nD} {k' : (S4x32x8.Idx → Elt F .f32) → Prog (TpuEff nD τ sig (Elt F) Λ₀ .tc) α}
    {inb hl} :
    LRecv A0 L0 r c ⊢ iprop((LRecv A0 L0 r c -∗ wp frame (wpE (defs₀ (F := F)) 𝒱₀ (c : Thread nD τ) none) Set.univ (k' (lV L0 r c)) Kt)
      -∗ wp frame (wpE (defs₀ (F := F)) 𝒱₀ (c : Thread nD τ) none) Set.univ (.op (.load lM (Rect.unit (s := S4x32x8) ![0, 0, 0] S4x32x8.size inb).toLoadRect hl) k') Kt) := by
  unfold LRecv
  iintro ⟨HI, Ha, Hd⟩ Hk
  iapply l_load $$ Ha
  iintro Ha
  iapply Hk
  isplitl [HI]; · iexact HI
  isplitl [Ha]; · iexact Ha
  iexact Hd

end Adds

end Cert.KernelIdeal.Attn

end
-- ==== Proof.Talk.lean ====
/-
# The collective, part by part

The kernel's function is cut into parts; here every part of the last grid step that talks is run from what a device holds
before it to what it holds after.
-/
module

public import proofs.«01_k».proof.Proof.Chan

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

abbrev tmpM : Memref sig .tc .vmem S32x8x128 .f32 := Memref.whole cc0_scratch2

/-- The staged operands a grid step runs on. -/
structure Win where
  tab : Memref sig .tc .smem S1 .i32
  htab : tab.IsWhole
  q : Memref sig .tc .vmem S1x32x8x128 .f32
  hq : q.IsWhole
  k : Memref sig .tc .vmem S1x512x8x128 .f32
  hk : k.IsWhole
  v : Memref sig .tc .vmem S1x512x8x128 .f32
  hv : v.IsWhole
  o : Memref sig .tc .vmem S4x32x8x128 .f32
  ho : o.IsWhole

/-- A part of the kernel on the staged operands and the scratch buffers. -/
abbrev Win.on (w : Win) {β : Type 1} (f : (arg1 : Memref sig .tc .smem S1 .i32) → arg1.IsWhole → (arg2 : Memref sig .tc .vmem S1x32x8x128 .f32) → arg2.IsWhole →
    (arg3 : Memref sig .tc .vmem S1x512x8x128 .f32) → arg3.IsWhole → (arg4 : Memref sig .tc .vmem S1x512x8x128 .f32) → arg4.IsWhole →
    (arg5 : Memref sig .tc .vmem S4x32x8x128 .f32) → arg5.IsWhole → (arg6 : Memref sig .tc .vmem S1024x128 .f32) → arg6.IsWhole →
    (arg7 : Memref sig .tc .vmem S4x32x8 .f32) → arg7.IsWhole → (arg8 : Memref sig .tc .vmem S32x8x128 .f32) → arg8.IsWhole →
    (arg9 : Memref sig .tc .vmem S5x2x256x128 .f32) → arg9.IsWhole → (arg10 : Memref sig .tc .vmem S5x4x32x8 .f32) → arg10.IsWhole →
    DmaSems sig S20 → DmaSems sig S20 → DmaSems sig S5 → DmaSems sig S5 → β) : β :=
  f w.tab w.htab w.q w.hq w.k w.hk w.v w.hv w.o w.ho accM (Memref.isWhole_whole _) lM (Memref.isWhole_whole _) tmpM (Memref.isWhole_whole _)
    rbufM (Memref.isWhole_whole _) rlM (Memref.isWhole_whole _) cc0_scratch5 cc0_scratch6 cc0_scratch7 cc0_scratch8

/-- Running a program on device `c`. -/
abbrev run {α : Type} (c : Dev nD) (prog : Prog (TpuEff nD τ sig (Elt F) Λ₀ .tc) α) (Q : α → sProp 𝕄) : sProp 𝕄 :=
  wp frame (wpE (defs₀ (F := F)) 𝒱₀ (c : Thread nD τ) none) Set.univ prog Q

variable (A0 : Dev nD → S1024x128.Idx → Elt F .f32) (L0 : Dev nD → S4x32x8.Idx → Elt F .f32)

section Parts
variable (w : Win) (i : grid0.Coords) (c : Dev nD) (h3 : k0_cond3 i = 1#1)

theorem part2 (v5 v8 v9 v14) :
    iprop(owing c (copies.drop 1) ∗ RsReady A0 L0 1 0 c)
    ⊢ run c (w.on (k0_part2 (F := F) i) c v5 v8 v9 v14 h3) fun _ =>
      iprop(owing c (copies.drop 2) ∗ RsSent A0 L0 1 0 c) := by
  rw [k0_part2_eq_skeleton]
  unfold k0_part2_skel
  simp only [Prog.lift, Prog.bind_op, Prog.bind_ret, Pure.pure]
  iintro ⟨HO, HB⟩
  iapply (curS (l' := copies.drop 1) rfl (rs_send A0 L0 (copies.drop 2) (r := 0) (by decide) 1 1 rfl rfl rfl (dev7_eq c) (off11_eq c) rfl rfl rfl)) $$ HB HO
  iintro ⟨HB, HO⟩
  rw [wp_ret]
  isplitl [HO]; · iexact HO
  iexact HB

theorem part3 (v5 v8 v9 v226) :
    iprop(owing c (copies.drop 2) ∗ RsSent A0 L0 0 0 c ∗ LReady A0 L0 0 c)
    ⊢ run c (w.on (k0_part3 (F := F) i) c v5 v8 v9 h3 v226) fun x =>
      iprop(⌜∀ y, x.1 y = accV A0 1 c (accIx (num 1 0 c * 256 + (y 0).val) (y 1).val)⌝ ∗ owing c (copies.drop 3) ∗ RsRecv A0 L0 0 0 c ∗ LSent A0 L0 0 c) := by
  rw [k0_part3_eq_skeleton]
  unfold k0_part3_skel
  simp only [Prog.lift, Prog.bind_op, Prog.bind_ret, Pure.pure]
  iintro ⟨HO, HA, HL⟩
  iapply (curS (l' := copies.drop 2) rfl (l_send A0 L0 (copies.drop 3) (r := 0) (by decide) 20 rfl rfl (dev8_eq c) rfl rfl rfl)) $$ HL HO
  iintro ⟨HL, HO⟩
  iapply (cur (rs_wait_send A0 L0 (copies.drop 3) (r := 0) (by decide) 0 0 rfl rfl rfl)) $$ HA HO
  iintro ⟨HA, HO⟩
  iapply (cur (rs_wait_recv A0 L0 (copies.drop 3) (r := 0) (by decide) 0 0 rfl (by decide) rfl rfl)) $$ HA HO
  iintro ⟨HA, HO⟩
  iapply (rs_loads A0 L0 (r := 0) (by decide) 0 rfl (off12_eq 0 c) rfl) $$ HA
  iintro HA
  rw [wp_ret]
  isplitr
  · ipureintro
    exact fun y => (sum_val A0 (by decide) 0 c rfl (off12_eq 0 c) _ rfl _ squeezes_S1x1x256x128_S256x128 _ y)
  isplitl [HO]; · iexact HO
  isplitl [HA]; · iexact HA
  iexact HL

theorem part4 (v2 v8 v9 v10 v15 v226 v278 v280) (hv : ∀ y, v278 y = accV A0 1 c (accIx (num 1 0 c * 256 + (y 0).val) (y 1).val)) :
    iprop(owing c (copies.drop 3) ∗ RsRecv A0 L0 0 0 c ∗ RsSent A0 L0 1 0 c)
    ⊢ run c (w.on (k0_part4 (F := F) i) c v2 v8 v9 v10 v15 h3 v226 v278 v280) fun _ =>
      iprop(owing c (copies.drop 4) ∗ RsSent A0 L0 0 1 c ∗ RsHalf A0 L0 1 0 c) := by
  rw [k0_part4_eq_skeleton]
  unfold k0_part4_skel
  simp only [Prog.lift, Prog.bind_op, Prog.bind_ret, Pure.pure]
  iintro ⟨HO, HA, HB⟩
  iapply (rs_store A0 L0 (r := 0) (by decide) 0 rfl (off12_eq 0 c) (fun y => (congrFun (shapeCast_self _ _) y).trans (hv y))) $$ HA
  iintro HA
  iapply (curS (l' := copies.drop 3) rfl (rs_send A0 L0 (copies.drop 4) (r := 1) (by decide) 0 2 rfl rfl rfl (dev9_eq c) (off13_eq 0 c) rfl rfl rfl)) $$ HA HO
  iintro ⟨HA, HO⟩
  iapply (cur (rs_wait_send A0 L0 (copies.drop 4) (r := 0) (by decide) 1 1 rfl rfl rfl)) $$ HB HO
  iintro ⟨HB, HO⟩
  rw [wp_ret]
  isplitl [HO]; · iexact HO
  isplitl [HA]; · iexact HA
  iexact HB

theorem part5 (v2 v5 v8 v10 v15 v231 v308) :
    iprop(owing c (copies.drop 4) ∗ RsHalf A0 L0 1 0 c)
    ⊢ run c (w.on (k0_part5 (F := F) i) c v2 v5 v8 v10 v15 h3 v231 v308) fun _ =>
      iprop(owing c (copies.drop 4) ∗ RsReady A0 L0 1 1 c) := by
  rw [k0_part5_eq_skeleton]
  unfold k0_part5_skel
  simp only [Prog.lift, Prog.bind_op, Prog.bind_ret, Pure.pure]
  iintro ⟨HO, HB⟩
  iapply (cur (rs_wait_recv A0 L0 (copies.drop 4) (r := 0) (by decide) 1 1 rfl (by decide) rfl rfl)) $$ HB HO
  iintro ⟨HB, HO⟩
  iapply (rs_add A0 L0 (r := 0) (by decide) 1 rfl (off12_eq 1 c) rfl squeezes_S1x1x256x128_S256x128 (fun _ _ => rfl)) $$ HB
  iintro HB
  rw [wp_ret]
  isplitl [HO]; · iexact HO
  iexact HB

theorem part6 (v5 v8 v9) :
    iprop(owing c (copies.drop 4) ∗ RsReady A0 L0 1 1 c ∗ LSent A0 L0 0 c)
    ⊢ run c (w.on (k0_part6 (F := F) i) c v5 v8 v9 h3) fun _ =>
      iprop(owing c (copies.drop 5) ∗ RsSent A0 L0 1 1 c ∗ LReady A0 L0 1 c) := by
  rw [k0_part6_eq_skeleton]
  unfold k0_part6_skel
  simp only [Prog.lift, Prog.bind_op, Prog.bind_ret, Pure.pure]
  iintro ⟨HO, HB, HL⟩
  iapply (curS (l' := copies.drop 4) rfl (rs_send A0 L0 (copies.drop 5) (r := 1) (by decide) 1 3 rfl rfl rfl (dev10_eq c) (off13_eq 1 c) rfl rfl rfl)) $$ HB HO
  iintro ⟨HB, HO⟩
  iapply (cur (l_wait_send A0 L0 (copies.drop 5) (r := 0) (by decide) 20 rfl rfl rfl)) $$ HL HO
  iintro ⟨HL, HO⟩
  iapply (cur (l_wait_recv A0 L0 (copies.drop 5) (r := 0) (by decide) 20 rfl (by decide) rfl rfl)) $$ HL HO
  iintro ⟨HL, HO⟩
  iapply (l_load_recv A0 L0 (r := 0)) $$ HL
  iintro HL
  iapply (l_add A0 L0 (r := 0) rfl squeezes_S1x4x32x8_S4x32x8 (fun _ _ => rfl)) $$ HL
  iintro HL
  rw [wp_ret]
  isplitl [HO]; · iexact HO
  isplitl [HB]; · iexact HB
  iexact HL

theorem part7 (v2 v8 v10) :
    iprop(owing c (copies.drop 5) ∗ RsSent A0 L0 0 1 c ∗ LReady A0 L0 1 c)
    ⊢ run c (w.on (k0_part7 (F := F) i) c v2 v8 v10 h3) fun _ =>
      iprop(owing c (copies.drop 6) ∗ RsRecv A0 L0 0 1 c ∗ LSent A0 L0 1 c) := by
  rw [k0_part7_eq_skeleton]
  unfold k0_part7_skel
  simp only [Prog.lift, Prog.bind_op, Prog.bind_ret, Pure.pure]
  iintro ⟨HO, HA, HL⟩
  iapply (curS (l' := copies.drop 5) rfl (l_send A0 L0 (copies.drop 6) (r := 1) (by decide) 21 rfl rfl (dev11_eq c) rfl rfl rfl)) $$ HL HO
  iintro ⟨HL, HO⟩
  iapply (cur (rs_wait_send A0 L0 (copies.drop 6) (r := 1) (by decide) 0 2 rfl rfl rfl)) $$ HA HO
  iintro ⟨HA, HO⟩
  iapply (cur (rs_wait_recv A0 L0 (copies.drop 6) (r := 1) (by decide) 0 2 rfl (by decide) rfl rfl)) $$ HA HO
  iintro ⟨HA, HO⟩
  rw [wp_ret]
  isplitl [HO]; · iexact HO
  isplitl [HA]; · iexact HA
  iexact HL

theorem part8 (v2 v5 v11 v16 v288 c0_i32_359) :
    iprop(owing c (copies.drop 6) ∗ RsRecv A0 L0 0 1 c)
    ⊢ run c (w.on (k0_part8 (F := F) i) c v2 v5 v11 v16 h3 v288 c0_i32_359) fun _ =>
      iprop(owing c (copies.drop 7) ∗ RsSent A0 L0 0 2 c) := by
  rw [k0_part8_eq_skeleton]
  unfold k0_part8_skel
  simp only [Prog.lift, Prog.bind_op, Prog.bind_ret, Pure.pure]
  iintro ⟨HO, HA⟩
  iapply (rs_add A0 L0 (r := 1) (by decide) 0 rfl (off14_eq 0 c) rfl squeezes_S1x1x128x128_S128x128 (fun _ _ => rfl)) $$ HA
  iintro HA
  iapply (curS (l' := copies.drop 6) rfl (rs_send A0 L0 (copies.drop 7) (r := 2) (by decide) 0 4 rfl rfl rfl (dev12_eq c) (off15_eq 0 c) rfl rfl rfl)) $$ HA HO
  iintro ⟨HA, HO⟩
  rw [wp_ret]
  isplitl [HO]; · iexact HO
  iexact HA

theorem part9 (v2 v8 v10 v16 v333) :
    iprop(owing c (copies.drop 7) ∗ RsSent A0 L0 1 1 c)
    ⊢ run c (w.on (k0_part9 (F := F) i) c v2 v8 v10 v16 h3 v333) fun _ =>
      iprop(owing c (copies.drop 7) ∗ RsReady A0 L0 1 2 c) := by
  rw [k0_part9_eq_skeleton]
  unfold k0_part9_skel
  simp only [Prog.lift, Prog.bind_op, Prog.bind_ret, Pure.pure]
  iintro ⟨HO, HB⟩
  iapply (cur (rs_wait_send A0 L0 (copies.drop 7) (r := 1) (by decide) 1 3 rfl rfl rfl)) $$ HB HO
  iintro ⟨HB, HO⟩
  iapply (cur (rs_wait_recv A0 L0 (copies.drop 7) (r := 1) (by decide) 1 3 rfl (by decide) rfl rfl)) $$ HB HO
  iintro ⟨HB, HO⟩
  iapply (rs_add A0 L0 (r := 1) (by decide) 1 rfl (off14_eq 1 c) rfl squeezes_S1x1x128x128_S128x128 (fun _ _ => rfl)) $$ HB
  iintro HB
  rw [wp_ret]
  isplitl [HO]; · iexact HO
  iexact HB

theorem part10 (v2 v5 v8 v10 v11) :
    iprop(owing c (copies.drop 7) ∗ RsReady A0 L0 1 2 c ∗ LSent A0 L0 1 c)
    ⊢ run c (w.on (k0_part10 (F := F) i) c v2 v5 v8 v10 v11 h3) fun x =>
      iprop(⌜x = lV L0 1 c⌝ ∗ owing c (copies.drop 8) ∗ RsSent A0 L0 1 2 c ∗ LRecv A0 L0 1 c) := by
  rw [k0_part10_eq_skeleton]
  unfold k0_part10_skel
  simp only [Prog.lift, Prog.bind_op, Prog.bind_ret, Pure.pure]
  iintro ⟨HO, HB, HL⟩
  iapply (curS (l' := copies.drop 7) rfl (rs_send A0 L0 (copies.drop 8) (r := 2) (by decide) 1 5 rfl rfl rfl (dev13_eq c) (off15_eq 1 c) rfl rfl rfl)) $$ HB HO
  iintro ⟨HB, HO⟩
  iapply (cur (l_wait_send A0 L0 (copies.drop 8) (r := 1) (by decide) 21 rfl rfl rfl)) $$ HL HO
  iintro ⟨HL, HO⟩
  iapply (cur (l_wait_recv A0 L0 (copies.drop 8) (r := 1) (by decide) 21 rfl (by decide) rfl rfl)) $$ HL HO
  iintro ⟨HL, HO⟩
  iapply (l_load_recv A0 L0 (r := 1)) $$ HL
  iintro HL
  rw [wp_ret]
  isplitr
  · ipureintro; rfl
  isplitl [HO]; · iexact HO
  isplitl [HB]; · iexact HB
  iexact HL

theorem part11 (v2 v5 v11) :
    iprop(owing c (copies.drop 8) ∗ RsSent A0 L0 0 2 c ∗ LRecv A0 L0 1 c)
    ⊢ run c (w.on (k0_part11 (F := F) i) c v2 v5 v11 h3 (lV L0 1 c)) fun _ =>
      iprop(owing c (copies.drop 9) ∗ RsHalf A0 L0 0 2 c ∗ LSent A0 L0 2 c) := by
  rw [k0_part11_eq_skeleton]
  unfold k0_part11_skel
  simp only [Prog.lift, Prog.bind_op, Prog.bind_ret, Pure.pure]
  iintro ⟨HO, HA, HL⟩
  iapply (l_add A0 L0 (r := 1) rfl squeezes_S1x4x32x8_S4x32x8 (fun _ _ => rfl)) $$ HL
  iintro HL
  iapply (curS (l' := copies.drop 8) rfl (l_send A0 L0 (copies.drop 9) (r := 2) (by decide) 22 rfl rfl (dev14_eq c) rfl rfl rfl)) $$ HL HO
  iintro ⟨HL, HO⟩
  iapply (cur (rs_wait_send A0 L0 (copies.drop 9) (r := 2) (by decide) 0 4 rfl rfl rfl)) $$ HA HO
  iintro ⟨HA, HO⟩
  rw [wp_ret]
  isplitl [HO]; · iexact HO
  isplitl [HA]; · iexact HA
  iexact HL

theorem part12 (v2 v8 v11 v12 v34 v411 v509 v510) :
    iprop(owing c (copies.drop 9) ∗ RsHalf A0 L0 0 2 c)
    ⊢ run c (w.on (k0_part12 (F := F) i) c v2 v8 v11 v12 v34 h3 v411 v509 v510) fun _ =>
      iprop(owing c (copies.drop 9) ∗ RsReady A0 L0 0 3 c) := by
  rw [k0_part12_eq_skeleton]
  unfold k0_part12_skel
  simp only [Prog.lift, Prog.bind_op, Prog.bind_ret, Pure.pure]
  iintro ⟨HO, HA⟩
  iapply (cur (rs_wait_recv A0 L0 (copies.drop 9) (r := 2) (by decide) 0 4 rfl (by decide) rfl rfl)) $$ HA HO
  iintro ⟨HA, HO⟩
  iapply (rs_add A0 L0 (r := 2) (by decide) 0 rfl (off16_eq 0 c) rfl squeezes_S1x1x64x128_S64x128 (fun _ _ => rfl)) $$ HA
  iintro HA
  rw [wp_ret]
  isplitl [HO]; · iexact HO
  iexact HA

theorem part13 (v2 v5 v11 v456) :
    iprop(owing c (copies.drop 9) ∗ RsReady A0 L0 0 3 c ∗ RsSent A0 L0 1 2 c)
    ⊢ run c (w.on (k0_part13 (F := F) i) c v2 v5 v11 h3 v456) fun x =>
      iprop(⌜∀ y, x y = accV A0 3 c (accIx (num 3 1 c * 64 + (y 0).val) (y 1).val)⌝ ∗ owing c (copies.drop 10) ∗ RsSent A0 L0 0 3 c ∗ RsRecv A0 L0 1 2 c) := by
  rw [k0_part13_eq_skeleton]
  unfold k0_part13_skel
  simp only [Prog.lift, Prog.bind_op, Prog.bind_ret, Pure.pure]
  iintro ⟨HO, HA, HB⟩
  iapply (curS (l' := copies.drop 9) rfl (rs_send A0 L0 (copies.drop 10) (r := 3) (by decide) 0 6 rfl rfl rfl (dev15_eq c) (off17_eq 0 c) rfl rfl rfl)) $$ HA HO
  iintro ⟨HA, HO⟩
  iapply (cur (rs_wait_send A0 L0 (copies.drop 10) (r := 2) (by decide) 1 5 rfl rfl rfl)) $$ HB HO
  iintro ⟨HB, HO⟩
  iapply (cur (rs_wait_recv A0 L0 (copies.drop 10) (r := 2) (by decide) 1 5 rfl (by decide) rfl rfl)) $$ HB HO
  iintro ⟨HB, HO⟩
  iapply (rs_loads A0 L0 (r := 2) (by decide) 1 rfl (off16_eq 1 c) rfl) $$ HB
  iintro HB
  rw [wp_ret]
  isplitr
  · ipureintro
    exact fun y => (congrFun (shapeCast_self _ _) y).trans (sum_val A0 (by decide) 1 c rfl (off16_eq 1 c) _ rfl _ squeezes_S1x1x64x128_S64x128 _ y)
  isplitl [HO]; · iexact HO
  isplitl [HA]; · iexact HA
  iexact HB

theorem part14 (v2 v5 v8 v11 v12 v34 v456 v573) (hv : ∀ y, v573 y = accV A0 3 c (accIx (num 3 1 c * 64 + (y 0).val) (y 1).val)) :
    iprop(owing c (copies.drop 10) ∗ RsRecv A0 L0 1 2 c ∗ LSent A0 L0 2 c)
    ⊢ run c (w.on (k0_part14 (F := F) i) c v2 v5 v8 v11 v12 v34 h3 v456 v573) fun _ =>
      iprop(owing c (copies.drop 11) ∗ RsSent A0 L0 1 3 c ∗ LHalf A0 L0 2 c) := by
  rw [k0_part14_eq_skeleton]
  unfold k0_part14_skel
  simp only [Prog.lift, Prog.bind_op, Prog.bind_ret, Pure.pure]
  iintro ⟨HO, HB, HL⟩
  iapply (rs_store A0 L0 (r := 2) (by decide) 1 rfl (off16_eq 1 c) hv) $$ HB
  iintro HB
  iapply (curS (l' := copies.drop 10) rfl (rs_send A0 L0 (copies.drop 11) (r := 3) (by decide) 1 7 rfl rfl rfl (dev16_eq c) (off17_eq 1 c) rfl rfl rfl)) $$ HB HO
  iintro ⟨HB, HO⟩
  iapply (cur (l_wait_send A0 L0 (copies.drop 11) (r := 2) (by decide) 22 rfl rfl rfl)) $$ HL HO
  iintro ⟨HL, HO⟩
  rw [wp_ret]
  isplitl [HO]; · iexact HO
  isplitl [HB]; · iexact HB
  iexact HL

theorem part15 (v2 v8 v12 v600 v601) :
    iprop(owing c (copies.drop 11) ∗ LHalf A0 L0 2 c)
    ⊢ run c (w.on (k0_part15 (F := F) i) c v2 v8 v12 h3 v600 v601) fun _ =>
      iprop(owing c (copies.drop 12) ∗ LSent A0 L0 3 c) := by
  rw [k0_part15_eq_skeleton]
  unfold k0_part15_skel
  simp only [Prog.lift, Prog.bind_op, Prog.bind_ret, Pure.pure]
  iintro ⟨HO, HL⟩
  iapply (cur (l_wait_recv A0 L0 (copies.drop 11) (r := 2) (by decide) 22 rfl (by decide) rfl rfl)) $$ HL HO
  iintro ⟨HL, HO⟩
  iapply (l_load_recv A0 L0 (r := 2)) $$ HL
  iintro HL
  iapply (l_add A0 L0 (r := 2) rfl squeezes_S1x4x32x8_S4x32x8 (fun _ _ => rfl)) $$ HL
  iintro HL
  iapply (curS (l' := copies.drop 11) rfl (l_send A0 L0 (copies.drop 12) (r := 3) (by decide) 23 rfl rfl (dev17_eq c) rfl rfl rfl)) $$ HL HO
  iintro ⟨HL, HO⟩
  rw [wp_ret]
  isplitl [HO]; · iexact HO
  iexact HL

theorem part16 (v2 v8 v12 v52 v534) :
    iprop(owing c (copies.drop 12) ∗ RsSent A0 L0 0 3 c)
    ⊢ run c (w.on (k0_part16 (F := F) i) c v2 v8 v12 v52 h3 v534) fun _ =>
      iprop(owing c (copies.drop 12) ∗ RsReady A0 L0 0 4 c) := by
  rw [k0_part16_eq_skeleton]
  unfold k0_part16_skel
  simp only [Prog.lift, Prog.bind_op, Prog.bind_ret, Pure.pure]
  iintro ⟨HO, HA⟩
  iapply (cur (rs_wait_send A0 L0 (copies.drop 12) (r := 3) (by decide) 0 6 rfl rfl rfl)) $$ HA HO
  iintro ⟨HA, HO⟩
  iapply (cur (rs_wait_recv A0 L0 (copies.drop 12) (r := 3) (by decide) 0 6 rfl (by decide) rfl rfl)) $$ HA HO
  iintro ⟨HA, HO⟩
  iapply (rs_add A0 L0 (r := 3) (by decide) 0 rfl (off18_eq 0 c) rfl squeezes_S1x1x32x128_S32x128 (fun _ _ => rfl)) $$ HA
  iintro HA
  rw [wp_ret]
  isplitl [HO]; · iexact HO
  iexact HA

theorem part17 (v2 v5 v8 v12 v13 v579 c16_i32_608) :
    iprop(owing c (copies.drop 12) ∗ RsReady A0 L0 0 4 c ∗ RsSent A0 L0 1 3 c)
    ⊢ run c (w.on (k0_part17 (F := F) i) c v2 v5 v8 v12 v13 h3 v579 c16_i32_608) fun _ =>
      iprop(owing c (copies.drop 13) ∗ RsSent A0 L0 0 4 c ∗ RsRecv A0 L0 1 3 c) := by
  rw [k0_part17_eq_skeleton]
  unfold k0_part17_skel
  simp only [Prog.lift, Prog.bind_op, Prog.bind_ret, Pure.pure]
  iintro ⟨HO, HA, HB⟩
  iapply (curS (l' := copies.drop 12) rfl (rs_send A0 L0 (copies.drop 13) (r := 4) (by decide) 0 8 rfl rfl rfl (dev18_eq c) (off19_eq 0 c) rfl rfl rfl)) $$ HA HO
  iintro ⟨HA, HO⟩
  iapply (cur (rs_wait_send A0 L0 (copies.drop 13) (r := 3) (by decide) 1 7 rfl rfl rfl)) $$ HB HO
  iintro ⟨HB, HO⟩
  iapply (cur (rs_wait_recv A0 L0 (copies.drop 13) (r := 3) (by decide) 1 7 rfl (by decide) rfl rfl)) $$ HB HO
  iintro ⟨HB, HO⟩
  rw [wp_ret]
  isplitl [HO]; · iexact HO
  isplitl [HA]; · iexact HA
  iexact HB

theorem part18 (v2 v5 v13 v52 v579 v687) :
    iprop(owing c (copies.drop 13) ∗ RsRecv A0 L0 1 3 c)
    ⊢ run c (w.on (k0_part18 (F := F) i) c v2 v5 v13 v52 h3 v579 v687) fun _ =>
      iprop(owing c (copies.drop 14) ∗ RsSent A0 L0 1 4 c) := by
  rw [k0_part18_eq_skeleton]
  unfold k0_part18_skel
  simp only [Prog.lift, Prog.bind_op, Prog.bind_ret, Pure.pure]
  iintro ⟨HO, HB⟩
  iapply (rs_add A0 L0 (r := 3) (by decide) 1 rfl (off18_eq 1 c) rfl squeezes_S1x1x32x128_S32x128 (fun _ _ => rfl)) $$ HB
  iintro HB
  iapply (curS (l' := copies.drop 13) rfl (rs_send A0 L0 (copies.drop 14) (r := 4) (by decide) 1 9 rfl rfl rfl (dev19_eq c) (off19_eq 1 c) rfl rfl rfl)) $$ HB HO
  iintro ⟨HB, HO⟩
  rw [wp_ret]
  isplitl [HO]; · iexact HO
  iexact HB

theorem part19 (v2 v5 v8 v12 v13) :
    iprop(owing c (copies.drop 14) ∗ LSent A0 L0 3 c)
    ⊢ run c (w.on (k0_part19 (F := F) i) v2 v5 v8 v12 v13) fun _ =>
      iprop(owing c (copies.drop 14) ∗ LReady A0 L0 4 c) := by
  rw [k0_part19_eq_skeleton]
  unfold k0_part19_skel
  simp only [Prog.lift, Prog.bind_op, Prog.bind_ret, Pure.pure]
  iintro ⟨HO, HL⟩
  iapply (cur (l_wait_send A0 L0 (copies.drop 14) (r := 3) (by decide) 23 rfl rfl rfl)) $$ HL HO
  iintro ⟨HL, HO⟩
  iapply (cur (l_wait_recv A0 L0 (copies.drop 14) (r := 3) (by decide) 23 rfl (by decide) rfl rfl)) $$ HL HO
  iintro ⟨HL, HO⟩
  iapply (l_load_recv A0 L0 (r := 3)) $$ HL
  iintro HL
  iapply (l_add A0 L0 (r := 3) rfl squeezes_S1x4x32x8_S4x32x8 (fun _ _ => rfl)) $$ HL
  iintro HL
  rw [wp_ret]
  isplitl [HO]; · iexact HO
  iexact HL

theorem part20 (v2 v5 v13 v657) :
    iprop(owing c (copies.drop 14) ∗ RsSent A0 L0 0 4 c ∗ LReady A0 L0 4 c)
    ⊢ run c (w.on (k0_part20 (F := F) i) c v2 v5 v13 h3 v657) fun _ =>
      iprop(owing c (copies.drop 15) ∗ RsReady A0 L0 0 5 c ∗ LSent A0 L0 4 c) := by
  rw [k0_part20_eq_skeleton]
  unfold k0_part20_skel
  simp only [Prog.lift, Prog.bind_op, Prog.bind_ret, Pure.pure]
  iintro ⟨HO, HA, HL⟩
  iapply (curS (l' := copies.drop 14) rfl (l_send A0 L0 (copies.drop 15) (r := 4) (by decide) 24 rfl rfl (dev20_eq c) rfl rfl rfl)) $$ HL HO
  iintro ⟨HL, HO⟩
  iapply (cur (rs_wait_send A0 L0 (copies.drop 15) (r := 4) (by decide) 0 8 rfl rfl rfl)) $$ HA HO
  iintro ⟨HA, HO⟩
  iapply (cur (rs_wait_recv A0 L0 (copies.drop 15) (r := 4) (by decide) 0 8 rfl (by decide) rfl rfl)) $$ HA HO
  iintro ⟨HA, HO⟩
  iapply (rs_add A0 L0 (r := 4) (by decide) 0 rfl (off20_eq 0 c) rfl squeezes_S1x1x16x128_S16x128 (fun _ _ => rfl)) $$ HA
  iintro HA
  rw [wp_ret]
  isplitl [HO]; · iexact HO
  isplitl [HA]; · iexact HA
  iexact HL

theorem part21 (v2 v5 v13 v52 v657 c0_i32_718) :
    iprop(owing c (copies.drop 15) ∗ RsReady A0 L0 0 5 c ∗ RsSent A0 L0 1 4 c)
    ⊢ run c (w.on (k0_part21 (F := F) i) c v2 v5 v13 v52 h3 v657 c0_i32_718) fun _ =>
      iprop(owing c (copies.drop 16) ∗ AgSent A0 L0 0 5 c ∗ RsHalf A0 L0 1 4 c) := by
  rw [k0_part21_eq_skeleton]
  unfold k0_part21_skel
  simp only [Prog.lift, Prog.bind_op, Prog.bind_ret, Pure.pure]
  iintro ⟨HO, HA, HB⟩
  ihave HA := rs_ag A0 L0 0 c $$ HA
  iapply (curS (l' := copies.drop 15) rfl (ag_send A0 L0 (copies.drop 16) (i := 5) (by decide) (by decide) 0 10 rfl rfl (dev21_eq c) (off21_eq 0 c) rfl rfl rfl)) $$ HA HO
  iintro ⟨HA, HO⟩
  iapply (cur (rs_wait_send A0 L0 (copies.drop 16) (r := 4) (by decide) 1 9 rfl rfl rfl)) $$ HB HO
  iintro ⟨HB, HO⟩
  rw [wp_ret]
  isplitl [HO]; · iexact HO
  isplitl [HA]; · iexact HA
  iexact HB

theorem part22 (v2 v5 v13 v52 v702) :
    iprop(owing c (copies.drop 16) ∗ RsHalf A0 L0 1 4 c)
    ⊢ run c (w.on (k0_part22 (F := F) i) c v2 v5 v13 v52 h3 v702) fun _ =>
      iprop(owing c (copies.drop 17) ∗ AgSent A0 L0 1 5 c) := by
  rw [k0_part22_eq_skeleton]
  unfold k0_part22_skel
  simp only [Prog.lift, Prog.bind_op, Prog.bind_ret, Pure.pure]
  iintro ⟨HO, HB⟩
  iapply (cur (rs_wait_recv A0 L0 (copies.drop 16) (r := 4) (by decide) 1 9 rfl (by decide) rfl rfl)) $$ HB HO
  iintro ⟨HB, HO⟩
  iapply (rs_add A0 L0 (r := 4) (by decide) 1 rfl (off20_eq 1 c) rfl squeezes_S1x1x16x128_S16x128 (fun _ _ => rfl)) $$ HB
  iintro HB
  ihave HB := rs_ag A0 L0 1 c $$ HB
  iapply (curS (l' := copies.drop 16) rfl (ag_send A0 L0 (copies.drop 17) (i := 5) (by decide) (by decide) 1 11 rfl rfl (dev22_eq c) (off21_eq 1 c) rfl rfl rfl)) $$ HB HO
  iintro ⟨HB, HO⟩
  rw [wp_ret]
  isplitl [HO]; · iexact HO
  iexact HB

theorem part23 (v2 v5 v13) :
    iprop(owing c (copies.drop 17) ∗ AgSent A0 L0 0 5 c ∗ LSent A0 L0 4 c)
    ⊢ run c (w.on (k0_part23 (F := F) i) c v2 v5 v13 h3) fun _ =>
      iprop(owing c (copies.drop 17) ∗ AgHalf A0 L0 0 5 c ∗ LReady A0 L0 5 c) := by
  rw [k0_part23_eq_skeleton]
  unfold k0_part23_skel
  simp only [Prog.lift, Prog.bind_op, Prog.bind_ret, Pure.pure]
  iintro ⟨HO, HA, HL⟩
  iapply (cur (l_wait_send A0 L0 (copies.drop 17) (r := 4) (by decide) 24 rfl rfl rfl)) $$ HL HO
  iintro ⟨HL, HO⟩
  iapply (cur (l_wait_recv A0 L0 (copies.drop 17) (r := 4) (by decide) 24 rfl (by decide) rfl rfl)) $$ HL HO
  iintro ⟨HL, HO⟩
  iapply (l_load_recv A0 L0 (r := 4)) $$ HL
  iintro HL
  iapply (l_add A0 L0 (r := 4) rfl squeezes_S1x4x32x8_S4x32x8 (fun _ _ => rfl)) $$ HL
  iintro HL
  iapply (cur (ag_wait_send A0 L0 (copies.drop 17) (i := 5) (by decide) (by decide) 0 10 rfl rfl rfl)) $$ HA HO
  iintro ⟨HA, HO⟩
  rw [wp_ret]
  isplitl [HO]; · iexact HO
  isplitl [HA]; · iexact HA
  iexact HL

theorem part24 (v2 v5 v8 v12 v13 v34 v778 v861) :
    iprop(owing c (copies.drop 17) ∗ AgHalf A0 L0 0 5 c ∗ AgSent A0 L0 1 5 c)
    ⊢ run c (w.on (k0_part24 (F := F) i) c v2 v5 v8 v12 v13 v34 h3 v778 v861) fun _ =>
      iprop(owing c (copies.drop 18) ∗ AgSent A0 L0 0 6 c ∗ AgHalf A0 L0 1 5 c) := by
  rw [k0_part24_eq_skeleton]
  unfold k0_part24_skel
  simp only [Prog.lift, Prog.bind_op, Prog.bind_ret, Pure.pure]
  iintro ⟨HO, HA, HB⟩
  iapply (cur (ag_wait_recv A0 L0 (copies.drop 17) (i := 5) (by decide) (by decide) 0 10 rfl (by decide) rfl rfl)) $$ HA HO
  iintro ⟨HA, HO⟩
  iapply (curS (l' := copies.drop 17) rfl (ag_send A0 L0 (copies.drop 18) (i := 6) (by decide) (by decide) 0 12 rfl rfl (dev23_eq c) (off22_eq 0 c) rfl rfl rfl)) $$ HA HO
  iintro ⟨HA, HO⟩
  iapply (cur (ag_wait_send A0 L0 (copies.drop 18) (i := 5) (by decide) (by decide) 1 11 rfl rfl rfl)) $$ HB HO
  iintro ⟨HB, HO⟩
  rw [wp_ret]
  isplitl [HO]; · iexact HO
  isplitl [HA]; · iexact HA
  iexact HB

theorem part25 (v2 v8 v12 v34 v820) :
    iprop(owing c (copies.drop 18) ∗ AgSent A0 L0 0 6 c ∗ AgHalf A0 L0 1 5 c)
    ⊢ run c (w.on (k0_part25 (F := F) i) c v2 v8 v12 v34 h3 v820) fun _ =>
      iprop(owing c (copies.drop 19) ∗ AgHalf A0 L0 0 6 c ∗ AgSent A0 L0 1 6 c) := by
  rw [k0_part25_eq_skeleton]
  unfold k0_part25_skel
  simp only [Prog.lift, Prog.bind_op, Prog.bind_ret, Pure.pure]
  iintro ⟨HO, HA, HB⟩
  iapply (cur (ag_wait_recv A0 L0 (copies.drop 18) (i := 5) (by decide) (by decide) 1 11 rfl (by decide) rfl rfl)) $$ HB HO
  iintro ⟨HB, HO⟩
  iapply (curS (l' := copies.drop 18) rfl (ag_send A0 L0 (copies.drop 19) (i := 6) (by decide) (by decide) 1 13 rfl rfl (dev24_eq c) (off22_eq 1 c) rfl rfl rfl)) $$ HB HO
  iintro ⟨HB, HO⟩
  iapply (cur (ag_wait_send A0 L0 (copies.drop 19) (i := 6) (by decide) (by decide) 0 12 rfl rfl rfl)) $$ HA HO
  iintro ⟨HA, HO⟩
  rw [wp_ret]
  isplitl [HO]; · iexact HO
  isplitl [HA]; · iexact HA
  iexact HB

theorem part26 (v2 v5 v8 v11 v12 v16 v871) :
    iprop(owing c (copies.drop 19) ∗ AgHalf A0 L0 0 6 c ∗ AgSent A0 L0 1 6 c)
    ⊢ run c (w.on (k0_part26 (F := F) i) c v2 v5 v8 v11 v12 v16 h3 v871) fun _ =>
      iprop(owing c (copies.drop 20) ∗ AgSent A0 L0 0 7 c ∗ AgHalf A0 L0 1 6 c) := by
  rw [k0_part26_eq_skeleton]
  unfold k0_part26_skel
  simp only [Prog.lift, Prog.bind_op, Prog.bind_ret, Pure.pure]
  iintro ⟨HO, HA, HB⟩
  iapply (cur (ag_wait_recv A0 L0 (copies.drop 19) (i := 6) (by decide) (by decide) 0 12 rfl (by decide) rfl rfl)) $$ HA HO
  iintro ⟨HA, HO⟩
  iapply (curS (l' := copies.drop 19) rfl (ag_send A0 L0 (copies.drop 20) (i := 7) (by decide) (by decide) 0 14 rfl rfl (dev25_eq c) (off23_eq 0 c) rfl rfl rfl)) $$ HA HO
  iintro ⟨HA, HO⟩
  iapply (cur (ag_wait_send A0 L0 (copies.drop 20) (i := 6) (by decide) (by decide) 1 13 rfl rfl rfl)) $$ HB HO
  iintro ⟨HB, HO⟩
  rw [wp_ret]
  isplitl [HO]; · iexact HO
  isplitl [HA]; · iexact HA
  iexact HB

theorem part27 (v2 v5 v11 v16 v901 v931) :
    iprop(owing c (copies.drop 20) ∗ AgSent A0 L0 0 7 c ∗ AgHalf A0 L0 1 6 c)
    ⊢ run c (w.on (k0_part27 (F := F) i) c v2 v5 v11 v16 h3 v901 v931) fun _ =>
      iprop(owing c (copies.drop 21) ∗ AgReady A0 L0 0 8 c ∗ AgSent A0 L0 1 7 c) := by
  rw [k0_part27_eq_skeleton]
  unfold k0_part27_skel
  simp only [Prog.lift, Prog.bind_op, Prog.bind_ret, Pure.pure]
  iintro ⟨HO, HA, HB⟩
  iapply (cur (ag_wait_recv A0 L0 (copies.drop 20) (i := 6) (by decide) (by decide) 1 13 rfl (by decide) rfl rfl)) $$ HB HO
  iintro ⟨HB, HO⟩
  iapply (curS (l' := copies.drop 20) rfl (ag_send A0 L0 (copies.drop 21) (i := 7) (by decide) (by decide) 1 15 rfl rfl (dev26_eq c) (off23_eq 1 c) rfl rfl rfl)) $$ HB HO
  iintro ⟨HB, HO⟩
  iapply (cur (ag_wait_send A0 L0 (copies.drop 21) (i := 7) (by decide) (by decide) 0 14 rfl rfl rfl)) $$ HA HO
  iintro ⟨HA, HO⟩
  iapply (cur (ag_wait_recv A0 L0 (copies.drop 21) (i := 7) (by decide) (by decide) 0 14 rfl (by decide) rfl rfl)) $$ HA HO
  iintro ⟨HA, HO⟩
  rw [wp_ret]
  isplitl [HO]; · iexact HO
  isplitl [HA]; · iexact HA
  iexact HB

theorem part28 (v2 v5 v8 v10 v11 v15 v931 v961) :
    iprop(owing c (copies.drop 21) ∗ AgReady A0 L0 0 8 c ∗ AgSent A0 L0 1 7 c)
    ⊢ run c (w.on (k0_part28 (F := F) i) c v2 v5 v8 v10 v11 v15 h3 v931 v961) fun _ =>
      iprop(owing c (copies.drop 22) ∗ AgSent A0 L0 0 8 c ∗ AgReady A0 L0 1 8 c) := by
  rw [k0_part28_eq_skeleton]
  unfold k0_part28_skel
  simp only [Prog.lift, Prog.bind_op, Prog.bind_ret, Pure.pure]
  iintro ⟨HO, HA, HB⟩
  iapply (curS (l' := copies.drop 21) rfl (ag_send A0 L0 (copies.drop 22) (i := 8) (by decide) (by decide) 0 16 rfl rfl (dev27_eq c) (off24_eq 0 c) rfl rfl rfl)) $$ HA HO
  iintro ⟨HA, HO⟩
  iapply (cur (ag_wait_send A0 L0 (copies.drop 22) (i := 7) (by decide) (by decide) 1 15 rfl rfl rfl)) $$ HB HO
  iintro ⟨HB, HO⟩
  iapply (cur (ag_wait_recv A0 L0 (copies.drop 22) (i := 7) (by decide) (by decide) 1 15 rfl (by decide) rfl rfl)) $$ HB HO
  iintro ⟨HB, HO⟩
  rw [wp_ret]
  isplitl [HO]; · iexact HO
  isplitl [HA]; · iexact HA
  iexact HB

theorem part29 (v2 v8 v9 v10 v15 v961 v991 c128_i32_922) :
    iprop(owing c (copies.drop 22) ∗ AgSent A0 L0 0 8 c ∗ AgReady A0 L0 1 8 c)
    ⊢ run c (w.on (k0_part29 (F := F) i) c v2 v8 v9 v10 v15 h3 v961 v991 c128_i32_922) fun _ =>
      iprop(owing c (copies.drop 23) ∗ AgReady A0 L0 0 9 c ∗ AgSent A0 L0 1 8 c) := by
  rw [k0_part29_eq_skeleton]
  unfold k0_part29_skel
  simp only [Prog.lift, Prog.bind_op, Prog.bind_ret, Pure.pure]
  iintro ⟨HO, HA, HB⟩
  iapply (curS (l' := copies.drop 22) rfl (ag_send A0 L0 (copies.drop 23) (i := 8) (by decide) (by decide) 1 17 rfl rfl (dev28_eq c) (off24_eq 1 c) rfl rfl rfl)) $$ HB HO
  iintro ⟨HB, HO⟩
  iapply (cur (ag_wait_send A0 L0 (copies.drop 23) (i := 8) (by decide) (by decide) 0 16 rfl rfl rfl)) $$ HA HO
  iintro ⟨HA, HO⟩
  iapply (cur (ag_wait_recv A0 L0 (copies.drop 23) (i := 8) (by decide) (by decide) 0 16 rfl (by decide) rfl rfl)) $$ HA HO
  iintro ⟨HA, HO⟩
  rw [wp_ret]
  isplitl [HO]; · iexact HO
  isplitl [HA]; · iexact HA
  iexact HB

theorem part30 (v2 v5 v8 v9 v10 v1021 v1050) :
    iprop(owing c (copies.drop 23) ∗ AgReady A0 L0 0 9 c ∗ AgSent A0 L0 1 8 c)
    ⊢ run c (w.on (k0_part30 (F := F) i) c v2 v5 v8 v9 v10 h3 v1021 v1050) fun _ =>
      iprop(owing c (copies.drop 24) ∗ AgSent A0 L0 0 9 c ∗ AgReady A0 L0 1 9 c) := by
  rw [k0_part30_eq_skeleton]
  unfold k0_part30_skel
  simp only [Prog.lift, Prog.bind_op, Prog.bind_ret, Pure.pure]
  iintro ⟨HO, HA, HB⟩
  iapply (curS (l' := copies.drop 23) rfl (ag_send A0 L0 (copies.drop 24) (i := 9) (by decide) (by decide) 0 18 rfl rfl (dev29_eq c) (off25_eq 0 c) rfl rfl rfl)) $$ HA HO
  iintro ⟨HA, HO⟩
  iapply (cur (ag_wait_send A0 L0 (copies.drop 24) (i := 8) (by decide) (by decide) 1 17 rfl rfl rfl)) $$ HB HO
  iintro ⟨HB, HO⟩
  iapply (cur (ag_wait_recv A0 L0 (copies.drop 24) (i := 8) (by decide) (by decide) 1 17 rfl (by decide) rfl rfl)) $$ HB HO
  iintro ⟨HB, HO⟩
  rw [wp_ret]
  isplitl [HO]; · iexact HO
  isplitl [HA]; · iexact HA
  iexact HB

theorem part31 (v5 v8 v9 v1081 c1_i32_971) :
    iprop(owing c (copies.drop 24) ∗ AgSent A0 L0 0 9 c ∗ AgReady A0 L0 1 9 c)
    ⊢ run c (w.on (k0_part31 (F := F) i) c v5 v8 v9 h3 v1081 c1_i32_971) fun _ =>
      iprop(owing c (copies.drop 25) ∗ AgReady A0 L0 0 10 c ∗ AgHalf A0 L0 1 9 c) := by
  rw [k0_part31_eq_skeleton]
  unfold k0_part31_skel
  simp only [Prog.lift, Prog.bind_op, Prog.bind_ret, Pure.pure]
  iintro ⟨HO, HA, HB⟩
  iapply (curS (l' := copies.drop 24) rfl (ag_send A0 L0 (copies.drop 25) (i := 9) (by decide) (by decide) 1 19 rfl rfl (dev30_eq c) (off25_eq 1 c) rfl rfl rfl)) $$ HB HO
  iintro ⟨HB, HO⟩
  iapply (cur (ag_wait_send A0 L0 (copies.drop 25) (i := 9) (by decide) (by decide) 0 18 rfl rfl rfl)) $$ HA HO
  iintro ⟨HA, HO⟩
  iapply (cur (ag_wait_recv A0 L0 (copies.drop 25) (i := 9) (by decide) (by decide) 0 18 rfl (by decide) rfl rfl)) $$ HA HO
  iintro ⟨HA, HO⟩
  iapply (cur (ag_wait_send A0 L0 (copies.drop 25) (i := 9) (by decide) (by decide) 1 19 rfl rfl rfl)) $$ HB HO
  iintro ⟨HB, HO⟩
  rw [wp_ret]
  isplitl [HO]; · iexact HO
  isplitl [HA]; · iexact HA
  iexact HB

end Parts

end Cert.KernelIdeal.Attn

end
-- ==== Proof.Local.lean ====
/-
# The part of a grid step before the talk: one head at a time

A grid step reads its staged queries, keys and values head by head, and leaves the head's row sums in the row-sum buffer and its
weighted values in a temporary one. Here: what the two buffers hold after the heads done so far, and the loads and stores.
-/
module

public import proofs.«01_k».proof.Proof.Talk

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

/-- Running a program and then another. -/
theorem bindStep {α β : Type} {P : sProp 𝕄} {c : Dev nD} {e : Prog (TpuEff nD τ sig (Elt F) Λ₀ .tc) α} {Q : α → sProp 𝕄}
    (h : P ⊢ run c e Q) {k : α → Prog (TpuEff nD τ sig (Elt F) Λ₀ .tc) β} {Kt : β → sProp 𝕄} :
    P ⊢ iprop((∀ x, Q x -∗ run c (k x) Kt) -∗ run c (e >>= k) Kt) := by
  unfold run
  rw [wp_bind]
  iintro HP Hk
  iapply (wp_wand _ _) $$ [HP]
  · iapply h; iexact HP
  iexact Hk

theorem run_ret {α : Type} {c : Dev nD} {a : α} {Q : α → sProp 𝕄} : Q a ⊢ run c (.ret a) Q := le_wp_ret _ _ _ a Q

/-! ## The values of a head -/

/-- Head `h` of a staged block of `n` rows. -/
def slab (n h : ℕ) (X : (⟨4, ![1, n, 8, 128]⟩ : Shape).Idx → Elt F .f32) (y : (⟨4, ![1, n, 1, 128]⟩ : Shape).Idx) : Elt F .f32 :=
  X (ix4 (n0 := 1) (n1 := n) (n2 := 8) (n3 := 128) (y 0) (y 1) (Fin.ofNat 8 h) (y 3))

/-- The queries, keys and values a device's four grid steps run on. -/
structure Blocks (F : FTy → Type) where
  q : Dev nD → ℕ → S1x32x8x128.Idx → Elt F .f32
  k : Dev nD → ℕ → S1x512x8x128.Idx → Elt F .f32
  v : Dev nD → ℕ → S1x512x8x128.Idx → Elt F .f32

/-- The row sums of every step and head. -/
def Blocks.L0 (B : Blocks F) (c : Dev nD) (x : S4x32x8.Idx) : Elt F .f32 :=
  k0_pay26 (F := F) (slab 32 (x 2).val (B.q c (x 0).val)) (slab 512 (x 2).val (B.k c (x 0).val))
    (ix3 (n0 := 1) (n1 := 32) (n2 := 1) 0 (x 1) 0)

/-- The weighted values of step `t`, every head. -/
def Blocks.T0 (B : Blocks F) (c : Dev nD) (t : ℕ) (x : S32x8x128.Idx) : Elt F .f32 :=
  k0_pay27 (F := F) (slab 32 (x 1).val (B.q c t)) (slab 512 (x 1).val (B.k c t)) (slab 512 (x 1).val (B.v c t))
    (ix3 (n0 := 32) (n1 := 1) (n2 := 128) (x 0) 0 (x 2))

/-- The accumulator after the four steps: step `t`'s weighted values in rows `256 t` on. -/
def Blocks.A0 (B : Blocks F) (c : Dev nD) (i : S1024x128.Idx) : Elt F .f32 :=
  k0_pay2 (F := F) (B.T0 c ((i 0).val / 256)) (ix2 (n0 := 256) (n1 := 128) (Fin.ofNat 256 (i 0).val) (i 1))

/-! ## Loads of a head -/

theorem win_load {α : Type} {Kt : α → sProp 𝕄} {n h : ℕ} (hh : h < 8) {m : Memref sig .tc .vmem ⟨4, ![1, n, 8, 128]⟩ .f32} {c : Dev nD} {q : PosShare TreeShare}
    {X : (⟨4, ![1, n, 8, 128]⟩ : Shape).Idx → Elt F .f32} {inb hl}
    {k' : ((⟨4, ![1, n, 1, 128]⟩ : Shape).Idx → Elt F .f32) → Prog (TpuEff nD τ sig (Elt F) Λ₀ .tc) α} :
    owns (c : Thread nD τ) m q X ⊢ iprop((owns (c : Thread nD τ) m q X -∗ run c (k' (slab n h X)) Kt)
      -∗ run c (.op (.load m (Rect.unit (s := ⟨4, ![1, n, 8, 128]⟩) ![0, 0, h, 0] ![1, n, 1, 128] inb).toLoadRect hl) k') Kt) := by
  unfold owns
  iintro ⟨%f, %hf, H⟩ Hk
  subst hf
  have e : m.view.readAt (Elt F) (Rect.unit (s := ⟨4, ![1, n, 8, 128]⟩) ![0, 0, h, 0] ![1, n, 1, 128] inb).toLoadRect f
      = slab n h (m.view.read (Elt F) f) := by
    funext y
    refine congrArg (m.view.read (Elt F) f) ?_
    funext a
    rcases a with ⟨_ | _ | _ | _ | a, ha⟩
    · exact Fin.ext ((unit_val _ _ inb y (0 : Fin 4)).trans (Nat.zero_add _))
    · exact Fin.ext ((unit_val _ _ inb y (1 : Fin 4)).trans (Nat.zero_add _))
    · have : (y 2).val < 1 := (y 2).isLt
      refine Fin.ext ((unit_val _ _ inb y (2 : Fin 4)).trans ?_)
      show h + (y 2).val = h % 8
      omega
    · exact Fin.ext ((unit_val _ _ inb y (3 : Fin 4)).trans (Nat.zero_add _))
    · exact absurd ha (by simp)
  have hw : (m.view.loc (c : Thread nD τ) ↦[m.view.set]{q} f) ⊢ iprop(((m.view.loc (c : Thread nD τ) ↦[m.view.set]{q} f)
        -∗ run c (k' (m.view.readAt (Elt F) (Rect.unit (s := ⟨4, ![1, n, 8, 128]⟩) ![0, 0, h, 0] ![1, n, 1, 128] inb).toLoadRect f)) Kt)
      -∗ run c (.op (.load m (Rect.unit (s := ⟨4, ![1, n, 8, 128]⟩) ![0, 0, h, 0] ![1, n, 1, 128] inb).toLoadRect hl) k') Kt) :=
    wp_load 𝒱₀ (c : Thread nD τ) none Set.univ (m := m) (View.setOn_subset_set _ _)
  rw [e] at hw
  iapply hw $$ H
  iintro H
  iapply Hk
  iexists f
  isplitr; · ipureintro; rfl
  iexact H

/-- A load whose value is not named. -/
theorem any_load {α : Type} {Kt : α → sProp 𝕄} {s : Shape} {m : Memref sig .tc .vmem s .f32} {c : Dev nD} {q : PosShare TreeShare} {I : Finset (m.view.ty.Idx)}
    (hI : m.view.set ⊆ I) {f : Buf (Elt F) (m.view.loc (c : Thread nD τ))} {r : LoadRect s} {hl} {k' : (r.shape.Idx → Elt F .f32) → Prog (TpuEff nD τ sig (Elt F) Λ₀ .tc) α} :
    (m.view.loc (c : Thread nD τ) ↦[I]{q} f) ⊢ iprop((∀ v, (m.view.loc (c : Thread nD τ) ↦[I]{q} f) -∗ run c (k' v) Kt)
      -∗ run c (.op (.load m r hl) k') Kt) := by
  iintro H Hk
  have hw : (m.view.loc (c : Thread nD τ) ↦[I]{q} f) ⊢ iprop(((m.view.loc (c : Thread nD τ) ↦[I]{q} f) -∗ run c (k' (m.view.readAt (Elt F) r f)) Kt)
      -∗ run c (.op (.load m r hl) k') Kt) :=
    wp_load 𝒱₀ (c : Thread nD τ) none Set.univ (m := m) ((View.setOn_subset_set _ _).trans hI)
  iapply hw $$ H
  iintro H
  iapply Hk
  iexact H

/-- The result window: storing all of it. -/
theorem out_put {α : Type} {Kt : α → sProp 𝕄} {m : Memref sig .tc .vmem S4x32x8x128 .f32} {c : Dev nD}
    {X Y : S4x32x8x128.Idx → Elt F .f32} {inb inb' hl hx hm} {k' : PUnit → Prog (TpuEff nD τ sig (Elt F) Λ₀ .tc) α} :
    owns (c : Thread nD τ) m fullShare X ⊢ iprop((owns (c : Thread nD τ) m fullShare Y -∗ run c (k' ⟨⟩) Kt)
      -∗ run c (.op (.load m (Rect.unit (s := S4x32x8x128) ![0, 0, 0, 0] S4x32x8x128.size inb).toLoadRect hl) fun _ =>
        .op (.store m (Rect.unit (s := S4x32x8x128) ![0, 0, 0, 0] S4x32x8x128.size inb') Y Finset.univ hx hm) k') Kt) := by
  unfold owns
  iintro ⟨%f, -, H⟩ Hk
  have hs : (m.view.loc (c : Thread nD τ) ↦[m.view.set]{fullShare} f) ⊢ iprop(((m.view.loc (c : Thread nD τ) ↦[m.view.set]{fullShare}
          (m.access (Rect.unit (s := S4x32x8x128) ![0, 0, 0, 0] S4x32x8x128.size inb')).write (Elt F) f Y Finset.univ) -∗ run c (k' ⟨⟩) Kt)
      -∗ run c (.op (.store m (Rect.unit (s := S4x32x8x128) ![0, 0, 0, 0] S4x32x8x128.size inb') Y Finset.univ hx hm) k') Kt) :=
    wp_store 𝒱₀ (c : Thread nD τ) none Set.univ (m := m) (hx := hx) (hm := hm)
      ((View.setOn_subset_set _ _).trans (View.set_slice_subset _ _))
  iapply (any_load (Finset.Subset.refl _)) $$ H
  iintro %v H
  iapply hs $$ H
  iintro H
  iapply Hk
  iexists _
  isplitr
  · ipureintro
    have e := View.read_write_univ (v := m.access (Rect.unit (s := S4x32x8x128) ![0, 0, 0, 0] S4x32x8x128.size inb')) (Val := Elt F) f Y
    funext y
    refine Eq.trans ?_ (congrFun e y)
    refine congrArg (m.view.read (Elt F) _) ?_
    funext a
    refine Fin.ext ?_
    refine (Eq.trans ?_ (unit_val (d := S4x32x8x128.size) ![0, 0, 0, 0] S4x32x8x128.size inb' y a).symm)
    have : (![0, 0, 0, 0] : Fin 4 → ℕ) a = 0 := by revert a; decide
    rw [this, Nat.zero_add]
  iexact H

/-! ## Row sums -/

/-- The row-sum buffer with the values of `G` for the steps before `t` and, of step `t`, the heads before `h`. -/
def lSt (G : S4x32x8.Idx → Elt F .f32) (t h : ℕ) (c : Dev nD) : sProp 𝕄 :=
  iprop(∃ f, ⌜∀ x, ((x 0).val < t ∨ (x 0).val = t ∧ (x 2).val < h) → f x = G x⌝ ∗ lPt c f)

theorem lSt_next (G : S4x32x8.Idx → Elt F .f32) (t : ℕ) (c : Dev nD) : lSt G t 8 c ⊢ lSt G (t + 1) 0 c := by
  unfold lSt
  iintro ⟨%f, %hf, H⟩
  iexists f
  isplitr
  · ipureintro
    intro x hx
    have : (x 2).val < 8 := (x 2).isLt
    exact hf x (by omega)
  iexact H

theorem lSt_done (G : S4x32x8.Idx → Elt F .f32) (c : Dev nD) : lSt G 4 0 c ⊢ lPt c G := by
  unfold lSt
  iintro ⟨%f, %hf, H⟩
  obtain rfl : f = G := funext fun x => hf x (.inl (x 0).isLt)
  iexact H

theorem lSt_any (G : S4x32x8.Idx → Elt F .f32) (c : Dev nD) (f : S4x32x8.Idx → Elt F .f32) : lPt c f ⊢ lSt G 0 0 c := by
  unfold lSt
  iintro H
  iexists f
  isplitr
  · ipureintro; intro x hx; omega
  iexact H

theorem l_put {α : Type} {Kt : α → sProp 𝕄} {G : S4x32x8.Idx → Elt F .f32} {t h : ℕ} {c : Dev nD} {off : Fin 3 → ℕ} (hoff : off = ![t, 0, h])
    {w : S1x32x1.Idx → Elt F .f32}
    (hw : ∀ x : S4x32x8.Idx, (x 0).val = t → (x 2).val = h → w (ix3 (n0 := 1) (n1 := 32) (n2 := 1) 0 (x 1) 0) = G x)
    {inb inb' hl hx hm} {k' : PUnit → Prog (TpuEff nD τ sig (Elt F) Λ₀ .tc) α} :
    lSt G t h c ⊢ iprop((lSt G t (h + 1) c -∗ run c (k' ⟨⟩) Kt)
      -∗ run c (.op (.load lM (Rect.unit (s := S4x32x8) off S1x32x1.size inb).toLoadRect hl) fun _ =>
        .op (.store lM (Rect.unit (s := S4x32x8) off S1x32x1.size inb') w Finset.univ hx hm) k') Kt) := by
  subst hoff
  unfold lSt
  iintro ⟨%f, %hf, H⟩ Hk
  have hs : lPt c f ⊢ iprop((lPt c ((lM.access (Rect.unit (s := S4x32x8) ![t, 0, h] S1x32x1.size inb')).write (Elt F) f w Finset.univ) -∗ run c (k' ⟨⟩) Kt)
      -∗ run c (.op (.store lM (Rect.unit (s := S4x32x8) ![t, 0, h] S1x32x1.size inb') w Finset.univ hx hm) k') Kt) :=
    wp_store 𝒱₀ (c : Thread nD τ) none Set.univ (m := lM) (hx := hx) (hm := hm) (Finset.subset_univ _)
  unfold lPt at *
  iapply (any_load (m := lM) (Finset.subset_univ _)) $$ H
  iintro %v H
  iapply hs $$ H
  iintro H
  iapply Hk
  iexists (lM.access (Rect.unit (s := S4x32x8) ![t, 0, h] S1x32x1.size inb')).write (Elt F) f w Finset.univ
  isplitr
  · ipureintro
    intro x hx
    by_cases hx' : (x 0).val = t ∧ (x 2).val = h
    · obtain ⟨h0, h2⟩ := hx'
      have e : (lM.access (Rect.unit (s := S4x32x8) ![t, 0, h] S1x32x1.size inb')).emb (ix3 (n0 := 1) (n1 := 32) (n2 := 1) 0 (x 1) 0) = x := by
        funext a
        rcases a with ⟨_ | _ | _ | a, ha⟩
        · exact Fin.ext ((unit_val (d := S4x32x8.size) _ _ inb' _ (0 : Fin 3)).trans h0.symm)
        · exact Fin.ext ((unit_val (d := S4x32x8.size) _ _ inb' _ (1 : Fin 3)).trans (Nat.zero_add _))
        · exact Fin.ext ((unit_val (d := S4x32x8.size) _ _ inb' _ (2 : Fin 3)).trans h2.symm)
        · exact absurd (show a + 3 < 3 from ha) (by omega)
      rw [← hw x h0 h2]
      conv_lhs => rw [← e]
      exact View.write_emb_of_mem (v := lM.access (Rect.unit (s := S4x32x8) ![t, 0, h] S1x32x1.size inb')) (Val := Elt F) f w (Finset.mem_univ _)
    · rw [← hf x (by omega)]
      refine View.write_of_not_mem (v := lM.access (Rect.unit (s := S4x32x8) ![t, 0, h] S1x32x1.size inb')) (Val := Elt F) f w Finset.univ ?_
      intro hm
      have hm := View.setOn_subset_set _ _ hm
      rw [show (lM.access (Rect.unit (s := S4x32x8) ![t, 0, h] S1x32x1.size inb')).set = (Rect.unit (s := S4x32x8) ![t, 0, h] S1x32x1.size inb').set
        from View.set_slice_whole cc0_scratch1 _, Rect.mem_set_unit] at hm
      have h0 : t ≤ (x 0).val ∧ (x 0).val < t + 1 := hm 0
      have h2 : h ≤ (x 2).val ∧ (x 2).val < h + 1 := hm 2
      exact hx' ⟨by omega, by omega⟩
  iexact H

/-! ## Weighted values -/

def tmpPt (c : Dev nD) (f : S32x8x128.Idx → Elt F .f32) : sProp 𝕄 :=
  ((c : Thread nD τ).loc cc0_scratch2) ↦[Finset.univ]{fullShare} f

/-- The temporary buffer with the values of `G` for the heads before `h`. -/
def tSt (G : S32x8x128.Idx → Elt F .f32) (h : ℕ) (c : Dev nD) : sProp 𝕄 :=
  iprop(∃ f, ⌜∀ x, (x 1).val < h → f x = G x⌝ ∗ tmpPt c f)

theorem tSt_any (G : S32x8x128.Idx → Elt F .f32) (c : Dev nD) (f : S32x8x128.Idx → Elt F .f32) : tmpPt c f ⊢ tSt G 0 c := by
  unfold tSt
  iintro H
  iexists f
  isplitr
  · ipureintro; intro x hx; omega
  iexact H

theorem t_load {α : Type} {Kt : α → sProp 𝕄} {G : S32x8x128.Idx → Elt F .f32} {h : ℕ} {c : Dev nD} {r : LoadRect S32x8x128} {hl}
    {k' : (r.shape.Idx → Elt F .f32) → Prog (TpuEff nD τ sig (Elt F) Λ₀ .tc) α} :
    tSt G h c ⊢ iprop((∀ v, tSt G h c -∗ run c (k' v) Kt) -∗ run c (.op (.load tmpM r hl) k') Kt) := by
  unfold tSt
  iintro ⟨%f, %hf, H⟩ Hk
  have hw : tmpPt c f ⊢ iprop((tmpPt c f -∗ run c (k' (tmpM.view.readAt (Elt F) r f)) Kt) -∗ run c (.op (.load tmpM r hl) k') Kt) :=
    wp_load 𝒱₀ (c : Thread nD τ) none Set.univ (m := tmpM) (Finset.subset_univ _)
  iapply hw $$ H
  iintro H
  iapply Hk
  iexists f
  isplitr; · ipureintro; exact hf
  iexact H

theorem t_load_all {α : Type} {Kt : α → sProp 𝕄} {G : S32x8x128.Idx → Elt F .f32} {c : Dev nD} {inb hl}
    {k' : (S32x8x128.Idx → Elt F .f32) → Prog (TpuEff nD τ sig (Elt F) Λ₀ .tc) α} :
    tSt G 8 c ⊢ iprop((tSt G 8 c -∗ run c (k' G) Kt)
      -∗ run c (.op (.load tmpM (Rect.unit (s := S32x8x128) ![0, 0, 0] S32x8x128.size inb).toLoadRect hl) k') Kt) := by
  unfold tSt
  iintro ⟨%f, %hf, H⟩ Hk
  obtain rfl : f = G := funext fun x => hf x (x 1).isLt
  have e := Memref.readAt_unit_zero (Elt F) cc0_scratch2 (off := ![0, 0, 0]) (by decide) inb f
  have hw : tmpPt c f ⊢ iprop((tmpPt c f -∗ run c (k' (tmpM.view.readAt (Elt F) (Rect.unit (s := S32x8x128) ![0, 0, 0] S32x8x128.size inb).toLoadRect f)) Kt)
      -∗ run c (.op (.load tmpM (Rect.unit (s := S32x8x128) ![0, 0, 0] S32x8x128.size inb).toLoadRect hl) k') Kt) :=
    wp_load 𝒱₀ (c : Thread nD τ) none Set.univ (m := tmpM) (Finset.subset_univ _)
  rw [show tmpM.view.readAt (Elt F) (Rect.unit (s := S32x8x128) ![0, 0, 0] S32x8x128.size inb).toLoadRect f = f from e] at hw
  iapply hw $$ H
  iintro H
  iapply Hk
  iexists f
  isplitr; · ipureintro; exact fun _ _ => rfl
  iexact H

theorem t_put {α : Type} {Kt : α → sProp 𝕄} {G : S32x8x128.Idx → Elt F .f32} {h : ℕ} {c : Dev nD} {w : S32x1x128.Idx → Elt F .f32}
    (hw : ∀ x : S32x8x128.Idx, (x 1).val = h → w (ix3 (n0 := 32) (n1 := 1) (n2 := 128) (x 0) 0 (x 2)) = G x)
    {inb hx hm} {k' : PUnit → Prog (TpuEff nD τ sig (Elt F) Λ₀ .tc) α} :
    tSt G h c ⊢ iprop((tSt G (h + 1) c -∗ run c (k' ⟨⟩) Kt)
      -∗ run c (.op (.store tmpM (Rect.unit (s := S32x8x128) ![0, h, 0] S32x1x128.size inb) w Finset.univ hx hm) k') Kt) := by
  unfold tSt
  iintro ⟨%f, %hf, H⟩ Hk
  have hs : tmpPt c f ⊢ iprop((tmpPt c ((tmpM.access (Rect.unit (s := S32x8x128) ![0, h, 0] S32x1x128.size inb)).write (Elt F) f w Finset.univ) -∗ run c (k' ⟨⟩) Kt)
      -∗ run c (.op (.store tmpM (Rect.unit (s := S32x8x128) ![0, h, 0] S32x1x128.size inb) w Finset.univ hx hm) k') Kt) :=
    wp_store 𝒱₀ (c : Thread nD τ) none Set.univ (m := tmpM) (hx := hx) (hm := hm) (Finset.subset_univ _)
  iapply hs $$ H
  iintro H
  iapply Hk
  iexists (tmpM.access (Rect.unit (s := S32x8x128) ![0, h, 0] S32x1x128.size inb)).write (Elt F) f w Finset.univ
  isplitr
  · ipureintro
    intro x hx
    by_cases h1 : (x 1).val = h
    · have e : (tmpM.access (Rect.unit (s := S32x8x128) ![0, h, 0] S32x1x128.size inb)).emb (ix3 (n0 := 32) (n1 := 1) (n2 := 128) (x 0) 0 (x 2)) = x := by
        funext a
        rcases a with ⟨_ | _ | _ | a, ha⟩
        · exact Fin.ext ((unit_val (d := S32x8x128.size) _ _ inb _ (0 : Fin 3)).trans (Nat.zero_add _))
        · exact Fin.ext ((unit_val (d := S32x8x128.size) _ _ inb _ (1 : Fin 3)).trans h1.symm)
        · exact Fin.ext ((unit_val (d := S32x8x128.size) _ _ inb _ (2 : Fin 3)).trans (Nat.zero_add _))
        · exact absurd (show a + 3 < 3 from ha) (by omega)
      rw [← hw x h1]
      conv_lhs => rw [← e]
      exact View.write_emb_of_mem (v := tmpM.access (Rect.unit (s := S32x8x128) ![0, h, 0] S32x1x128.size inb)) (Val := Elt F) f w (Finset.mem_univ _)
    · rw [← hf x (by omega)]
      refine View.write_of_not_mem (v := tmpM.access (Rect.unit (s := S32x8x128) ![0, h, 0] S32x1x128.size inb)) (Val := Elt F) f w Finset.univ ?_
      intro hm
      have hm := View.setOn_subset_set _ _ hm
      rw [show (tmpM.access (Rect.unit (s := S32x8x128) ![0, h, 0] S32x1x128.size inb)).set = (Rect.unit (s := S32x8x128) ![0, h, 0] S32x1x128.size inb).set
        from View.set_slice_whole cc0_scratch2 _, Rect.mem_set_unit] at hm
      have h1' : h ≤ (x 1).val ∧ (x 1).val < h + 1 := hm 1
      exact h1 (by omega)
  iexact H

end Cert.KernelIdeal.Attn

end
-- ==== Proof.Heads.lean ====
/-
# The part of a grid step before the talk, part by part

Every head's loads and stores, from what the two buffers hold before the part to what they hold after it.
-/
module

public import proofs.«01_k».proof.Proof.Local

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

/-- The staged operands of step `t`. -/
def ins (w : Win) (B : Blocks F) (c : Dev nD) (t : ℕ) : sProp 𝕄 :=
  iprop(owns (c : Thread nD τ) w.q fullShare (B.q c t) ∗ owns (c : Thread nD τ) w.k fullShare (B.k c t) ∗ owns (c : Thread nD τ) w.v fullShare (B.v c t))

/-- The staged operands with both buffers: row sums of `h` heads, weighted values of `h'`. -/
def loc (w : Win) (B : Blocks F) (c : Dev nD) (t h h' : ℕ) : sProp 𝕄 :=
  iprop(ins w B c t ∗ lSt (B.L0 c) t h c ∗ tSt (B.T0 c t) h' c)

theorem L0_at (B : Blocks F) (c : Dev nD) (t h : ℕ) (x : S4x32x8.Idx) (h0 : (x 0).val = t) (h2 : (x 2).val = h) :
    k0_pay26 (F := F) (slab 32 h (B.q c t)) (slab 512 h (B.k c t)) (ix3 (n0 := 1) (n1 := 32) (n2 := 1) 0 (x 1) 0) = B.L0 c x := by
  subst h0 h2; rfl

theorem T0_at (B : Blocks F) (c : Dev nD) (t h : ℕ) (x : S32x8x128.Idx) (h1 : (x 1).val = h) :
    k0_pay27 (F := F) (slab 32 h (B.q c t)) (slab 512 h (B.k c t)) (slab 512 h (B.v c t)) (ix3 (n0 := 32) (n1 := 1) (n2 := 128) (x 0) 0 (x 2)) = B.T0 c t x := by
  subst h1; rfl

theorem off1_eq (i : grid0.Coords) : k0_off1 i = ![(i 0).val, 0, 0] := by revert i; decide +kernel
theorem off2_eq (i : grid0.Coords) : k0_off2 i = ![(i 0).val, 0, 1] := by revert i; decide +kernel
theorem off3_eq (i : grid0.Coords) : k0_off3 i = ![(i 0).val, 0, 2] := by revert i; decide +kernel
theorem off4_eq (i : grid0.Coords) : k0_off4 i = ![(i 0).val, 0, 3] := by revert i; decide +kernel
theorem off5_eq (i : grid0.Coords) : k0_off5 i = ![(i 0).val, 0, 4] := by revert i; decide +kernel
theorem off6_eq (i : grid0.Coords) : k0_off6 i = ![(i 0).val, 0, 5] := by revert i; decide +kernel
theorem off7_eq (i : grid0.Coords) : k0_off7 i = ![(i 0).val, 0, 6] := by revert i; decide +kernel
theorem off8_eq (i : grid0.Coords) : k0_off8 i = ![(i 0).val, 0, 7] := by revert i; decide +kernel
theorem off9_eq (i : grid0.Coords) : k0_off9 i = ![(i 0).val * 256, 0] := by revert i; decide +kernel

section Heads

variable (w : Win) (B : Blocks F) (i : grid0.Coords) (c : Dev nD)

theorem loc_q {α : Type} {Kt : α → sProp 𝕄} {t h a b : ℕ} (hh : h < 8) {inb hl} {k' : (S1x32x1x128.Idx → Elt F .f32) → Prog (TpuEff nD τ sig (Elt F) Λ₀ .tc) α} :
    loc w B c t a b ⊢ iprop((loc w B c t a b -∗ run c (k' (slab 32 h (B.q c t))) Kt)
      -∗ run c (.op (.load w.q (Rect.unit (s := S1x32x8x128) ![0, 0, h, 0] S1x32x1x128.size inb).toLoadRect hl) k') Kt) := by
  unfold loc ins
  iintro ⟨⟨Hq, HR⟩, HS⟩ Hk
  iapply (win_load hh) $$ Hq
  iintro Hq
  iapply Hk
  isplitr [HS]
  · isplitl [Hq]; · iexact Hq
    iexact HR
  iexact HS

theorem loc_k {α : Type} {Kt : α → sProp 𝕄} {t h a b : ℕ} (hh : h < 8) {inb hl} {k' : (S1x512x1x128.Idx → Elt F .f32) → Prog (TpuEff nD τ sig (Elt F) Λ₀ .tc) α} :
    loc w B c t a b ⊢ iprop((loc w B c t a b -∗ run c (k' (slab 512 h (B.k c t))) Kt)
      -∗ run c (.op (.load w.k (Rect.unit (s := S1x512x8x128) ![0, 0, h, 0] S1x512x1x128.size inb).toLoadRect hl) k') Kt) := by
  unfold loc ins
  iintro ⟨⟨HR, Hq, HR'⟩, HS⟩ Hk
  iapply (win_load hh) $$ Hq
  iintro Hq
  iapply Hk
  isplitr [HS]
  · isplitl [HR]; · iexact HR
    isplitl [Hq]; · iexact Hq
    iexact HR'
  iexact HS

theorem loc_v {α : Type} {Kt : α → sProp 𝕄} {t h a b : ℕ} (hh : h < 8) {inb hl} {k' : (S1x512x1x128.Idx → Elt F .f32) → Prog (TpuEff nD τ sig (Elt F) Λ₀ .tc) α} :
    loc w B c t a b ⊢ iprop((loc w B c t a b -∗ run c (k' (slab 512 h (B.v c t))) Kt)
      -∗ run c (.op (.load w.v (Rect.unit (s := S1x512x8x128) ![0, 0, h, 0] S1x512x1x128.size inb).toLoadRect hl) k') Kt) := by
  unfold loc ins
  iintro ⟨⟨HR, HR', Hq⟩, HS⟩ Hk
  iapply (win_load hh) $$ Hq
  iintro Hq
  iapply Hk
  isplitr [HS]
  · isplitl [HR]; · iexact HR
    isplitl [HR']; · iexact HR'
    iexact Hq
  iexact HS

/-- A head's row sums. -/
theorem loc_l {α : Type} {Kt : α → sProp 𝕄} {t h b : ℕ} {off : Fin 3 → ℕ} (hoff : off = ![t, 0, h]) {u : S1x32x1.Idx → Elt F .f32}
    (hu : ∀ x : S4x32x8.Idx, (x 0).val = t → (x 2).val = h → u (ix3 (n0 := 1) (n1 := 32) (n2 := 1) 0 (x 1) 0) = B.L0 c x)
    {inb inb' hl hx hm} {k' : PUnit → Prog (TpuEff nD τ sig (Elt F) Λ₀ .tc) α} :
    loc w B c t h b ⊢ iprop((loc w B c t (h + 1) b -∗ run c (k' ⟨⟩) Kt)
      -∗ run c (.op (.load lM (Rect.unit (s := S4x32x8) off S1x32x1.size inb).toLoadRect hl) fun _ =>
        .op (.store lM (Rect.unit (s := S4x32x8) off S1x32x1.size inb') u Finset.univ hx hm) k') Kt) := by
  unfold loc
  iintro ⟨HI, HL, HT⟩ Hk
  iapply (l_put hoff hu) $$ HL
  iintro HL
  iapply Hk
  isplitl [HI]; · iexact HI
  isplitl [HL]; · iexact HL
  iexact HT

theorem loc_t_load {α : Type} {Kt : α → sProp 𝕄} {t a b : ℕ} {r : LoadRect S32x8x128} {hl}
    {k' : (r.shape.Idx → Elt F .f32) → Prog (TpuEff nD τ sig (Elt F) Λ₀ .tc) α} :
    loc w B c t a b ⊢ iprop((∀ v, loc w B c t a b -∗ run c (k' v) Kt) -∗ run c (.op (.load tmpM r hl) k') Kt) := by
  unfold loc
  iintro ⟨HI, HL, HT⟩ Hk
  iapply t_load $$ HT
  iintro %v HT
  iapply Hk
  isplitl [HI]; · iexact HI
  isplitl [HL]; · iexact HL
  iexact HT

/-- A head's weighted values. -/
theorem loc_t {α : Type} {Kt : α → sProp 𝕄} {t a h : ℕ} {u : S32x1x128.Idx → Elt F .f32}
    (hu : ∀ x : S32x8x128.Idx, (x 1).val = h → u (ix3 (n0 := 32) (n1 := 1) (n2 := 128) (x 0) 0 (x 2)) = B.T0 c t x)
    {inb hx hm} {k' : PUnit → Prog (TpuEff nD τ sig (Elt F) Λ₀ .tc) α} :
    loc w B c t a h ⊢ iprop((loc w B c t a (h + 1) -∗ run c (k' ⟨⟩) Kt)
      -∗ run c (.op (.store tmpM (Rect.unit (s := S32x8x128) ![0, h, 0] S32x1x128.size inb) u Finset.univ hx hm) k') Kt) := by
  unfold loc
  iintro ⟨HI, HL, HT⟩ Hk
  iapply (t_put hu) $$ HT
  iintro HT
  iapply Hk
  isplitl [HI]; · iexact HI
  isplitl [HL]; · iexact HL
  iexact HT

theorem part34 (a v61 v65 v66) (h61 : v61 = k0_pay20 (slab 512 0 (B.v c (i 0).val)))
    (h65 : v65 = k0_pay21 (slab 32 0 (B.q c (i 0).val)) (slab 512 0 (B.k c (i 0).val))) (h66 : v66 = k0_pay22 (slab 32 0 (B.q c (i 0).val)) (slab 512 0 (B.k c (i 0).val))) :
    loc w B c (i 0).val 0 0
    ⊢ run c (w.on (k0_part34 (F := F) i) a v61 v65 v66) fun x =>
      iprop(⌜x = slab 32 2 (B.q c (i 0).val)⌝ ∗ loc w B c (i 0).val 2 2) := by
  rw [k0_part34_eq_skeleton]
  unfold k0_part34_skel
  simp only [Prog.lift, Prog.bind_op, Prog.bind_ret, Pure.pure]
  subst h61 h65 h66
  iintro H
  iapply (loc_l w B c (off1_eq i) (fun x h0 h2 => L0_at B c _ 0 x h0 h2)) $$ H
  iintro H
  iapply (loc_t_load w B c) $$ H
  iintro %_ H
  iapply (loc_t w B c (h := 0) (fun x h1 => T0_at B c _ 0 x h1)) $$ H
  iintro H
  iapply (loc_q w B c (h := 1) (by decide)) $$ H
  iintro H
  iapply (loc_k w B c (h := 1) (by decide)) $$ H
  iintro H
  iapply (loc_v w B c (h := 1) (by decide)) $$ H
  iintro H
  iapply (loc_l w B c (off2_eq i) (fun x h0 h2 => L0_at B c _ 1 x h0 h2)) $$ H
  iintro H
  iapply (loc_t_load w B c) $$ H
  iintro %_ H
  iapply (loc_t w B c (h := 1) (fun x h1 => T0_at B c _ 1 x h1)) $$ H
  iintro H
  iapply (loc_q w B c (h := 2) (by decide)) $$ H
  iintro H
  iapply run_ret
  isplitr; · ipureintro; exact rfl
  iexact H

theorem part35 (a v94) (h94 : v94 = slab 32 2 (B.q c (i 0).val)) :
    loc w B c (i 0).val 2 2
    ⊢ run c (w.on (k0_part35 (F := F) i) a v94) fun x =>
      iprop(⌜x.1 = k0_pay31 (slab 512 3 (B.v c (i 0).val)) ∧ x.2 = k0_pay32 (slab 32 3 (B.q c (i 0).val)) (slab 512 3 (B.k c (i 0).val))⌝ ∗ loc w B c (i 0).val 3 3) := by
  rw [k0_part35_eq_skeleton]
  unfold k0_part35_skel
  simp only [Prog.lift, Prog.bind_op, Prog.bind_ret, Pure.pure]
  subst h94
  iintro H
  iapply (loc_k w B c (h := 2) (by decide)) $$ H
  iintro H
  iapply (loc_v w B c (h := 2) (by decide)) $$ H
  iintro H
  iapply (loc_l w B c (off3_eq i) (fun x h0 h2 => L0_at B c _ 2 x h0 h2)) $$ H
  iintro H
  iapply (loc_t_load w B c) $$ H
  iintro %_ H
  iapply (loc_t w B c (h := 2) (fun x h1 => T0_at B c _ 2 x h1)) $$ H
  iintro H
  iapply (loc_q w B c (h := 3) (by decide)) $$ H
  iintro H
  iapply (loc_k w B c (h := 3) (by decide)) $$ H
  iintro H
  iapply (loc_v w B c (h := 3) (by decide)) $$ H
  iintro H
  iapply run_ret
  isplitr; · ipureintro; exact ⟨rfl, rfl⟩
  iexact H

theorem part36 (a v118 v121) (h118 : v118 = k0_pay31 (slab 512 3 (B.v c (i 0).val))) (h121 : v121 = k0_pay32 (slab 32 3 (B.q c (i 0).val)) (slab 512 3 (B.k c (i 0).val))) :
    loc w B c (i 0).val 3 3
    ⊢ run c (w.on (k0_part36 (F := F) i) a v118 v121) fun x =>
      iprop(⌜x = k0_pay38 (slab 32 4 (B.q c (i 0).val)) (slab 512 4 (B.k c (i 0).val)) (slab 512 4 (B.v c (i 0).val))⌝ ∗ loc w B c (i 0).val 5 4) := by
  rw [k0_part36_eq_skeleton]
  unfold k0_part36_skel
  simp only [Prog.lift, Prog.bind_op, Prog.bind_ret, Pure.pure]
  subst h118 h121
  iintro H
  iapply (loc_l w B c (off4_eq i) (fun x h0 h2 => L0_at B c _ 3 x h0 h2)) $$ H
  iintro H
  iapply (loc_t_load w B c) $$ H
  iintro %_ H
  iapply (loc_t w B c (h := 3) (fun x h1 => T0_at B c _ 3 x h1)) $$ H
  iintro H
  iapply (loc_q w B c (h := 4) (by decide)) $$ H
  iintro H
  iapply (loc_k w B c (h := 4) (by decide)) $$ H
  iintro H
  iapply (loc_v w B c (h := 4) (by decide)) $$ H
  iintro H
  iapply (loc_l w B c (off5_eq i) (fun x h0 h2 => L0_at B c _ 4 x h0 h2)) $$ H
  iintro H
  iapply (loc_t_load w B c) $$ H
  iintro %_ H
  iapply run_ret
  isplitr; · ipureintro; exact rfl
  iexact H

theorem part37 (a v150) (h150 : v150 = k0_pay38 (slab 32 4 (B.q c (i 0).val)) (slab 512 4 (B.k c (i 0).val)) (slab 512 4 (B.v c (i 0).val))) :
    loc w B c (i 0).val 5 4
    ⊢ run c (w.on (k0_part37 (F := F) i) a v150) fun x =>
      iprop(⌜x.1 = k0_pay42 (slab 32 6 (B.q c (i 0).val)) ∧ x.2.1 = k0_pay43 (slab 512 6 (B.k c (i 0).val)) ∧ x.2.2 = slab 512 6 (B.v c (i 0).val)⌝ ∗ loc w B c (i 0).val 6 6) := by
  rw [k0_part37_eq_skeleton]
  unfold k0_part37_skel
  simp only [Prog.lift, Prog.bind_op, Prog.bind_ret, Pure.pure]
  subst h150
  iintro H
  iapply (loc_t w B c (h := 4) (fun x h1 => T0_at B c _ 4 x h1)) $$ H
  iintro H
  iapply (loc_q w B c (h := 5) (by decide)) $$ H
  iintro H
  iapply (loc_k w B c (h := 5) (by decide)) $$ H
  iintro H
  iapply (loc_v w B c (h := 5) (by decide)) $$ H
  iintro H
  iapply (loc_l w B c (off6_eq i) (fun x h0 h2 => L0_at B c _ 5 x h0 h2)) $$ H
  iintro H
  iapply (loc_t_load w B c) $$ H
  iintro %_ H
  iapply (loc_t w B c (h := 5) (fun x h1 => T0_at B c _ 5 x h1)) $$ H
  iintro H
  iapply (loc_q w B c (h := 6) (by decide)) $$ H
  iintro H
  iapply (loc_k w B c (h := 6) (by decide)) $$ H
  iintro H
  iapply (loc_v w B c (h := 6) (by decide)) $$ H
  iintro H
  iapply run_ret
  isplitr; · ipureintro; exact ⟨rfl, rfl, rfl⟩
  iexact H

theorem part38 (a v171 v173 v174) (h171 : v171 = k0_pay42 (slab 32 6 (B.q c (i 0).val))) (h173 : v173 = k0_pay43 (slab 512 6 (B.k c (i 0).val)))
    (h174 : v174 = slab 512 6 (B.v c (i 0).val)) :
    loc w B c (i 0).val 6 6
    ⊢ run c (w.on (k0_part38 (F := F) i) a v171 v173 v174) fun x =>
      iprop(⌜x = k0_pay49 (slab 32 7 (B.q c (i 0).val)) (slab 512 7 (B.k c (i 0).val)) (slab 512 7 (B.v c (i 0).val))⌝ ∗ loc w B c (i 0).val 8 7) := by
  rw [k0_part38_eq_skeleton]
  unfold k0_part38_skel
  simp only [Prog.lift, Prog.bind_op, Prog.bind_ret, Pure.pure]
  subst h171 h173 h174
  iintro H
  iapply (loc_l w B c (off7_eq i) (fun x h0 h2 => L0_at B c _ 6 x h0 h2)) $$ H
  iintro H
  iapply (loc_t_load w B c) $$ H
  iintro %_ H
  iapply (loc_t w B c (h := 6) (fun x h1 => T0_at B c _ 6 x h1)) $$ H
  iintro H
  iapply (loc_q w B c (h := 7) (by decide)) $$ H
  iintro H
  iapply (loc_k w B c (h := 7) (by decide)) $$ H
  iintro H
  iapply (loc_v w B c (h := 7) (by decide)) $$ H
  iintro H
  iapply (loc_l w B c (off8_eq i) (fun x h0 h2 => L0_at B c _ 7 x h0 h2)) $$ H
  iintro H
  iapply run_ret
  isplitr; · ipureintro; exact rfl
  iexact H

end Heads

end Cert.KernelIdeal.Attn

end
-- ==== Proof.Start.lean ====
/-
# The meeting at the first step

At its first step a device tells its five partners that it is there, handing each the landing slots and the open receive cells
it pays, and waits for all five: from then on it can start its copies.
-/
module

public import proofs.«01_k».proof.Proof.Heads

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

variable (A0 : Dev nD → S1024x128.Idx → Elt F .f32) (L0 : Dev nD → S4x32x8.Idx → Elt F .f32)

/-! ## What a device starts with -/

/-- Copy `k` before the meeting: all but that the partner's cell is open. -/
def primed (k : ℕ) (c : Dev nD) : sProp 𝕄 :=
  iprop(∃ κ, invs A0 L0 κ k c ∗ dutyTok ER (sCell k c) 0 0 ∗ reached ER (sCell k c) 0 ∗ atPos ER (sCell k c) 0 ∅ 0
    ∗ dutyTok ER (rCell k (peer (dir k) c)) 0 0 ∗ atPos ER (rCell k c) 0 ∅ 0 ∗ cred (tallyAt (rCell k c) () (amt k)))

theorem primed_ready (k : ℕ) (c : Dev nD) : iprop(reached ER (rCell k (peer (dir k) c)) 0 ∗ primed A0 L0 k c) ⊢ ready A0 L0 k c := by
  unfold primed ready
  iintro ⟨HrR, ⟨%κ, HI, HtS, HrS, HaS, HtR, HaR, Hc⟩⟩
  iexists κ
  isplitl [HI]; · iexact HI
  isplitl [HtS]; · iexact HtS
  isplitl [HrS]; · iexact HrS
  isplitl [HaS]; · iexact HaS
  isplitl [HtR]; · iexact HtR
  isplitl [HrR]; · iexact HrR
  isplitl [HaR]; · iexact HaR
  iexact Hc

def primedAll (c : Dev nD) : sProp 𝕄 :=
  iprop(bigSep (Finset.Ico 0 10) (fun j => primed A0 L0 (2 * j + (0 : Fin 2).val) c) ∗ bigSep (Finset.Ico 0 10) (fun j => primed A0 L0 (2 * j + (1 : Fin 2).val) c)
    ∗ bigSep (Finset.Ico 0 5) (fun j => primed A0 L0 (20 + j) c))

/-- The right to tell partner `r`, with what it is handed. -/
def hail (r : Fin 5) (c : Dev nD) : sProp 𝕄 :=
  iprop(∃ κ, cellInv ER (sched A0 L0) κ (barCell (peer r c)) ∗ dutyTok ER (barCell (peer r c)) 0 r ∗ reached ER (barCell (peer r c)) 0 ∗ barPay (peer r c) r)

/-- The place at the own meeting, with the credit for the five. -/
def meet (c : Dev nD) : sProp 𝕄 :=
  iprop(∃ κ, cellInv ER (sched A0 L0) κ (barCell c) ∗ atPos ER (barCell c) 0 ∅ 0 ∗ cred (tallyAt (barCell c) () 5))

def owingBar (c : Dev nD) (l : List (Fin 5)) : sProp 𝕄 :=
  iprop(levAts L lv ∗ ∃ W, owes (c : Thread nD τ) (owesBar c l) W)

section Meet

theorem hail_step {α : Type} {Kt : α → sProp 𝕄} {k' : PUnit → Prog (TpuEff nD τ sig (Elt F) Λ₀ .tc) α} (r : Fin 5) (l : List (Fin 5)) {c p : Dev nD}
    (hp : p.val = (peer r c).val) {sem : Sem sig} (hs : sem = barrier0) :
    iprop(hail A0 L0 r c ∗ owingBar c (r :: l))
      ⊢ iprop((owingBar c l -∗ run c (k' ⟨⟩) Kt) -∗ run c (.op (.semSignal ((p, .tc) : Thread nD τ) sem (1#32).toInt) k') Kt) := by
  obtain rfl : p = peer r c := Fin.ext hp
  subst hs
  unfold hail owingBar
  iintro ⟨⟨%κ, #HI, Ht, #Hr, Hp⟩, #Hlev, ⟨%W, HO⟩⟩ Hk
  iapply (Rounds.wp_signal 𝒱₀ ER (sched A0 L0) (c : Thread nD τ) none (dst := (peer r c : Thread nD τ)) (sem := barrier0) (r := 0) (d := r) (κ := κ)
    (by rw [duties_bar]; exact Finset.mem_univ _) (amount_bar A0 L0 (peer r c) r) () (owesBar c l) rfl) $$ [HO Ht Hp]
  · isplitr; · iexact HI
    isplitl [HO]; · iexact HO
    isplitl [Ht]; · iexact Ht
    isplitl [Hp]; · iapply (Entails.of_eq (payload_bar A0 L0 (peer r c) r).symm); iexact Hp
    iexact Hr
  iintro HO
  iapply Hk
  isplitr; · iexact Hlev
  iexists W; iexact HO

theorem meet_step {α : Type} {Kt : α → sProp 𝕄} {k' : PUnit → Prog (TpuEff nD τ sig (Elt F) Λ₀ .tc) α} {c : Dev nD} {sem : Sem sig} (hs : sem = barrier0) :
    iprop(meet A0 L0 c ∗ owingBar c [])
      ⊢ iprop(((semVal (barCell c) 0 ∗ bigSep Finset.univ (barPay c) ∗ owing c copies) -∗ run c (k' ⟨⟩) Kt)
        -∗ run c (.op (.semWait sem (5#32).toInt) k') Kt) := by
  subst hs
  unfold meet owingBar owing
  iintro ⟨⟨%κ, #HI, Ha, Hc⟩, #Hlev, ⟨%W, HO⟩⟩ Hk
  iapply (Rounds.wp_wait_rest_token 𝒱₀ ER (sched A0 L0) (c : Thread nD τ) none (κ := κ) (sm := .reg barrier0) (k' := 5)
      (wpE_semWait_eq 𝒱₀ (c : Thread nD τ) none Set.univ) (Set.mem_univ _) () (O := owesOf c copies) (W := W) (R := 0) (m := 0) (T := ∅)
      ((Nat.zero_add 5).trans (expect_bar A0 L0 c).symm)) $$ [Hc HO Ha]
  · isplitr; · iexact HI
    isplitl [Hc]; · iexact Hc
    isplitl [HO]; · iexact HO
    isplitr
    · iapply (mayWait c (.reg barrier0) 1 (le_refl _) copies (by decide)); iexact Hlev
    iexact Ha
  iintro ⟨HO, Ha, -, Hpay⟩
  ihave Hp := (Entails.of_eq (rest_bar A0 L0 c)) $$ Hpay
  imod (close A0 L0 κ (barCell c)) $$ [Ha] with Hs0
  · isplitr; · iexact HI
    iexact Ha
  iapply Hk
  isplitl [Hs0]; · iexact Hs0
  isplitl [Hp]; · iexact Hp
  isplitr; · iexact Hlev
  iexists _; iexact HO

end Meet

/-! ## What the partners hand over -/

/-- The partner's receive cells are open. -/
def openAt (r : ℕ) (c : Dev nD) : sProp 𝕄 :=
  iprop(reached ER (rCell (2 * r) (pr r c)) 0 ∗ reached ER (rCell (2 * r + 1) (pr r c)) 0
    ∗ reached ER (rCell (2 * (9 - r)) (pr r c)) 0 ∗ reached ER (rCell (2 * (9 - r) + 1) (pr r c)) 0 ∗ reached ER (rCell (20 + r) (pr r c)) 0)

omit [FloatOps F] in
instance openAt_persistent (r : ℕ) (c : Dev nD) : BI.Persistent (openAt (F := F) r c) := by unfold openAt; infer_instance

def opens (c : Dev nD) : sProp 𝕄 := bigSep (Finset.Ico 0 5) fun j => openAt j c

omit [FloatOps F] in
instance opens_persistent (c : Dev nD) : BI.Persistent (opens (F := F) c) := by unfold opens; infer_instance

omit [FloatOps F] in
theorem barPay_split (c : Dev nD) : bigSep Finset.univ (barPay (F := F) c)
    ⊢ iprop(opens c ∗ bigSep (Finset.Ico 0 5) (fun j => rbufAny (pr j c) (rslot j 0)) ∗ bigSep (Finset.Ico 0 5) (fun j => rbufAny (pr j c) (rslot j 1))
      ∗ bigSep (Finset.Ico 0 5) (fun j => rlAny (pr j c) (lslot j))) := by
  have e : bigSep Finset.univ (barPay (F := F) c) = bigSep (Finset.Ico 0 5) (fun j => iprop(rbufAny (pr j c) (rslot j 0) ∗ rbufAny (pr j c) (rslot j 1)
      ∗ rlAny (pr j c) (lslot j) ∗ openAt j c)) := by
    rw [BI.bigSep_univ_eq_bigSepL [0, 1, 2, 3, 4] (by decide) (by decide)]
    rw [bigSep_Ico (by decide), bigSep_Ico (by decide), bigSep_Ico (by decide), bigSep_Ico (by decide), show Finset.Ico (0 + 1 + 1 + 1 + 1) 5 = {4} from rfl, bigSep_singleton]
    rfl
  rw [e, bigSep_sep', bigSep_sep', bigSep_sep']
  unfold opens
  iintro ⟨H0, H1, HL, HO⟩
  isplitl [HO]; · iexact HO
  isplitl [H0]; · iexact H0
  isplitl [H1]; · iexact H1
  iexact HL

omit [FloatOps F] in
theorem open_at {c : Dev nD} {r : ℕ} (hr : r < 5) : opens (F := F) c ⊢ openAt r c := bigSep_elim (Finset.mem_Ico.mpr ⟨Nat.zero_le _, hr⟩)

omit [FloatOps F] in
theorem open_rs {c : Dev nD} {j : ℕ} (hj : j < 10) (s : Fin 2) : opens (F := F) c ⊢ reached ER (rCell (2 * j + s.val) (peer (dir (2 * j + s.val)) c)) 0 := by
  by_cases h5 : j < 5
  · rw [(rs_num h5 s).1]
    refine (open_at h5).trans ?_
    unfold openAt
    iintro ⟨#Ha, #Hb, -, -, -⟩
    rcases s with ⟨_ | _ | s, hs⟩
    · iexact Ha
    · iexact Hb
    · omega
  · rw [(ag_num (Nat.le_of_not_lt h5) hj s).1]
    refine (open_at (r := 9 - j) (by omega)).trans ?_
    unfold openAt
    rw [show 9 - (9 - j) = j by omega]
    iintro ⟨-, -, #Ha, #Hb, -⟩
    rcases s with ⟨_ | _ | s, hs⟩
    · iexact Ha
    · iexact Hb
    · omega

omit [FloatOps F] in
theorem open_l {c : Dev nD} {j : ℕ} (hj : j < 5) : opens (F := F) c ⊢ reached ER (rCell (20 + j) (peer (dir (20 + j)) c)) 0 := by
  rw [(l_num hj).1]
  refine (open_at hj).trans ?_
  unfold openAt
  iintro ⟨-, -, -, -, #Ha⟩
  iexact Ha

theorem bigSep_cut {M : Type} [URA M] {n m : ℕ} (h : n ≤ m) (A : ℕ → sProp M) :
    bigSep (Finset.Ico 0 m) A = iprop(bigSep (Finset.Ico 0 n) A ∗ bigSep (Finset.Ico n m) A) := by
  have hd : Disjoint (Finset.Ico 0 n) (Finset.Ico n m) := Finset.disjoint_left.mpr fun x hx hy => by
    rw [Finset.mem_Ico] at hx hy; omega
  have hu : Finset.Ico 0 m = Finset.Ico 0 n ∪ Finset.Ico n m := by
    ext x; rw [Finset.mem_union, Finset.mem_Ico, Finset.mem_Ico, Finset.mem_Ico]; omega
  rw [hu, bigSep_union hd]; rfl

theorem fut_of (s : Fin 2) (c : Dev nD) : iprop(opens c ∗ bigSep (Finset.Ico 0 10) (fun j => primed A0 L0 (2 * j + s.val) c)
      ∗ bigSep (Finset.Ico 0 5) (fun j => rbufAny (pr j c) (rslot j s)))
    ⊢ fut A0 L0 s 0 c := by
  unfold fut
  rw [bigSep_sep']
  have e : bigSep (Finset.Ico 0 10) (fun j => slotOf (F := F) j s (pr j c)) = bigSep (Finset.Ico 0 5) (fun j => rbufAny (pr j c) (rslot j s)) := by
    rw [bigSep_cut (n := 5) (by decide)]
    rw [bigSep_congr (Φ := fun j => slotOf (F := F) j s (pr j c)) (Ψ := fun j => rbufAny (pr j c) (rslot j s)) (fun g hg => if_pos (Finset.mem_Ico.mp hg).2),
      bigSep_congr (Φ := fun j => slotOf (F := F) j s (pr j c)) (Ψ := fun _ => iprop(emp)) (fun g hg => if_neg (by have := Finset.mem_Ico.mp hg; omega)), show (bigSep (Finset.Ico 5 10) (fun _ : ℕ => (iprop(emp) : sProp 𝕄))) = iprop(emp) from bigSep_emp_const _]
    exact BI.equiv_iff.mp BI.sep_emp
  rw [e]
  iintro ⟨#HO, HP, HS⟩
  isplitl [HP]
  · iapply (bigSep_with_persistent (R := opens c) (Φ := fun j => primed A0 L0 (2 * j + s.val) c) (fun j hj =>
      (sep_mono_left (open_rs (Finset.mem_Ico.mp hj).2 s)).trans (primed_ready A0 L0 _ c)))
    isplitr; · iexact HO
    iexact HP
  iexact HS

theorem futL_of (c : Dev nD) : iprop(opens c ∗ bigSep (Finset.Ico 0 5) (fun j => primed A0 L0 (20 + j) c)
      ∗ bigSep (Finset.Ico 0 5) (fun j => rlAny (pr j c) (lslot j)))
    ⊢ futL A0 L0 0 c := by
  unfold futL
  rw [bigSep_sep']
  iintro ⟨#HO, HP, HS⟩
  isplitl [HP]
  · iapply (bigSep_with_persistent (R := opens c) (Φ := fun j => primed A0 L0 (20 + j) c) (fun j hj =>
      (sep_mono_left (open_l (Finset.mem_Ico.mp hj).2)).trans (primed_ready A0 L0 _ c)))
    isplitr; · iexact HO
    iexact HP
  iexact HS

/-- Everything to start the copies, after the meeting. -/
def armed (c : Dev nD) : sProp 𝕄 := iprop(fut A0 L0 0 0 c ∗ fut A0 L0 1 0 c ∗ futL A0 L0 0 c)

theorem armed_of (c : Dev nD) : iprop(primedAll A0 L0 c ∗ bigSep Finset.univ (barPay c)) ⊢ armed A0 L0 c := by
  unfold primedAll armed
  iintro ⟨⟨H0, H1, HL⟩, HB⟩
  ihave HB := (barPay_split c) $$ HB
  icases HB with ⟨#HO, S0, S1, SL⟩
  isplitl [H0 S0]
  · iapply fut_of
    isplitr; · iexact HO
    isplitl [H0]; · iexact H0
    iexact S0
  isplitl [H1 S1]
  · iapply fut_of
    isplitr; · iexact HO
    isplitl [H1]; · iexact H1
    iexact S1
  iapply futL_of
  isplitr; · iexact HO
  isplitl [HL]; · iexact HL
  iexact SL

/-! ## The meeting in the kernel -/

/-- Before the meeting. -/
def unmet (c : Dev nD) : sProp 𝕄 :=
  iprop(meet A0 L0 c ∗ primedAll A0 L0 c
    ∗ hail A0 L0 0 c ∗ hail A0 L0 1 c ∗ hail A0 L0 2 c ∗ hail A0 L0 3 c ∗ hail A0 L0 4 c)

section Met
variable (w : Win) (i : grid0.Coords) (c : Dev nD) (h1 : k0_cond1 i = 1#1)

theorem part1 (v2 v5 v8 v9 v10 v11 v12 v13) :
    iprop(owingBar c [0, 1, 2, 3, 4] ∗ unmet A0 L0 c) ⊢ run c (w.on (k0_part1 (F := F) i) c v2 v5 v8 v9 v10 v11 v12 v13 h1) fun x =>
      iprop(⌜x = SemArray.scalar (sig.barrier 0 rfl)⌝ ∗ owingBar c [4] ∗ meet A0 L0 c ∗ primedAll A0 L0 c ∗ hail A0 L0 4 c) := by
  rw [k0_part1_eq_skeleton]
  unfold k0_part1_skel semSignalWord unmet
  simp only [Prog.lift, Prog.bind_op, Prog.bind_ret, Pure.pure]
  iintro ⟨HO, HM, HP, H0, H1, H2, H3, H4⟩
  iapply (cur (hail_step A0 L0 0 [1, 2, 3, 4] (dev1_eq c) rfl)) $$ H0 HO
  iintro HO
  iapply (cur (hail_step A0 L0 1 [2, 3, 4] (dev2_eq c) rfl)) $$ H1 HO
  iintro HO
  iapply (cur (hail_step A0 L0 2 [3, 4] (dev3_eq c) rfl)) $$ H2 HO
  iintro HO
  iapply (cur (hail_step A0 L0 3 [4] (dev4_eq c) rfl)) $$ H3 HO
  iintro HO
  iapply run_ret
  isplitr; · ipureintro; rfl
  isplitl [HO]; · iexact HO
  isplitl [HM]; · iexact HM
  isplitl [HP]; · iexact HP
  iexact H4

variable (B : Blocks F)

/-- What the first loads give. -/
def Firsts (t : ℕ) (c : Dev nD) (x : Σ' (_ : BitVec 32) (_ : FVec F S512x128 .f32) (_ : FVec F S32x512 .f32), FVec F S32 .f32) : Prop :=
  x.2.1 = k0_pay20 (slab 512 0 (B.v c t)) ∧ x.2.2.1 = k0_pay21 (slab 32 0 (B.q c t)) (slab 512 0 (B.k c t))
    ∧ x.2.2.2 = k0_pay22 (slab 32 0 (B.q c t)) (slab 512 0 (B.k c t))

include h1 in
theorem part33_met (a v2 v5 v8 v9 v10 v11 v12 v13 c2) :
    iprop((owingBar c [0, 1, 2, 3, 4] ∗ unmet A0 L0 c) ∗ loc w B c (i 0).val 0 0) ⊢ run c (w.on (k0_part33 (F := F) i) a c v2 v5 v8 v9 v10 v11 v12 v13 c2) fun x =>
      iprop(⌜Firsts B (i 0).val c x⌝ ∗ loc w B c (i 0).val 0 0 ∗ semVal (barCell c) 0 ∗ armed A0 L0 c ∗ owing c copies) := by
  rw [k0_part33_eq_skeleton]
  unfold k0_part33_skel semSignalWord semWaitWord
  simp only [Prog.lift, Prog.bind_op, Prog.bind_ret, Pure.pure, dif_pos h1]
  iintro ⟨HU, H⟩
  iapply (bindStep (part1 A0 L0 w i c h1 v2 v5 v8 v9 v10 v11 v12 v13)) $$ HU
  iintro %x ⟨%hx, HO, HM, HP, H4⟩
  subst hx
  iapply (cur (hail_step A0 L0 4 [] (dev5_eq c) rfl)) $$ H4 HO
  iintro HO
  iapply (cur (meet_step A0 L0 rfl)) $$ HM HO
  iintro ⟨Hs, Hb, HO⟩
  ihave HA := (armed_of A0 L0 c) $$ [HP Hb]
  · isplitl [HP]; · iexact HP
    iexact Hb
  iapply (loc_q w B c (h := 0) (by decide)) $$ H
  iintro H
  iapply (loc_k w B c (h := 0) (by decide)) $$ H
  iintro H
  iapply (loc_v w B c (h := 0) (by decide)) $$ H
  iintro H
  iapply run_ret
  isplitr; · ipureintro; exact ⟨rfl, rfl, rfl⟩
  isplitl [H]; · iexact H
  isplitl [Hs]; · iexact Hs
  isplitl [HA]; · iexact HA
  iexact HO

theorem part33_off (h1' : ¬ k0_cond1 i = 1#1) (a v2 v5 v8 v9 v10 v11 v12 v13 c2) :
    loc w B c (i 0).val 0 0 ⊢ run c (w.on (k0_part33 (F := F) i) a c v2 v5 v8 v9 v10 v11 v12 v13 c2) fun x =>
      iprop(⌜Firsts B (i 0).val c x⌝ ∗ loc w B c (i 0).val 0 0) := by
  rw [k0_part33_eq_skeleton]
  unfold k0_part33_skel
  simp only [Prog.lift, Prog.bind_op, Prog.bind_ret, Pure.pure, dif_neg h1']
  iintro H
  iapply (loc_q w B c (h := 0) (by decide)) $$ H
  iintro H
  iapply (loc_k w B c (h := 0) (by decide)) $$ H
  iintro H
  iapply (loc_v w B c (h := 0) (by decide)) $$ H
  iintro H
  iapply run_ret
  isplitr; · ipureintro; exact ⟨rfl, rfl, rfl⟩
  iexact H

end Met

end Cert.KernelIdeal.Attn

end
-- ==== Proof.Body.lean ====
/-
# A grid step

The kernel's function at each of the four grid steps, from what the device holds before it to what it holds after.
-/
module

public import proofs.«01_k».proof.Proof.Start

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

theorem cur3 {P Q R S : sProp 𝕄} (h : iprop(P ∗ Q ∗ R) ⊢ S) : P ⊢ iprop(Q -∗ R -∗ S) := by
  iintro HP HQ HR
  iapply h
  isplitl [HP]; · iexact HP
  isplitl [HQ]; · iexact HQ
  iexact HR

theorem opStep {α β : Type} {e : TpuEff nD τ sig (Elt F) Λ₀ .tc β} {c : Dev nD} {k : β → Prog (TpuEff nD τ sig (Elt F) Λ₀ .tc) α} {Kt : α → sProp 𝕄} :
    run c (.op e k) Kt ⊢ run c (Prog.lift e >>= k) Kt := .rfl

theorem takeStep {α : Type} {p : Prop} [Decidable p] (h : p) {c : Dev nD} {a : p → Prog (TpuEff nD τ sig (Elt F) Λ₀ .tc) α}
    {b : ¬ p → Prog (TpuEff nD τ sig (Elt F) Λ₀ .tc) α} {Kt : α → sProp 𝕄} : run c (a h) Kt ⊢ run c (dite p a b) Kt := by rw [dif_pos h]

theorem skipStep {α : Type} {p : Prop} [Decidable p] (h : ¬ p) {c : Dev nD} {a : p → Prog (TpuEff nD τ sig (Elt F) Λ₀ .tc) α}
    {b : ¬ p → Prog (TpuEff nD τ sig (Elt F) Λ₀ .tc) α} {Kt : α → sProp 𝕄} : run c (b h) Kt ⊢ run c (dite p a b) Kt := by rw [dif_neg h]

section Step
variable (w : Win) (B : Blocks F) (i : grid0.Coords) (c : Dev nD)

theorem part32 (P : sProp 𝕄) : P ⊢ run c (w.on (k0_part32 (F := F) i)) fun x => iprop(⌜x.2.1 = c⌝ ∗ P) := by
  rw [k0_part32_eq_skeleton]
  unfold k0_part32_skel
  simp only [Prog.lift, Prog.bind_op, Prog.bind_ret, Pure.pure]
  dsimp only [Win.on, run]
  rw [wp_deviceId]
  have e : P ⊢ iprop(⌜c = c⌝ ∗ P) := by
    iintro H
    isplitr; · ipureintro; exact rfl
    iexact H
  refine BI.Entails.trans ?_ (le_wp_ret _ _ _ _ _)
  exact e

/-! ## Rows of the accumulator -/

theorem A0_at (t : ℕ) (y : S256x128.Idx) (ht : t < 4) :
    k0_pay2 (F := F) (B.T0 c t) y = B.A0 c (accIx (t * 256 + (y 0).val) (y 1).val) := by
  have h0 : (y 0).val < 256 := (y 0).isLt
  have e : (accIx (t * 256 + (y 0).val) (y 1).val 0).val = t * 256 + (y 0).val := Nat.mod_eq_of_lt (by omega)
  unfold Blocks.A0
  rw [e, show (t * 256 + (y 0).val) / 256 = t by omega]
  refine congrArg (k0_pay2 (F := F) (B.T0 c t)) (funext fun a => ?_)
  match a with
  | 0 => exact Fin.ext (by show (y 0).val = (t * 256 + (y 0).val) % 256; omega)
  | 1 => exact Fin.ext (by show (y 1).val = (y 1).val % 128; exact (Nat.mod_eq_of_lt (y 1).isLt).symm)

/-- A dead load and the store of a step's weighted values. -/
theorem acc_put {α : Type} {Kt : α → sProp 𝕄} {t : ℕ} (ht : t < 4) {off : Fin 2 → ℕ} (hoff : off = ![t * 256, 0]) {inb inb' hl hx hm}
    {k' : PUnit → Prog (TpuEff nD τ sig (Elt F) Λ₀ .tc) α} :
    accAny c (blk 1 t) ⊢ iprop((accPt c (blk 1 t) (B.A0 c) -∗ run c (k' ⟨⟩) Kt)
      -∗ run c (.op (.load accM (Rect.unit (s := S1024x128) off S256x128.size inb).toLoadRect hl) fun _ =>
        Prog.lift (.store accM (Rect.unit (s := S1024x128) off S256x128.size inb') (k0_pay2 (F := F) (B.T0 c t)) Finset.univ hx hm) >>= k') Kt) := by
  unfold accAny
  iintro ⟨%f, H⟩ Hk
  iapply (load_rows (q := t) (k := 1) (n := 256) hoff inb rfl (by decide) c) $$ H
  iintro H
  iapply opStep
  iapply (store_rows (q := t) (k := 1) (n := 256) hoff inb' rfl (by decide) c (fun y => A0_at B c t y ht)) $$ H
  iexact Hk

theorem out_put' {α : Type} {Kt : α → sProp 𝕄} {m : Memref sig .tc .vmem S4x32x8x128 .f32}
    {X Y : S4x32x8x128.Idx → Elt F .f32} {inb inb' hl hx hm} {k' : PUnit → Prog (TpuEff nD τ sig (Elt F) Λ₀ .tc) α} :
    owns (c : Thread nD τ) m fullShare X ⊢ iprop((owns (c : Thread nD τ) m fullShare Y -∗ run c (k' ⟨⟩) Kt)
      -∗ run c (.op (.load m (Rect.unit (s := S4x32x8x128) ![0, 0, 0, 0] S4x32x8x128.size inb).toLoadRect hl) fun _ =>
        Prog.lift (.store m (Rect.unit (s := S4x32x8x128) ![0, 0, 0, 0] S4x32x8x128.size inb') Y Finset.univ hx hm) >>= k') Kt) :=
  out_put

theorem blk_join (f : S1024x128.Idx → Elt F .f32) (s : Fin 2) :
    iprop(accPt c (blk 1 (2 * s.val)) f ∗ accPt c (blk 1 (2 * s.val + 1)) f) ⊢ (accPt c (K 0 s c) f : sProp 𝕄) := by
  have e : K 0 s c = blk 1 (2 * s.val) ∪ blk 1 (2 * s.val + 1) := by
    show blk 0 (num 0 s c) = _
    rw [num_zero]; exact blk_split 0 s.val
  rw [e]
  exact (accPt_union c (blk_disjoint 1 (by omega)) f).2

theorem all_rows : (Finset.univ : Finset S1024x128.Idx) = K 0 0 c ∪ K 0 1 c := by
  ext i
  have hi : (i 0).val < 1024 := (i 0).isLt
  simp only [Finset.mem_univ, Finset.mem_union, K, num_zero, true_iff]
  rw [mem_blk, mem_blk]
  show (i 0).val / 512 = 0 ∨ (i 0).val / 512 = 1
  omega

theorem acc_all (f : S1024x128.Idx → Elt F .f32) : iprop(accPt c (K 0 0 c) f ∗ accPt c (K 0 1 c) f) ⊢ (accPt c Finset.univ f : sProp 𝕄) := by
  rw [all_rows c]
  exact (accPt_union c (by unfold K; rw [num_zero, num_zero]; exact blk_disjoint 0 (by decide)) f).2

theorem acc_load {α : Type} {Kt : α → sProp 𝕄} {f : S1024x128.Idx → Elt F .f32} {inb hl}
    {k' : (S1024x128.Idx → Elt F .f32) → Prog (TpuEff nD τ sig (Elt F) Λ₀ .tc) α} :
    accPt c Finset.univ f ⊢ iprop((accPt c Finset.univ f -∗ run c (k' f) Kt)
      -∗ run c (.op (.load accM (Rect.unit (s := S1024x128) ![0, 0] S1024x128.size inb).toLoadRect hl) k') Kt) := by
  have e := Memref.readAt_unit_zero (Elt F) cc0_scratch0 (off := ![0, 0]) (by decide) inb f
  have hw : accPt c Finset.univ f ⊢ iprop((accPt c Finset.univ f -∗ run c (k' (accM.view.readAt (Elt F) (Rect.unit (s := S1024x128) ![0, 0] S1024x128.size inb).toLoadRect f)) Kt)
      -∗ run c (.op (.load accM (Rect.unit (s := S1024x128) ![0, 0] S1024x128.size inb).toLoadRect hl) k') Kt) :=
    wp_load 𝒱₀ (c : Thread nD τ) none Set.univ (m := accM) (Finset.subset_univ _)
  rw [show accM.view.readAt (Elt F) (Rect.unit (s := S1024x128) ![0, 0] S1024x128.size inb).toLoadRect f = f from e] at hw
  exact hw

/-- Half `s` before its first round. -/
theorem rs_begin (s : Fin 2) : iprop(fut B.A0 B.L0 s 0 c ∗ accPt c (blk 1 (2 * s.val)) (B.A0 c) ∗ accPt c (blk 1 (2 * s.val + 1)) (B.A0 c))
    ⊢ RsReady B.A0 B.L0 s 0 c := by
  unfold RsReady past held
  rw [Finset.range_zero, BI.bigSep_empty, BI.bigSep_empty]
  iintro ⟨Hf, H0, H1⟩
  isplitl [Hf]; · iexact Hf
  isplitr; · iempintro
  isplitr; · iempintro
  iapply (blk_join c (B.A0 c) s)
  isplitl [H0]; · iexact H0
  iexact H1

theorem l_begin : iprop(futL B.A0 B.L0 0 c ∗ lSt (B.L0 c) 4 0 c) ⊢ LReady B.A0 B.L0 0 c := by
  unfold LReady pastL
  rw [Finset.range_zero, BI.bigSep_empty]
  iintro ⟨Hf, H⟩
  isplitl [Hf]; · iexact Hf
  isplitr; · iempintro
  iapply (lSt_done (B.L0 c) c); iexact H

/-! ## Before and after the steps -/

/-- What a device owes before step `t`. -/
def debt (c : Dev nD) : ℕ → CellTallies nD τ sig Unit
  | 0 => owesBar c [0, 1, 2, 3, 4]
  | 1 => owesOf c copies
  | 2 => owesOf c (copies.drop 1)
  | 3 => owesOf c (copies.drop 1)
  | _ => 0

def owingAt (c : Dev nD) (t : ℕ) : sProp 𝕄 := iprop(levAts L lv ∗ ∃ W, owes (c : Thread nD τ) (debt c t) W)

/-- What it holds before step `t` of the scratch buffers and for the copies. -/
def state : ℕ → sProp 𝕄
  | 0 => iprop(lSt (B.L0 c) 0 0 c ∗ accAny c (blk 1 0) ∗ accAny c (blk 1 1) ∗ accAny c (blk 1 2) ∗ accAny c (blk 1 3) ∗ unmet B.A0 B.L0 c)
  | 1 => iprop(lSt (B.L0 c) 1 0 c ∗ accAny c (blk 1 1) ∗ accAny c (blk 1 2) ∗ accAny c (blk 1 3) ∗ accPt c (blk 1 0) (B.A0 c)
      ∗ semVal (barCell c) 0 ∗ armed B.A0 B.L0 c)
  | 2 => iprop(lSt (B.L0 c) 2 0 c ∗ accAny c (blk 1 2) ∗ accAny c (blk 1 3)
      ∗ semVal (barCell c) 0 ∗ RsSent B.A0 B.L0 0 0 c ∗ fut B.A0 B.L0 1 0 c ∗ futL B.A0 B.L0 0 c)
  | 3 => iprop(lSt (B.L0 c) 3 0 c ∗ accAny c (blk 1 3) ∗ accPt c (blk 1 2) (B.A0 c)
      ∗ semVal (barCell c) 0 ∗ RsSent B.A0 B.L0 0 0 c ∗ fut B.A0 B.L0 1 0 c ∗ futL B.A0 B.L0 0 c)
  | _ => iprop((∃ f, lPt c f) ∗ accAny c Finset.univ
      ∗ semVal (barCell c) 0 ∗ past 0 10 c ∗ past 1 10 c ∗ pastL 5 c)

/-- The result block a device writes. -/
def Blocks.out (c : Dev nD) : S4x32x8x128.Idx → Elt F .f32 := k0_pay3 (F := F) (finV B.A0) (lV B.L0 5 c)

def outAt (w : Win) (c : Dev nD) (t : ℕ) : sProp 𝕄 :=
  if t = 4 then owns (c : Thread nD τ) w.o fullShare (B.out c) else iprop(∃ X, owns (c : Thread nD τ) w.o fullShare X)

theorem outAt_ne {t : ℕ} (h : t ≠ 4) : outAt B w c t = iprop(∃ X, owns (c : Thread nD τ) w.o fullShare X) := if_neg h
theorem outAt_four : outAt B w c 4 = owns (c : Thread nD τ) w.o fullShare (B.out c) := if_pos rfl

/-- After the meeting of step 0, or before any other step: all but the step's own rows and row sums. -/
def midst : ℕ → sProp 𝕄
  | 0 => iprop(owing c copies ∗ accAny c (blk 1 1) ∗ accAny c (blk 1 2) ∗ accAny c (blk 1 3) ∗ semVal (barCell c) 0 ∗ armed B.A0 B.L0 c)
  | 1 => iprop(owing c copies ∗ accAny c (blk 1 2) ∗ accAny c (blk 1 3) ∗ accPt c (blk 1 0) (B.A0 c)
      ∗ semVal (barCell c) 0 ∗ armed B.A0 B.L0 c)
  | 2 => iprop(owing c (copies.drop 1) ∗ accAny c (blk 1 3)
      ∗ semVal (barCell c) 0 ∗ RsSent B.A0 B.L0 0 0 c ∗ fut B.A0 B.L0 1 0 c ∗ futL B.A0 B.L0 0 c)
  | _ => iprop(owing c (copies.drop 1) ∗ accPt c (blk 1 2) (B.A0 c)
      ∗ semVal (barCell c) 0 ∗ RsSent B.A0 B.L0 0 0 c ∗ fut B.A0 B.L0 1 0 c ∗ futL B.A0 B.L0 0 c)

theorem part33 {t : ℕ} (ht : t < 4) (hi : (i 0).val = t) (h1 : k0_cond1 i = 1#1 ↔ t = 0) (a v2 v5 v8 v9 v10 v11 v12 v13 c2) :
    iprop(owingAt c t ∗ state B c t ∗ ins w B c t ∗ ∃ f, tmpPt c f) ⊢ run c (w.on (k0_part33 (F := F) i) a c v2 v5 v8 v9 v10 v11 v12 v13 c2) fun x =>
      iprop(⌜Firsts B (i 0).val c x⌝ ∗ loc w B c (i 0).val 0 0 ∗ accAny c (blk 1 t) ∗ midst B c t) := by
  rcases t with _ | _ | _ | _ | t
  · iintro ⟨HO, HS, HI, ⟨%f, HT⟩⟩
    simp only [state]
    icases HS with ⟨HL, H0, H1, H2, H3, HU⟩
    iapply (wp_wand _ _) $$ [HO HU HI HT HL]
    · iapply (part33_met B.A0 B.L0 w i c (h1.mpr rfl) B a v2 v5 v8 v9 v10 v11 v12 v13 c2)
      rw [hi]
      isplitl [HO HU]
      · isplitl [HO]; · iapply (show owingAt c 0 ⊢ owingBar c [0, 1, 2, 3, 4] from .rfl); iexact HO
        iexact HU
      unfold loc
      isplitl [HI]; · iexact HI
      isplitl [HL]; · iexact HL
      iapply (tSt_any _ c f); iexact HT
    iintro %x ⟨%hx, HL, Hs, HA, HO⟩
    isplitr; · ipureintro; exact hx
    isplitl [HL]; · iexact HL
    isplitl [H0]; · iexact H0
    simp only [midst]
    isplitl [HO]; · iexact HO
    isplitl [H1]; · iexact H1
    isplitl [H2]; · iexact H2
    isplitl [H3]; · iexact H3
    isplitl [Hs]; · iexact Hs
    iexact HA
  all_goals first
    | exact absurd ht (by omega)
    | (iintro ⟨HO, HS, HI, ⟨%f, HT⟩⟩
       simp only [state]
       icases HS with ⟨HL, H0, HS⟩
       iapply (wp_wand _ _) $$ [HI HT HL]
       · iapply (part33_off w i c B (fun h => absurd (h1.mp h) (by omega)) a v2 v5 v8 v9 v10 v11 v12 v13 c2)
         rw [hi]
         unfold loc
         isplitl [HI]; · iexact HI
         isplitl [HL]; · iexact HL
         iapply (tSt_any _ c f); iexact HT
       iintro %x ⟨%hx, HL⟩
       isplitr; · ipureintro; exact hx
       isplitl [HL]; · iexact HL
       isplitl [H0]; · iexact H0
       simp only [midst]
       isplitl [HO]
       · first
           | iapply (show owingAt c 1 ⊢ owing c copies from .rfl)
             iexact HO
           | iapply (show owingAt c 2 ⊢ owing c (copies.drop 1) from .rfl)
             iexact HO
           | iapply (show owingAt c 3 ⊢ owing c (copies.drop 1) from .rfl)
             iexact HO
       iexact HS)

set_option maxHeartbeats 4000000 in
theorem body_run {t : ℕ} (ht : t < 4) (hi : (i 0).val = t) (h1 : k0_cond1 i = 1#1 ↔ t = 0) (h2 : k0_cond2 i = 1#1 ↔ t = 1) (h3' : k0_cond3 i = 1#1 ↔ t = 3) :
    iprop(owingAt c t ∗ state B c t ∗ ins w B c t ∗ (∃ f, tmpPt c f) ∗ outAt B w c t) ⊢ run c (w.on (cc0_body (F := F) i)) fun _ =>
      iprop(owingAt c (t + 1) ∗ state B c (t + 1) ∗ ins w B c t ∗ (∃ f, tmpPt c f) ∗ outAt B w c (t + 1)) := by
  dsimp only [Win.on]
  rw [cc0_body_eq_skeleton]
  unfold cc0_body_skel
  iintro ⟨HO, HS, HI, HT, HR⟩
  iapply (bindStep (part32 w i c _)) $$ HO
  iintro %x ⟨%hx, HO⟩
  obtain ⟨arg0, d0, v2, v5, v8, v9, v10, v11, v12, v13, v14, v15, v16, v34, c2⟩ := x
  obtain rfl : d0 = c := hx
  iapply (bindStep (part33 w B i d0 ht hi h1 _ _ _ _ _ _ _ _ _ _)) $$ [HO HS HI HT]
  · isplitl [HO]; · iexact HO
    isplitl [HS]; · iexact HS
    isplitl [HI]; · iexact HI
    iexact HT
  iintro %x ⟨%hx, H, H0, HM⟩
  obtain ⟨v52, v61, v65, v66⟩ := x
  obtain ⟨h61, h65, h66⟩ := hx
  iapply (bindStep (part34 w B i d0 _ _ _ _ h61 h65 h66)) $$ H
  iintro %x ⟨%hx, H⟩
  iapply (bindStep (part35 w B i d0 _ _ hx)) $$ H
  iintro %x ⟨%hx, H⟩
  obtain ⟨v118, v121⟩ := x
  iapply (bindStep (part36 w B i d0 _ _ _ hx.1 hx.2)) $$ H
  iintro %x ⟨%hx, H⟩
  iapply (bindStep (part37 w B i d0 _ _ hx)) $$ H
  iintro %x ⟨%hx, H⟩
  obtain ⟨v171, v173, v174⟩ := x
  iapply (bindStep (part38 w B i d0 _ _ _ _ hx.1 hx.2.1 hx.2.2)) $$ H
  iintro %x ⟨%hx, H⟩
  subst hx
  iapply opStep
  iapply (loc_t_load w B d0) $$ H
  iintro %_ H
  iapply opStep
  iapply (loc_t w B d0 (h := 7) (fun x h1 => T0_at B d0 _ 7 x h1)) $$ H
  iintro H
  unfold loc
  icases H with ⟨HI, HL, HT⟩
  iapply opStep
  iapply t_load_all $$ HT
  iintro HT
  ihave HL := (lSt_next (B.L0 d0) (i 0).val d0) $$ HL
  rw [hi]
  have ho : k0_off9 i = ![t * 256, 0] := by rw [off9_eq, hi]
  iapply opStep
  iapply (acc_put B d0 ht ho) $$ H0
  iintro H0
  rcases t with _ | _ | _ | _ | t
  · simp only [midst]
    icases HM with ⟨HO, H1, H2, H3, Hs, HA⟩
    iapply (skipStep (fun h => absurd (h2.mp h) (by decide)))
    iapply (skipStep (fun h => absurd (h3'.mp h) (by decide)))
    iapply run_ret
    isplitl [HO]; · iapply (show owing d0 copies ⊢ owingAt d0 1 from .rfl); iexact HO
    isplitl [HL H0 H1 H2 H3 Hs HA]
    · simp only [state]
      isplitl [HL]; · iexact HL
      isplitl [H1]; · iexact H1
      isplitl [H2]; · iexact H2
      isplitl [H3]; · iexact H3
      isplitl [H0]; · iexact H0
      isplitl [Hs]; · iexact Hs
      iexact HA
    isplitl [HI]; · iexact HI
    isplitl [HT]; · unfold tSt; icases HT with ⟨%f, -, HT⟩; iexists f; iexact HT
    iapply (Entails.of_eq ((outAt_ne w B d0 (t := 0) (by decide)).trans (outAt_ne w B d0 (t := 1) (by decide)).symm)); iexact HR
  · simp only [midst, armed]
    icases HM with ⟨HO, H2, H3, Hd, Hs, HF0, HF1, HFL⟩
    ihave HA := (rs_begin B d0 0) $$ [HF0 Hd H0]
    · isplitl [HF0]; · iexact HF0
      isplitl [Hd]; · iexact Hd
      iexact H0
    iapply (takeStep (h2.mpr rfl))
    iapply opStep
    iapply (curS (l' := copies) rfl (rs_send B.A0 B.L0 (copies.drop 1) (r := 0) (by decide) 0 0 rfl rfl rfl (dev6_eq d0) (off10_eq d0) rfl rfl rfl)) $$ HA HO
    iintro ⟨HA, HO⟩
    iapply (skipStep (fun h => absurd (h3'.mp h) (by decide)))
    iapply run_ret
    isplitl [HO]; · iapply (show owing d0 (copies.drop 1) ⊢ owingAt d0 2 from .rfl); iexact HO
    isplitl [HL H2 H3 Hs HA HF1 HFL]
    · simp only [state]
      isplitl [HL]; · iexact HL
      isplitl [H2]; · iexact H2
      isplitl [H3]; · iexact H3
      isplitl [Hs]; · iexact Hs
      isplitl [HA]; · iexact HA
      isplitl [HF1]; · iexact HF1
      iexact HFL
    isplitl [HI]; · iexact HI
    isplitl [HT]; · unfold tSt; icases HT with ⟨%f, -, HT⟩; iexists f; iexact HT
    iapply (Entails.of_eq ((outAt_ne w B d0 (t := 1) (by decide)).trans (outAt_ne w B d0 (t := 2) (by decide)).symm)); iexact HR
  · simp only [midst]
    icases HM with ⟨HO, H3, Hs, HA, HF1, HFL⟩
    iapply (skipStep (fun h => absurd (h2.mp h) (by decide)))
    iapply (skipStep (fun h => absurd (h3'.mp h) (by decide)))
    iapply run_ret
    isplitl [HO]; · iapply (show owing d0 (copies.drop 1) ⊢ owingAt d0 3 from .rfl); iexact HO
    isplitl [HL H0 H3 Hs HA HF1 HFL]
    · simp only [state]
      isplitl [HL]; · iexact HL
      isplitl [H3]; · iexact H3
      isplitl [H0]; · iexact H0
      isplitl [Hs]; · iexact Hs
      isplitl [HA]; · iexact HA
      isplitl [HF1]; · iexact HF1
      iexact HFL
    isplitl [HI]; · iexact HI
    isplitl [HT]; · unfold tSt; icases HT with ⟨%f, -, HT⟩; iexists f; iexact HT
    iapply (Entails.of_eq ((outAt_ne w B d0 (t := 2) (by decide)).trans (outAt_ne w B d0 (t := 3) (by decide)).symm)); iexact HR
  · simp only [midst]
    icases HM with ⟨HO, Hd, Hs, HA, HF1, HFL⟩
    ihave HB := (rs_begin B d0 1) $$ [HF1 Hd H0]
    · isplitl [HF1]; · iexact HF1
      isplitl [Hd]; · iexact Hd
      iexact H0
    ihave HL := (l_begin B d0) $$ [HFL HL]
    · isplitl [HFL]; · iexact HFL
      iexact HL
    have h3 : k0_cond3 i = 1#1 := h3'.mpr rfl
    iapply (skipStep (fun h => absurd (h2.mp h) (by decide)))
    iapply (takeStep h3)
    iapply (cur (bindStep (part2 B.A0 B.L0 w i d0 h3 _ _ _ _))) $$ HO HB
    iintro %x2 ⟨HO, HB⟩
    obtain ⟨a2_0, a2_1⟩ := x2
    iapply (cur3 (bindStep (part3 B.A0 B.L0 w i d0 h3 _ _ _ _))) $$ HO HA HL
    iintro %x3
    obtain ⟨v278, v280⟩ := x3
    iintro ⟨%hx3, HO, HA, HL⟩
    iapply (cur3 (bindStep (part4 B.A0 B.L0 w i d0 h3 _ _ _ _ _ _ _ _ hx3))) $$ HO HA HB
    iintro %x4 ⟨HO, HA, HB⟩
    obtain ⟨a4_0, a4_1⟩ := x4
    iapply (cur (bindStep (part5 B.A0 B.L0 w i d0 h3 _ _ _ _ _ _ _))) $$ HO HB
    iintro %_ ⟨HO, HB⟩
    iapply (cur3 (bindStep (part6 B.A0 B.L0 w i d0 h3 _ _ _))) $$ HO HB HL
    iintro %_ ⟨HO, HB, HL⟩
    iapply (cur3 (bindStep (part7 B.A0 B.L0 w i d0 h3 _ _ _))) $$ HO HA HL
    iintro %_ ⟨HO, HA, HL⟩
    iapply (cur (bindStep (part8 B.A0 B.L0 w i d0 h3 _ _ _ _ _ _))) $$ HO HA
    iintro %_ ⟨HO, HA⟩
    iapply (cur (bindStep (part9 B.A0 B.L0 w i d0 h3 _ _ _ _ _))) $$ HO HB
    iintro %_ ⟨HO, HB⟩
    iapply (cur3 (bindStep (part10 B.A0 B.L0 w i d0 h3 _ _ _ _ _))) $$ HO HB HL
    iintro %x10
    iintro ⟨%hx10, HO, HB, HL⟩
    subst hx10
    iapply (cur3 (bindStep (part11 B.A0 B.L0 w i d0 h3 _ _ _))) $$ HO HA HL
    iintro %x11 ⟨HO, HA, HL⟩
    obtain ⟨a11_0, a11_1⟩ := x11
    iapply (cur (bindStep (part12 B.A0 B.L0 w i d0 h3 _ _ _ _ _ _ _ _))) $$ HO HA
    iintro %_ ⟨HO, HA⟩
    iapply (cur3 (bindStep (part13 B.A0 B.L0 w i d0 h3 _ _ _ _))) $$ HO HA HB
    iintro %x13
    iintro ⟨%hx13, HO, HA, HB⟩
    iapply (cur3 (bindStep (part14 B.A0 B.L0 w i d0 h3 _ _ _ _ _ _ _ _ hx13))) $$ HO HB HL
    iintro %x14 ⟨HO, HB, HL⟩
    obtain ⟨a14_0, a14_1, a14_2⟩ := x14
    iapply (cur (bindStep (part15 B.A0 B.L0 w i d0 h3 _ _ _ _ _))) $$ HO HL
    iintro %_ ⟨HO, HL⟩
    iapply (cur (bindStep (part16 B.A0 B.L0 w i d0 h3 _ _ _ _ _))) $$ HO HA
    iintro %x16 ⟨HO, HA⟩
    obtain ⟨a16_0, a16_1⟩ := x16
    iapply (cur3 (bindStep (part17 B.A0 B.L0 w i d0 h3 _ _ _ _ _ _ _))) $$ HO HA HB
    iintro %_ ⟨HO, HA, HB⟩
    iapply (cur (bindStep (part18 B.A0 B.L0 w i d0 h3 _ _ _ _ _ _))) $$ HO HB
    iintro %_ ⟨HO, HB⟩
    iapply (cur (bindStep (part19 B.A0 B.L0 w i d0 _ _ _ _ _))) $$ HO HL
    iintro %_ ⟨HO, HL⟩
    iapply (cur3 (bindStep (part20 B.A0 B.L0 w i d0 h3 _ _ _ _))) $$ HO HA HL
    iintro %_ ⟨HO, HA, HL⟩
    iapply (cur3 (bindStep (part21 B.A0 B.L0 w i d0 h3 _ _ _ _ _ _))) $$ HO HA HB
    iintro %_ ⟨HO, HA, HB⟩
    iapply (cur (bindStep (part22 B.A0 B.L0 w i d0 h3 _ _ _ _ _))) $$ HO HB
    iintro %_ ⟨HO, HB⟩
    iapply (cur3 (bindStep (part23 B.A0 B.L0 w i d0 h3 _ _ _))) $$ HO HA HL
    iintro %_ ⟨HO, HA, HL⟩
    iapply (cur3 (bindStep (part24 B.A0 B.L0 w i d0 h3 _ _ _ _ _ _ _ _))) $$ HO HA HB
    iintro %_ ⟨HO, HA, HB⟩
    iapply (cur3 (bindStep (part25 B.A0 B.L0 w i d0 h3 _ _ _ _ _))) $$ HO HA HB
    iintro %_ ⟨HO, HA, HB⟩
    iapply (cur3 (bindStep (part26 B.A0 B.L0 w i d0 h3 _ _ _ _ _ _ _))) $$ HO HA HB
    iintro %_ ⟨HO, HA, HB⟩
    iapply (cur3 (bindStep (part27 B.A0 B.L0 w i d0 h3 _ _ _ _ _ _))) $$ HO HA HB
    iintro %_ ⟨HO, HA, HB⟩
    iapply (cur3 (bindStep (part28 B.A0 B.L0 w i d0 h3 _ _ _ _ _ _ _ _))) $$ HO HA HB
    iintro %x28 ⟨HO, HA, HB⟩
    obtain ⟨a28_0, a28_1⟩ := x28
    iapply (cur3 (bindStep (part29 B.A0 B.L0 w i d0 h3 _ _ _ _ _ _ _ _))) $$ HO HA HB
    iintro %x29 ⟨HO, HA, HB⟩
    obtain ⟨a29_0, a29_1⟩ := x29
    iapply (cur3 (bindStep (part30 B.A0 B.L0 w i d0 h3 _ _ _ _ _ _ _))) $$ HO HA HB
    iintro %x30 ⟨HO, HA, HB⟩
    obtain ⟨a30_0, a30_1⟩ := x30
    iapply (cur3 (bindStep (part31 B.A0 B.L0 w i d0 h3 _ _ _ _ _))) $$ HO HA HB
    iintro %x31 ⟨HO, HA, HB⟩
    obtain ⟨a31_0, a31_1⟩ := x31
    iapply opStep
    iapply (cur (ag_wait_recv B.A0 B.L0 (copies.drop 25) (i := 9) (by decide) (by decide) 1 19 rfl (by decide) rfl rfl)) $$ HB HO
    iintro ⟨HB, HO⟩
    unfold AgReady LReady
    icases HA with ⟨-, HpA, -, Ha⟩
    icases HB with ⟨-, HpB, -, Hb⟩
    icases HL with ⟨-, HpL, HL⟩
    ihave Ha := (acc_all d0 (finV B.A0)) $$ [Ha Hb]
    · isplitl [Ha]; · iexact Ha
      iexact Hb
    iapply opStep
    iapply (acc_load d0) $$ Ha
    iintro Ha
    iapply opStep
    iapply l_load $$ HL
    iintro HL
    ihave HR := (Entails.of_eq (outAt_ne w B d0 (t := 3) (by decide))) $$ HR
    icases HR with ⟨%X, HR⟩
    iapply opStep
    iapply (out_put' (Y := B.out d0)) $$ HR
    iintro HR
    iapply run_ret
    isplitl [HO]; · iapply (show owing d0 (copies.drop 25) ⊢ owingAt d0 4 from .rfl); iexact HO
    isplitl [HL Ha Hs HpA HpB HpL]
    · simp only [state]
      isplitl [HL]; · iexists _; iexact HL
      isplitl [Ha]; · unfold accAny; iexists _; iexact Ha
      isplitl [Hs]; · iexact Hs
      isplitl [HpA]; · iexact HpA
      isplitl [HpB]; · iexact HpB
      iexact HpL
    isplitl [HI]; · iexact HI
    isplitl [HT]; · unfold tSt; icases HT with ⟨%f, -, HT⟩; iexists f; iexact HT
    iapply (Entails.of_eq (outAt_four w B d0).symm); iexact HR
  · exact absurd ht (by omega)

end Step

end Cert.KernelIdeal.Attn

end
-- ==== Proof.Oblig.lean ====
/-
# The launch's data and its obligation at each grid step

The blocks the four steps read, the table that picks a device's part of the keys and values, the data of the launch, and the
kernel's function meeting what the launch asks of it at every step.
-/
module

public import proofs.«01_k».proof.Proof.Body
public import proofs.«01_k».proof.Proof.Gen.KernelIdeal.Regions
public import Idealize.ShloMosaic.Lib.Pipeline.TableIdle

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window)

variable {F : FTy → Type} [FloatOps F]

local notation "𝕄" => MT nD τ sig Unit (Elt F) ℕ UU ℕ

/-! ## The table -/

/-- Which of the eight parts of its shard a device reads. -/
def part (c : Dev nD) : ℕ := c.val / 16 * 4 + c.val / 4 % 4

theorem part_lt (c : Dev nD) : part c < 8 := by
  have hc : c.val < 32 := c.isLt
  unfold part; omega

def tabOf (c : Dev nD) : pre0.Contents (Elt F)
  | 0 => fun _ => (BitVec.ofNat 32 (part c) : BitVec 32)
  | ⟨_ + 1, h⟩ => absurd h (Nat.not_lt.2 (Nat.le_add_left _ _))

theorem part_word (c : Dev nD) : (BitVec.ofNat 32 (part c)).toNat = part c := by
  have := part_lt c
  rw [BitVec.toNat_ofNat]; omega

theorem transform1 (c : Dev nD) (h a) (i : grid0.Coords) : cc0_transform_1 (F := F) h a (tabOf c) i = ![(BitVec.ofNat 32 (i 0).val).toNat, part c, 0, 0] := by
  show ![_, (BitVec.ofNat 32 (part c)).toNat, _, _] = _
  rw [part_word]; rfl

theorem row_word (i : grid0.Coords) : (BitVec.ofNat 32 (i 0).val).toNat = (i 0).val := by
  have : (i 0).val < 4 := (i 0).isLt
  rw [BitVec.toNat_ofNat]; omega

theorem tab_ok (c : Dev nD) : ok0 (F := F) (tabOf c) := by
  have key (h a) (i : grid0.Coords) (x : Fin 4) : (cc0_transform_1 (F := F) h a (tabOf c) i x + 1) * S1x512x8x128.size x ≤ S4x4096x8x128.size x := by
    rw [transform1, row_word]
    have h0 : (i 0).val < 4 := (i 0).isLt
    have hp := part_lt c
    match x with
    | 0 => show ((i 0).val + 1) * 1 ≤ 4; omega
    | 1 => show (part c + 1) * 512 ≤ 4096; omega
    | 2 => exact Nat.le_refl 8
    | 3 => exact Nat.le_refl 128
  exact ⟨fun i => ⟨key _ _ i, Or.inl rfl⟩, fun i => ⟨key _ _ i, Or.inl rfl⟩⟩

def adm (c : Dev nD) : (p : Fin 1) → (pcfgs (F := F) p).Adm := fun _ => ⟨tabOf c, tab_ok c⟩

/-! ## The blocks -/

variable (m : (ℓ : Loc nD τ sig) → Buf (Elt F) ℓ)

/-- The blocks of the queries, keys and values the steps read. -/
def blocks : Blocks F where
  q c t x := m ((c : Thread nD τ).loc main_arg0) (ix4 (n0 := 4) (n1 := 32) (n2 := 8) (n3 := 128) (Fin.ofNat 4 t) (x 1) (x 2) (x 3))
  k c t x := m ((c : Thread nD τ).loc main_arg1) (ix4 (n0 := 4) (n1 := 4096) (n2 := 8) (n3 := 128) (Fin.ofNat 4 t) (Fin.ofNat 4096 (part c * 512 + (x 1).val)) (x 2) (x 3))
  v c t x := m ((c : Thread nD τ).loc main_arg2) (ix4 (n0 := 4) (n1 := 4096) (n2 := 8) (n3 := 128) (Fin.ofNat 4 t) (Fin.ofNat 4096 (part c * 512 + (x 1).val)) (x 2) (x 3))

/-- The landing buffers outside the slots. -/
def spare (c : Dev nD) : sProp 𝕄 :=
  iprop(rbufAny c (Finset.univ \ ((Finset.range 5).biUnion fun r => rslot r 0 ∪ rslot r 1))
    ∗ rlAny c (Finset.univ \ ((Finset.range 5).biUnion lslot)))

abbrev cfgOf (c : Dev nD) : Cfg sig Λ₀ := Pipeline.pinD (pcfgs (F := F)) adm c 0

def after (c : Dev nD) : (w : Fin 4) → Fin grid0.N → ((spec0 w).block.Idx → Elt F (spec0 w).elt)
  | 0 => fun t => (blocks m).q c t.val
  | 1 => fun t => (blocks m).k c t.val
  | 2 => fun t => (blocks m).v c t.val
  | 3 => fun _ => (blocks m).out c
  | ⟨_ + 4, h⟩ => absurd h (Nat.not_lt.2 (Nat.le_add_left _ _))

def dat (c : Dev nD) : Dat τ (Elt F) Unit ℕ UU ℕ (cfgOf (F := F) c) c where
  A w := m ((c : Thread nD τ).loc (Pipeline.arrRef spec0 w))
  after := after m c
  Φ t := iprop(levAts L lv ∗ state (blocks m) c t.val ∗ (∃ f, tmpPt c f) ∗ spare c)
  q _ := fullShare
  owed t := debt c t.val

theorem coords_val (t : Fin grid0.N) : (grid0.coords t 0).val = t.val := by
  revert t; decide +kernel

theorem cond1_at (t : Fin grid0.N) : k0_cond1 (grid0.coords t) = 1#1 ↔ t.val = 0 := by revert t; decide +kernel
theorem cond2_at (t : Fin grid0.N) : k0_cond2 (grid0.coords t) = 1#1 ↔ t.val = 1 := by revert t; decide +kernel
theorem cond3_at (t : Fin grid0.N) : k0_cond3 (grid0.coords t) = 1#1 ↔ t.val = 3 := by revert t; decide +kernel

theorem row_eq (t : Fin grid0.N) : (BitVec.ofNat 32 (grid0.coords t 0).val).toNat = t.val := (row_word _).trans (coords_val t)

theorem point_lt (t : Fin grid0.N) : t.val < 4 := Nat.lt_of_lt_of_eq t.isLt N_0

theorem blockOf_q (c : Dev nD) (t : Fin grid0.N) : (dat m c).blockOf 0 t = (blocks m).q c t.val := by
  refine funext fun (x : S1x32x8x128.Idx) => ?_
  show m ((c : Thread nD τ).loc main_arg0) ((((cfgOf (F := F) c).win 0).rect t).emb x) = m ((c : Thread nD τ).loc main_arg0) _
  refine congrArg _ (funext fun (a : Fin 4) => Fin.ext ?_)
  refine (Pipeline.Window.rect_emb_val ((cfgOf (F := F) c).win 0) t x a rfl).trans ?_
  have ht := point_lt t
  have h0 : (x 0).val < 1 := (x 0).isLt
  match a with
  | 0 => show (BitVec.ofNat 32 (grid0.coords t 0).val).toNat * 1 + (x 0).val = t.val % 4; rw [row_eq]; omega
  | 1 => show 0 * 32 + (x 1).val = (x 1).val; omega
  | 2 => show 0 * 8 + (x 2).val = (x 2).val; omega
  | 3 => show 0 * 128 + (x 3).val = (x 3).val; omega

theorem blockOf_k (c : Dev nD) (t : Fin grid0.N) : (dat m c).blockOf 1 t = (blocks m).k c t.val := by
  refine funext fun (x : S1x512x8x128.Idx) => ?_
  show m ((c : Thread nD τ).loc main_arg1) ((((cfgOf (F := F) c).win 1).rect t).emb x) = m ((c : Thread nD τ).loc main_arg1) _
  refine congrArg _ (funext fun (a : Fin 4) => Fin.ext ?_)
  refine (Pipeline.Window.rect_emb_val ((cfgOf (F := F) c).win 1) t x a rfl).trans ?_
  have ht := point_lt t
  have hp := part_lt c
  have h0 : (x 0).val < 1 := (x 0).isLt
  have h1 : (x 1).val < 512 := (x 1).isLt
  match a with
  | 0 => show (BitVec.ofNat 32 (grid0.coords t 0).val).toNat * 1 + (x 0).val = t.val % 4; rw [row_eq]; omega
  | 1 => show (BitVec.ofNat 32 (part c)).toNat * 512 + (x 1).val = (part c * 512 + (x 1).val) % 4096; rw [part_word]; omega
  | 2 => show 0 * 8 + (x 2).val = (x 2).val; omega
  | 3 => show 0 * 128 + (x 3).val = (x 3).val; omega

theorem blockOf_v (c : Dev nD) (t : Fin grid0.N) : (dat m c).blockOf 2 t = (blocks m).v c t.val := by
  refine funext fun (x : S1x512x8x128.Idx) => ?_
  show m ((c : Thread nD τ).loc main_arg2) ((((cfgOf (F := F) c).win 2).rect t).emb x) = m ((c : Thread nD τ).loc main_arg2) _
  refine congrArg _ (funext fun (a : Fin 4) => Fin.ext ?_)
  refine (Pipeline.Window.rect_emb_val ((cfgOf (F := F) c).win 2) t x a rfl).trans ?_
  have ht := point_lt t
  have hp := part_lt c
  have h0 : (x 0).val < 1 := (x 0).isLt
  have h1 : (x 1).val < 512 := (x 1).isLt
  match a with
  | 0 => show (BitVec.ofNat 32 (grid0.coords t 0).val).toNat * 1 + (x 0).val = t.val % 4; rw [row_eq]; omega
  | 1 => show (BitVec.ofNat 32 (part c)).toNat * 512 + (x 1).val = (part c * 512 + (x 1).val) % 4096; rw [part_word]; omega
  | 2 => show 0 * 8 + (x 2).val = (x 2).val; omega
  | 3 => show 0 * 128 + (x 3).val = (x 3).val; omega

theorem before_q (c : Dev nD) (t : Fin grid0.N) (d) : (dat m c).before 0 t d = (blocks m).q c t.val :=
  ((dat m c).before_in_eq_fetched 0 rfl (fun _ => rfl) (fun _ _ _ => rfl) (fun t => (blockOf_q m c t).symm) t d).trans (blockOf_q m c t)

theorem before_k (c : Dev nD) (t : Fin grid0.N) (d) : (dat m c).before 1 t d = (blocks m).k c t.val :=
  ((dat m c).before_in_eq_fetched 1 rfl (fun _ => rfl) (fun _ _ _ => rfl) (fun t => (blockOf_k m c t).symm) t d).trans (blockOf_k m c t)

theorem before_v (c : Dev nD) (t : Fin grid0.N) (d) : (dat m c).before 2 t d = (blocks m).v c t.val :=
  ((dat m c).before_in_eq_fetched 2 rfl (fun _ => rfl) (fun _ _ _ => rfl) (fun t => (blockOf_v m c t).symm) t d).trans (blockOf_v m c t)

theorem flush_out (c : Dev nD) (t : Fin grid0.N) : ((cfgOf (F := F) c).win 3).flush t = true ↔ t.val = 3 := by
  have h := Window.flush_const ((cfgOf (F := F) c).win 3) rfl (fun _ _ => rfl) (n := 4) (m := 3) N_0 rfl t
  have := point_lt t
  rw [h]; omega

/-- Before the last step the result's staging buffer may hold anything. -/
theorem before_out (c : Dev nD) (t : Fin grid0.N) (d) : (dat m c).before 3 t d = d := by
  have h := (dat m c).before_idle_run 3 (fun t => ((cfgOf (F := F) c).win 3).fetch_out rfl t) d t.val t (Nat.le_refl _) fun j _ hj => by
    have ht := point_lt t
    refine ⟨?_, ?_⟩
    · show (!(k0_cond3 (grid0.coords j) == 1#1)) = true
      rw [beq_false_of_ne (fun e => absurd ((cond3_at j).mp e) (by omega))]; rfl
    · rw [← Bool.not_eq_true, flush_out c j]; omega
  rw [h]
  exact (dat m c).before_out_reset 3 rfl _ (Or.inl (by show t.val - t.val = 0; omega)) d

theorem owesAt_elim (c : Dev nD) (t : Fin (grid0.N + 1)) : (dat m c).owesAt () t ⊢ iprop(∃ W, owes (c : Thread nD τ) (debt c t.val) W) := by
  have h0 : (dat m c).owed t = debt c t.val := rfl
  unfold Dat.owesAt Pipeline.owesWithin
  rw [h0]
  iintro ⟨%W, -, HO⟩; iexists W; iexact HO

theorem owesAt_intro (c : Dev nD) (t : Fin (grid0.N + 1)) : iprop(∃ W, owes (c : Thread nD τ) (debt c t.val) W) ⊢ (dat m c).owesAt () t := by
  have h0 : (dat m c).owed t = debt c t.val := rfl
  have hr : (dat m c).recorded t = Set.univ := rfl
  iintro ⟨%W, HO⟩
  unfold Dat.owesAt Pipeline.owesWithin Dat.bound; rw [h0, hr]
  iexists W
  isplitr
  · ipureintro; exact fun _ _ => Or.inl trivial
  iexact HO

/-- The staged operands at point `t`. -/
def winAt (c : Dev nD) (t : Fin grid0.N) : Win :=
  let s := (cfgOf (F := F) c).slots t
  ⟨Memref.whole main_v11, Memref.isWhole_whole _, spec0_0.stage (s 0), hstage0_0 ((s 0).cast nbuf0_0), spec0_1.stage (s 1), hstage0_1 ((s 1).cast nbuf0_1),
    spec0_2.stage (s 2), hstage0_2 ((s 2).cast nbuf0_2), spec0_3.stage (s 3), hstage0_3 ((s 3).cast nbuf0_3)⟩

theorem body_at (c : Dev nD) (t : Fin grid0.N) :
    iprop(owingAt c t.val ∗ state (blocks m) c t.val ∗ ins (winAt (F := F) c t) (blocks m) c t.val ∗ (∃ f, tmpPt c f) ∗ outAt (blocks m) (winAt (F := F) c t) c t.val)
    ⊢ wp frame (wpE (defs₀ (F := F)) 𝒱₀ (c : Thread nD τ) none) Set.univ
        (defs₀ (F := F) .tc (cfgOf (F := F) c).body ((cfgOf (F := F) c).bodyArgs t ((cfgOf (F := F) c).slots t))) fun _ =>
      iprop(owingAt c (t.val + 1) ∗ state (blocks m) c (t.val + 1) ∗ ins (winAt (F := F) c t) (blocks m) c t.val ∗ (∃ f, tmpPt c f)
        ∗ outAt (blocks m) (winAt (F := F) c t) c (t.val + 1)) :=
  body_run (winAt (F := F) c t) (blocks m) (grid0.coords t) c (point_lt t) (coords_val t) (cond1_at t) (cond2_at t) (cond3_at t)

section Leaves
variable {cfg : Cfg sig Λ₀} {c : Dev nD} (dat : Dat τ (Elt F) Unit ℕ UU ℕ cfg c) (w : Fin cfg.W) (t : Fin cfg.N)

theorem leaves_live (h : cfg.idle w (cfg.grid.coords t) = false) :
    owns (c : Thread nD τ) ((cfg.win w).stage (cfg.slots t w)) fullShare (dat.after w t) ⊢ (dat.leavesExact w t : sProp 𝕄) := by
  unfold Dat.leavesExact; rw [h]

theorem leaves_idle (h : cfg.idle w (cfg.grid.coords t) = true) (hf : (cfg.win w).flush t = false) :
    iprop(∃ d, owns (c : Thread nD τ) ((cfg.win w).stage (cfg.slots t w)) fullShare (dat.before w t d)) ⊢ (dat.leavesExact w t : sProp 𝕄) := by
  unfold Dat.leavesExact; rw [h, hf]

end Leaves

/-- What the launch asks of the kernel's function, at every point. -/
theorem obligation (c : Dev nD) : Pipeline.BodyObligation (dat m c) (defs₀ (F := F)) 𝒱₀ () Set.univ := fun t => by
  have hin : (bigSep Finset.univ fun w : Fin 4 => iprop(∃ d, owns (c : Thread nD τ) (((cfgOf (F := F) c).win w).stage ((cfgOf (F := F) c).slots t w)) fullShare ((dat m c).before w t d)) : sProp 𝕄)
      ⊢ iprop(ins (winAt (F := F) c t) (blocks m) c t.val ∗ outAt (blocks m) (winAt (F := F) c t) c t.val) := by
    rw [bigSep_W0, outAt_ne _ _ _ (by have := point_lt t; omega)]
    unfold ins
    iintro ⟨⟨%d0, H0⟩, ⟨%d1, H1⟩, ⟨%d2, H2⟩, ⟨%d3, H3⟩⟩
    isplitl [H0 H1 H2]
    · isplitl [H0]; · iapply (Entails.of_eq (congrArg (owns (c : Thread nD τ) (winAt (F := F) c t).q fullShare) (before_q m c t d0))); iexact H0
      isplitl [H1]; · iapply (Entails.of_eq (congrArg (owns (c : Thread nD τ) (winAt (F := F) c t).k fullShare) (before_k m c t d1))); iexact H1
      iapply (Entails.of_eq (congrArg (owns (c : Thread nD τ) (winAt (F := F) c t).v fullShare) (before_v m c t d2))); iexact H2
    iexists _; iexact H3
  have hout : iprop(ins (winAt (F := F) c t) (blocks m) c t.val ∗ outAt (blocks m) (winAt (F := F) c t) c (t.val + 1))
      ⊢ (bigSep Finset.univ fun w : Fin 4 => (dat m c).leavesExact w t : sProp 𝕄) := by
    rw [bigSep_W0]
    unfold ins
    have h3 : outAt (blocks m) (winAt (F := F) c t) c (t.val + 1) ⊢ ((dat m c).leavesExact (3 : Fin 4) t : sProp 𝕄) := by
      by_cases h : t.val = 3
      · have hi : (cfgOf (F := F) c).idle 3 ((cfgOf (F := F) c).grid.coords t) = false := by
          show (!(k0_cond3 (grid0.coords t) == 1#1)) = false
          rw [(cond3_at t).mpr h]; rfl
        rw [h, outAt_four]
        exact leaves_live (dat m c) 3 t hi
      · have hi : (cfgOf (F := F) c).idle 3 ((cfgOf (F := F) c).grid.coords t) = true := by
          show (!(k0_cond3 (grid0.coords t) == 1#1)) = true
          rw [beq_false_of_ne (fun e => absurd ((cond3_at t).mp e) h)]; rfl
        have hf : ((cfgOf (F := F) c).win 3).flush t = false := by rw [← Bool.not_eq_true, flush_out c t]; exact h
        rw [outAt_ne _ _ _ (by omega)]
        iintro ⟨%X, H⟩
        iapply (leaves_idle (dat m c) 3 t hi hf)
        iexists X
        iapply (Entails.of_eq (congrArg (owns (c : Thread nD τ) (winAt (F := F) c t).o fullShare) (before_out m c t X).symm)); iexact H
    iintro ⟨⟨H0, H1, H2⟩, H3⟩
    isplitl [H0]; · iexact H0
    isplitl [H1]; · iexact H1
    isplitl [H2]; · iexact H2
    iapply h3; iexact H3
  have key := body_at m c t
  iintro ⟨HP, HO, HW⟩
  ihave HW := hin $$ HW
  icases HW with ⟨HI, HR⟩
  ihave HO := (owesAt_elim m c t.castSucc) $$ HO
  ihave HP := (show (dat m c).Φ t.castSucc ⊢ iprop(levAts L lv ∗ state (blocks m) c t.val ∗ (∃ f, tmpPt c f) ∗ spare c) from .rfl) $$ HP
  icases HP with ⟨Hlev, HS, HT, HB⟩
  iapply (wp_wand _ _) $$ [HO Hlev HS HT HI HR]
  · iapply key
    isplitl [HO Hlev]
    · unfold owingAt
      isplitl [Hlev]; · iexact Hlev
      iexact HO
    isplitl [HS]; · iexact HS
    isplitl [HI]; · iexact HI
    isplitl [HT]; · iexact HT
    iexact HR
  iintro %_ ⟨HO, HS, HI, HT, HR⟩
  unfold owingAt
  icases HO with ⟨Hlev, HO⟩
  isplitl [Hlev HS HT HB]
  · iapply (show iprop(levAts L lv ∗ state (blocks m) c (t.val + 1) ∗ (∃ f, tmpPt c f) ∗ spare c) ⊢ (dat m c).Φ t.succ from .rfl)
    isplitl [Hlev]; · iexact Hlev
    isplitl [HS]; · iexact HS
    isplitl [HT]; · iexact HT
    iexact HB
  isplitl [HO]
  · iapply (owesAt_intro m c t.succ); iexact HO
  iapply hout
  isplitl [HI]; · iexact HI
  iexact HR

end Cert.KernelIdeal.Attn

end
-- ==== Proof.Deal.lean ====
/-
# What the launch deals out

The counters' cells, the tokens of the duties, who is dealt which, and the credit every device starts with: five units at its
barrier cell and, at each of its receive cells, the completion of its partner's copy.
-/
module

public import proofs.«01_k».proof.Proof.Oblig

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

/-- The kernel's own semaphores: the send, then the receive semaphore of every copy. -/
def osem (p : Fin 2 × Fin 25) : SemLoc sig := .dma (if p.1 = 0 then ssem p.2 else rsem p.2)

theorem osem_inj : Function.Injective osem := by decide +kernel
theorem osem_ne_bar (p : Fin 2 × Fin 25) : osem p ≠ .reg barrier0 := fun h => by cases h

abbrev ownCell (p : Dev nD × (Fin 2 × Fin 25)) : GSem nD τ sig := ((p.1 : Thread nD τ), osem p.2)

def barEmb : Dev nD ↪ GSem nD τ sig := ⟨fun c => barCell c, fun _ _ h => congrArg (fun g : GSem nD τ sig => g.1.1) h⟩
def ownEmb : Dev nD × (Fin 2 × Fin 25) ↪ GSem nD τ sig :=
  ⟨ownCell, fun _ _ h => Prod.ext (congrArg (fun g : GSem nD τ sig => g.1.1) h) (osem_inj (congrArg Prod.snd h))⟩

def barCells : Finset (GSem nD τ sig) := Finset.univ.map barEmb
def ownCells : Finset (GSem nD τ sig) := Finset.univ.map ownEmb

def barTok : Dev nD × Fin 5 ↪ GSem nD τ sig × ℕ × Fin 5 :=
  ⟨fun p => (barCell p.1, 0, p.2), fun _ _ h => Prod.ext (barEmb.injective (congrArg Prod.fst h))
    (congrArg (fun t : GSem nD τ sig × ℕ × Fin 5 => t.2.2) h)⟩
def ownTok : Dev nD × (Fin 2 × Fin 25) ↪ GSem nD τ sig × ℕ × Fin 5 :=
  ⟨fun p => (ownCell p, 0, 0), fun _ _ h => ownEmb.injective (congrArg Prod.fst h)⟩

def barToks : Finset (GSem nD τ sig × ℕ × Fin 5) := Finset.univ.map barTok
def ownToks : Finset (GSem nD τ sig × ℕ × Fin 5) := Finset.univ.map ownTok

theorem disjoint_cells : Disjoint barCells ownCells := by
  refine Finset.disjoint_left.mpr fun g h₁ h₂ => ?_
  obtain ⟨c, -, rfl⟩ := Finset.mem_map.mp h₁
  obtain ⟨p, -, h⟩ := Finset.mem_map.mp h₂
  exact osem_ne_bar p.2 (congrArg Prod.snd h)

theorem disjoint_toks : Disjoint barToks ownToks := by
  refine Finset.disjoint_left.mpr fun g h₁ h₂ => ?_
  obtain ⟨c, -, rfl⟩ := Finset.mem_map.mp h₁
  obtain ⟨p, -, h⟩ := Finset.mem_map.mp h₂
  exact osem_ne_bar p.2 (congrArg (fun t : GSem nD τ sig × ℕ × Fin 5 => t.1.2) h)

theorem bar_mem (c : Dev nD) : barCell c ∈ barCells ∪ ownCells :=
  Finset.mem_union_left _ (Finset.mem_map_of_mem barEmb (Finset.mem_univ c))
theorem s_mem (k : Fin 25) (c : Dev nD) : sCell k c ∈ barCells ∪ ownCells :=
  Finset.mem_union_right _ (Finset.mem_map_of_mem ownEmb (Finset.mem_univ (c, ((0 : Fin 2), k))))
theorem r_mem (k : Fin 25) (c : Dev nD) : rCell k c ∈ barCells ∪ ownCells :=
  Finset.mem_union_right _ (Finset.mem_map_of_mem ownEmb (Finset.mem_univ (c, ((1 : Fin 2), k))))

/-! ## Families over the cells, device by device -/

section Families
omit [FloatOps F]

theorem over_bar (Φ : GSem nD τ sig → sProp 𝕄) : bigSep barCells Φ = bigSep Finset.univ fun c : Dev nD => Φ (barCell c) :=
  bigSep_map (s := Finset.univ) barEmb (Φ := Φ)

theorem own_one (c : Dev nD) (Φ : GSem nD τ sig → sProp 𝕄) : (bigSep Finset.univ fun p : Fin 2 × Fin 25 => Φ (ownCell (c, p)))
    = iprop((bigSep Finset.univ fun k : Fin 25 => Φ (sCell k c)) ∗ bigSep Finset.univ fun k : Fin 25 => Φ (rCell k c)) := by
  have e := BI.bigSep_fin_two (fun s : Fin 2 => bigSep Finset.univ fun k : Fin 25 => Φ (ownCell (c, (s, k))))
  exact (bigSep_univ_prod _).trans e

theorem over_own (Φ : GSem nD τ sig → sProp 𝕄) : bigSep ownCells Φ
    = bigSep Finset.univ fun c : Dev nD => iprop((bigSep Finset.univ fun k : Fin 25 => Φ (sCell k c)) ∗ bigSep Finset.univ fun k : Fin 25 => Φ (rCell k c)) := by
  unfold ownCells
  rw [bigSep_map, bigSep_univ_prod]
  exact bigSep_congr fun c _ => own_one c Φ

/-- A family over devices and partners, each taken at the partner. -/
theorem across {n : ℕ} (d : Fin n → Fin 5) (Ψ : Fin n → Dev nD → sProp 𝕄) :
    (bigSep Finset.univ fun c : Dev nD => bigSep Finset.univ fun k : Fin n => Ψ k c)
      = bigSep Finset.univ fun c : Dev nD => bigSep Finset.univ fun k : Fin n => Ψ k (peer (d k) c) := by
  rw [bigSep_univ_comm, bigSep_univ_comm (fun (c : Dev nD) (k : Fin n) => Ψ k (peer (d k) c))]
  exact bigSep_congr fun k _ => bigSep_univ_equiv (swap (d k)) (Ψ k)

/-- The tokens of the duties a device pays. -/
def payToks (c : Dev nD) : sProp 𝕄 :=
  iprop((bigSep Finset.univ fun r : Fin 5 => dutyTok ER (barCell (peer r c)) 0 r)
    ∗ (bigSep Finset.univ fun k : Fin 25 => dutyTok ER (sCell k c) 0 0)
    ∗ bigSep Finset.univ fun k : Fin 25 => dutyTok ER (rCell k (peer (dir k) c)) 0 0)

theorem deal_toks : bigSep (barToks ∪ ownToks) (fun x => (dutyTok ER x.1 x.2.1 x.2.2 : sProp 𝕄)) = bigSep Finset.univ fun c : Dev nD => payToks c := by
  have hb : bigSep barToks (fun x => (dutyTok ER x.1 x.2.1 x.2.2 : sProp 𝕄))
      = bigSep Finset.univ fun c : Dev nD => bigSep Finset.univ fun r : Fin 5 => dutyTok ER (barCell (peer r c)) 0 r := by
    refine Eq.trans ?_ (across (fun r : Fin 5 => r) (fun r c => (dutyTok ER (barCell c) 0 r : sProp 𝕄)))
    unfold barToks
    rw [bigSep_map, bigSep_univ_prod]
    rfl
  have ho : bigSep ownToks (fun x => (dutyTok ER x.1 x.2.1 x.2.2 : sProp 𝕄))
      = iprop((bigSep Finset.univ fun c : Dev nD => bigSep Finset.univ fun k : Fin 25 => dutyTok ER (sCell k c) 0 0)
        ∗ bigSep Finset.univ fun c : Dev nD => bigSep Finset.univ fun k : Fin 25 => dutyTok ER (rCell k (peer (dir k) c)) 0 0) := by
    refine Eq.trans ?_ (congrArg (fun X => iprop(_ ∗ X)) (across (fun k : Fin 25 => dir k) (fun k c => (dutyTok ER (rCell k c) 0 0 : sProp 𝕄))))
    unfold ownToks
    rw [bigSep_map, bigSep_univ_prod, ← bigSep_sep']
    refine bigSep_congr fun c _ => ?_
    rw [bigSep_univ_prod]
    exact BI.bigSep_fin_two (fun s : Fin 2 => (bigSep Finset.univ fun k : Fin 25 => dutyTok ER (ownCell (c, (s, k))) 0 0 : sProp 𝕄))
  unfold payToks
  rw [bigSep_union disjoint_toks, hb, ho, bigSep_sep', bigSep_sep']
  rfl

end Families

/-! ## The credit -/

/-- What a device owes at launch. -/
abbrev O₀ (c : Dev nD) : CellTallies nD τ sig Unit := owesBar c [0, 1, 2, 3, 4]

theorem rsem_inj : ∀ k k' : Fin 25, rsem k = rsem k' → k = k' := by decide +kernel

theorem rCell_eq {k k' : Fin 25} {c d : Dev nD} (h : rCell k c = rCell k' d) : k = k' ∧ c = d :=
  ⟨rsem_inj k k' (by injection congrArg Prod.snd h), congrArg (fun g : GSem nD τ sig => g.1.1) h⟩

theorem owesOf_bar (c d : Dev nD) (l : List (Fin 25)) : owesOf d l (barCell c) () = 0 := by
  by_contra h
  obtain ⟨k, -, e⟩ := owesOf_pos (Nat.pos_of_ne_zero h)
  cases congrArg Prod.snd e

theorem peer_eq_comm (r : Fin 5) (c d : Dev nD) : c = peer r d ↔ d = peer r c :=
  ⟨fun h => by rw [h, peer_peer], fun h => by rw [h, peer_peer]⟩

theorem owesOf_r (k : Fin 25) (c d : Dev nD) : ∀ l : List (Fin 25),
    owesOf d l (rCell k c) () = l.count k * (if d = peer (dir k) c then amt k else 0)
  | [] => by rw [List.count_nil, Nat.zero_mul]; rfl
  | k' :: l => by
    unfold owesOf
    rw [Pi.add_apply, Finsupp.add_apply, owesOf_r k c d l, tallyAt_apply, List.count_cons, Nat.add_mul]
    refine congrArg _ ?_
    by_cases hk : k' = k
    · subst hk
      by_cases hd : d = peer (dir k') c
      · rw [if_pos ⟨by rw [(peer_eq_comm _ _ _).mpr hd], rfl⟩, if_pos hd, if_pos (by simp)]; omega
      · rw [if_neg fun h => hd ((peer_eq_comm _ _ _).mp (rCell_eq h.1).2), if_neg hd]; omega
    · rw [if_neg fun h => hk (rCell_eq h.1).1.symm, if_neg (by simpa using hk)]; omega

theorem owesBar_r (k : Fin 25) (c d : Dev nD) : ∀ l : List (Fin 5), owesBar d l (rCell k c) () = owesOf d copies (rCell k c) ()
  | [] => rfl
  | r :: l => by
    unfold owesBar
    rw [Pi.add_apply, Finsupp.add_apply, owesBar_r k c d l, tallyAt_ne_cell (fun h => by cases congrArg Prod.snd h)]
    rfl

theorem owesBar_bar (c d : Dev nD) : ∀ l : List (Fin 5),
    owesBar d l (barCell c) () = (l.map fun r => if d = peer r c then 1 else 0).sum
  | [] => owesOf_bar c d copies
  | r :: l => by
    unfold owesBar
    rw [Pi.add_apply, Finsupp.add_apply, owesBar_bar c d l, tallyAt_apply, List.map_cons, List.sum_cons, Nat.add_comm]
    refine congrArg (· + _) (if_congr ⟨fun h => (peer_eq_comm _ _ _).mp (congrArg (fun g : GSem nD τ sig => g.1.1) h.1), fun h => ⟨by rw [(peer_eq_comm _ _ _).mpr h], rfl⟩⟩ rfl rfl)

theorem sum_bar (c : Dev nD) : ∀ l : List (Fin 5), ∑ d : Dev nD, (l.map fun r => if d = peer r c then 1 else 0).sum = l.length
  | [] => by simp
  | r :: l => by
    rw [List.length_cons, ← sum_bar c l]
    simp only [List.map_cons, List.sum_cons]
    rw [Finset.sum_add_distrib, Finset.sum_ite_eq' Finset.univ (peer r c) fun _ => 1, if_pos (Finset.mem_univ _), Nat.add_comm]

theorem launch_bar (c : Dev nD) :
    tallyOn (barCell c) (launchCredit (Pipeline.owing O₀) 0 (barCell c)) = (tallyAt (barCell c) () 5 : CellTallies nD τ sig Unit) := by
  unfold tallyAt
  refine congrArg _ (Finsupp.ext fun u => ?_)
  cases u
  rw [Pipeline.launchCredit_owing, Finsupp.single_eq_same, Finset.sum_congr rfl fun d _ => owesBar_bar c d [0, 1, 2, 3, 4], sum_bar]
  rfl

theorem launch_r (k : Fin 25) (c : Dev nD) :
    tallyOn (rCell k c) (launchCredit (Pipeline.owing O₀) 0 (rCell k c)) = (tallyAt (rCell k c) () (amt k) : CellTallies nD τ sig Unit) := by
  unfold tallyAt
  refine congrArg _ (Finsupp.ext fun u => ?_)
  cases u
  have h1 : copies.count k = 1 := by revert k; decide
  rw [Pipeline.launchCredit_owing, Finsupp.single_eq_same,
    Finset.sum_congr rfl fun d _ => (owesBar_r k c d [0, 1, 2, 3, 4]).trans (owesOf_r k c d copies), h1]
  simp only [Nat.one_mul]
  rw [Finset.sum_ite_eq' Finset.univ (peer (dir k) c) fun _ => amt k, if_pos (Finset.mem_univ _)]

def rEmb : Fin 25 ↪ SemLoc sig := ⟨fun k => .dma (rsem k), fun k k' h => rsem_inj k k' (by injection h)⟩

omit [FloatOps F] in
theorem creds (c : Dev nD) :
    (Pipeline.launchCred O₀ c : sProp 𝕄)
      ⊢ iprop(cred (tallyAt (barCell c) () 5) ∗ bigSep Finset.univ fun k : Fin 25 => cred (tallyAt (rCell k c) () (amt k))) := by
  unfold Pipeline.launchCred
  rw [bigSep_univ_at _ (SemLoc.reg barrier0), launch_bar]
  refine sep_mono_right ?_
  have hs : Finset.univ.map rEmb ⊆ (Finset.univ : Finset (SemLoc sig)).erase (.reg barrier0) := fun sm h => by
    obtain ⟨k, -, rfl⟩ := Finset.mem_map.mp h
    exact Finset.mem_erase.mpr ⟨fun h => by (cases h), Finset.mem_univ _⟩
  have e : (bigSep (Finset.univ.map rEmb) fun sm : SemLoc sig =>
        (cred (tallyOn ((c : Thread nD τ), sm) (launchCredit (Pipeline.owing O₀) 0 ((c : Thread nD τ), sm))) : sProp 𝕄))
      = bigSep Finset.univ fun k : Fin 25 => cred (tallyAt (rCell k c) () (amt k)) := by
    rw [bigSep_map]
    exact bigSep_congr fun k _ => congrArg _ (launch_r k c)
  rw [← e]
  exact bigSep_subset hs

/-! ## A copy's number among all, by kind -/

def evenEmb : ℕ ↪ ℕ := ⟨fun j => 2 * j + (0 : Fin 2).val, fun a b h => by simpa using h⟩
def oddEmb : ℕ ↪ ℕ := ⟨fun j => 2 * j + (1 : Fin 2).val, fun a b h => by simpa using h⟩
def lastEmb : ℕ ↪ ℕ := ⟨fun j => 20 + j, fun a b h => by simpa using h⟩

omit [FloatOps F] in
theorem by_kind (Φ : ℕ → sProp 𝕄) : (bigSep Finset.univ fun k : Fin 25 => Φ k.val)
    = iprop(bigSep (Finset.range 10) (fun j => Φ (2 * j + (0 : Fin 2).val)) ∗ bigSep (Finset.range 10) (fun j => Φ (2 * j + (1 : Fin 2).val))
      ∗ bigSep (Finset.range 5) (fun j => Φ (20 + j))) := by
  have h1 := bigSep_map (s := (Finset.univ : Finset (Fin 25))) Fin.valEmbedding (Φ := Φ)
  have he := bigSep_map (s := Finset.range 10) evenEmb (Φ := Φ)
  have ho := bigSep_map (s := Finset.range 10) oddEmb (Φ := Φ)
  have hl := bigSep_map (s := Finset.range 5) lastEmb (Φ := Φ)
  refine h1.symm.trans (Eq.trans ?_ (congrArg₂ (fun a b => iprop(a ∗ b)) he (congrArg₂ (fun a b => iprop(a ∗ b)) ho hl)))
  have e1 : bigSep ((Finset.range 10).map oddEmb ∪ (Finset.range 5).map lastEmb) Φ
      = iprop(bigSep ((Finset.range 10).map oddEmb) Φ ∗ bigSep ((Finset.range 5).map lastEmb) Φ) := bigSep_union (by decide)
  have e0 : bigSep ((Finset.range 10).map evenEmb ∪ ((Finset.range 10).map oddEmb ∪ (Finset.range 5).map lastEmb)) Φ
      = iprop(bigSep ((Finset.range 10).map evenEmb) Φ ∗ bigSep ((Finset.range 10).map oddEmb ∪ (Finset.range 5).map lastEmb) Φ) :=
    bigSep_union (by decide)
  rw [← e1, ← e0]
  exact congrArg (fun s => bigSep s Φ) (by decide)

end Cert.KernelIdeal.Attn

end
-- ==== Proof.Enter.lean ====
/-
# Entering and leaving the kernel

From what a device is dealt its cells are opened and its copies primed; the landing slots are cut out of the landing buffers
for the partners, and put together again at the end.
-/
module

public import proofs.«01_k».proof.Proof.Deal

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eq_of_both {P Q : sProp 𝕄} (h : P ⊢ Q) (h' : Q ⊢ P) : P = Q := BI.equiv_iff.mp ⟨h, h'⟩

section
omit [FloatOps F]

theorem both_fam {I : Type} [Fintype I] {Φ Ψ : I → sProp 𝕄} :
    iprop(bigSep Finset.univ Φ ∗ bigSep Finset.univ Ψ) ⊢ bigSep Finset.univ fun i => iprop(Φ i ∗ Ψ i) := by
  rw [bigSep_sep']

theorem split_fam {I : Type} [Fintype I] {Φ Ψ : I → sProp 𝕄} :
    (bigSep Finset.univ fun i => iprop(Φ i ∗ Ψ i)) ⊢ iprop(bigSep Finset.univ Φ ∗ bigSep Finset.univ Ψ) := by
  rw [bigSep_sep']

/-- A family over the numbers below `n`, as one over `Fin n`. -/
theorem fam_fin (n : ℕ) (Φ : ℕ → sProp 𝕄) : bigSep (Finset.range n) Φ = bigSep Finset.univ fun i : Fin n => Φ i.val := by
  have h := bigSep_map (s := (Finset.univ : Finset (Fin n))) Fin.valEmbedding (Φ := Φ)
  rw [Fin.map_valEmbedding_univ, Nat.Iio_eq_range] at h
  exact h

end

/-! ## Opening -/

section Opening

variable (A0 : Dev nD → S1024x128.Idx → Elt F .f32) (L0 : Dev nD → S4x32x8.Idx → Elt F .f32)

/-- What every device may consult: the invariants, and that round 0 of every barrier cell is reached. -/
def records (κ : GSem nD τ sig → ℕ) : sProp 𝕄 :=
  iprop((bigSep (barCells ∪ ownCells) fun g => cellInv ER (sched A0 L0) (κ g) g) ∗ bigSep barCells fun g => reached ER g 0)

instance records_persistent (κ : GSem nD τ sig → ℕ) : BI.Persistent (records A0 L0 κ) := by unfold records; infer_instance

theorem inv_at (κ : GSem nD τ sig → ℕ) {g : GSem nD τ sig} (hg : g ∈ barCells ∪ ownCells) :
    records A0 L0 κ ⊢ cellInv ER (sched A0 L0) (κ g) g := by
  unfold records
  iintro ⟨H, -⟩
  iapply (show (bigSep (barCells ∪ ownCells) fun g => cellInv ER (sched A0 L0) (κ g) g) ⊢ cellInv ER (sched A0 L0) (κ g) g from bigSep_elim hg) $$ H

theorem reached_at (κ : GSem nD τ sig → ℕ) (c : Dev nD) : records A0 L0 κ ⊢ reached ER (barCell c) 0 := by
  unfold records
  iintro ⟨-, H⟩
  iapply (show (bigSep barCells fun g => (reached ER g 0 : sProp 𝕄)) ⊢ reached ER (barCell c) 0 from
    bigSep_elim (Finset.mem_map_of_mem barEmb (Finset.mem_univ c))) $$ H

omit [FloatOps F] in
/-- What a device alone holds: its place at the meeting, the right to open each of its cells, its duties' tokens, its credit. -/
def dealt (c : Dev nD) : sProp 𝕄 :=
  iprop((atPos ER (barCell c) 0 ∅ 0
      ∗ ((bigSep Finset.univ fun k : Fin 25 => openTok ER (sCell k c)) ∗ bigSep Finset.univ fun k : Fin 25 => openTok ER (rCell k c))
      ∗ payToks c)
    ∗ cred (tallyAt (barCell c) () 5) ∗ bigSep Finset.univ fun k : Fin 25 => cred (tallyAt (rCell k c) () (amt k)))

theorem cells_open (κ : GSem nD τ sig → ℕ) (g : Fin 25 → GSem nD τ sig) (hg : ∀ k, g k ∈ barCells ∪ ownCells) :
    iprop(records A0 L0 κ ∗ (bigSep Finset.univ fun k => openTok ER (g k)) ∗ bigSep Finset.univ fun k => semVal (g k) 0)
      ⊢ |={Set.univ}=> iprop((bigSep Finset.univ fun k => atPos ER (g k) 0 ∅ 0) ∗ bigSep Finset.univ fun k => reached ER (g k) 0 : sProp 𝕄) := by
  have h (k : Fin 25) : iprop(records A0 L0 κ ∗ openTok ER (g k) ∗ semVal (g k) 0)
      ⊢ (|={Set.univ}=> iprop(atPos ER (g k) 0 ∅ 0 ∗ reached ER (g k) 0) : sProp 𝕄) := by
    iintro ⟨#HR, Ho, Hv⟩
    iapply (Rounds.cell_open ER (sched A0 L0) (g := g k) (κ := κ (g k)) (Set.mem_univ _))
    isplitr; · iapply (inv_at A0 L0 κ (hg k)); iexact HR
    isplitl [Ho]; · iexact Ho
    iexact Hv
  iintro ⟨HR, Ho, Hv⟩
  ihave H := (both_fam (Φ := fun k => openTok ER (g k)) (Ψ := fun k => semVal (g k) 0)) $$ [Ho Hv]
  · isplitl [Ho]; · iexact Ho
    iexact Hv
  ihave H := (bigSep_with_persistent (S := Finset.univ) (R := records A0 L0 κ) (Φ := fun k => iprop(openTok ER (g k) ∗ semVal (g k) 0)) fun k _ => h k) $$ [HR H]
  · isplitl [HR]; · iexact HR
    iexact H
  imod (bigSep_fupd Finset.univ (fun k => iprop(atPos ER (g k) 0 ∅ 0 ∗ reached ER (g k) 0 : sProp 𝕄))) $$ H with H
  imodintro
  iapply (split_fam (Φ := fun k => atPos ER (g k) 0 ∅ 0) (Ψ := fun k => reached ER (g k) 0)) $$ H

/-- A device's copies primed, its signals and the meeting still to come. -/
def opened (c : Dev nD) : sProp 𝕄 :=
  iprop(∃ κ, records A0 L0 κ ∗ atPos ER (barCell c) 0 ∅ 0 ∗ cred (tallyAt (barCell c) () 5)
    ∗ (bigSep Finset.univ fun r : Fin 5 => dutyTok ER (barCell (peer r c)) 0 r)
    ∗ (bigSep Finset.univ fun k : Fin 25 => reached ER (rCell k c) 0)
    ∗ bigSep Finset.univ fun k : Fin 25 => primed A0 L0 k c)

theorem primed_intro (κ : GSem nD τ sig → ℕ) (c : Dev nD) (k : Fin 25) :
    iprop(records A0 L0 κ ∗ (dutyTok ER (sCell k c) 0 0 ∗ reached ER (sCell k c) 0 ∗ atPos ER (sCell k c) 0 ∅ 0)
        ∗ dutyTok ER (rCell k (peer (dir k) c)) 0 0 ∗ atPos ER (rCell k c) 0 ∅ 0 ∗ cred (tallyAt (rCell k c) () (amt k)))
      ⊢ primed A0 L0 k c := by
  unfold primed invs
  iintro ⟨#HR, ⟨HtS, HrS, HaS⟩, HtR, HaR, Hc⟩
  iexists κ
  isplitr
  · isplitr; · iapply (inv_at A0 L0 κ (s_mem k c)); iexact HR
    isplitr; · iapply (inv_at A0 L0 κ (r_mem k c)); iexact HR
    iapply (inv_at A0 L0 κ (r_mem k (peer (dir k) c))); iexact HR
  isplitl [HtS]; · iexact HtS
  isplitl [HrS]; · iexact HrS
  isplitl [HaS]; · iexact HaS
  isplitl [HtR]; · iexact HtR
  isplitl [HaR]; · iexact HaR
  iexact Hc

theorem all_open (κ : GSem nD τ sig → ℕ) (c : Dev nD) :
    iprop(records A0 L0 κ ∗ dealt c ∗ Pipeline.ownSems0 osem c) ⊢ |={Set.univ}=> opened A0 L0 c := by
  unfold dealt payToks opened
  iintro ⟨#HR, ⟨⟨Hat, ⟨HoS, HoR⟩, Htb, Hts, Htr⟩, Hcb, Hcr⟩, Hv⟩
  ihave Hv := (show (Pipeline.ownSems0 osem c : sProp 𝕄) ⊢ iprop((bigSep Finset.univ fun k : Fin 25 => semVal (sCell k c) 0)
    ∗ bigSep Finset.univ fun k : Fin 25 => semVal (rCell k c) 0) from Entails.of_eq (own_one c (fun g => (semVal g 0 : sProp 𝕄)))) $$ Hv
  icases Hv with ⟨HvS, HvR⟩
  imod (cells_open A0 L0 κ (fun k => sCell k c) fun k => s_mem k c) $$ [HoS HvS] with ⟨HaS, HrS⟩
  · isplitr; · iexact HR
    isplitl [HoS]; · iexact HoS
    iexact HvS
  imod (cells_open A0 L0 κ (fun k => rCell k c) fun k => r_mem k c) $$ [HoR HvR] with ⟨HaR, #HrR⟩
  · isplitr; · iexact HR
    isplitl [HoR]; · iexact HoR
    iexact HvR
  imodintro
  iexists κ
  isplitr; · iexact HR
  isplitl [Hat]; · iexact Hat
  isplitl [Hcb]; · iexact Hcb
  isplitl [Htb]; · iexact Htb
  isplitr; · iexact HrR
  iapply (bigSep_with_persistent (S := Finset.univ) (R := records A0 L0 κ) (Φ := fun k : Fin 25 =>
    iprop((dutyTok ER (sCell k c) 0 0 ∗ reached ER (sCell k c) 0 ∗ atPos ER (sCell k c) 0 ∅ 0)
        ∗ dutyTok ER (rCell k (peer (dir k) c)) 0 0 ∗ atPos ER (rCell k c) 0 ∅ 0 ∗ cred (tallyAt (rCell k c) () (amt k)))) fun k _ => primed_intro A0 L0 κ c k)
  isplitr; · iexact HR
  iapply both_fam
  isplitl [Hts HrS HaS]
  · iapply both_fam
    isplitl [Hts]; · iexact Hts
    iapply both_fam
    isplitl [HrS]; · iexact HrS
    iexact HaS
  iapply both_fam
  isplitl [Htr]; · iexact Htr
  iapply both_fam
  isplitl [HaR]; · iexact HaR
  iexact Hcr

end Opening

/-! ## Cutting a buffer into parts -/

section Parts
omit [FloatOps F]

/-- A holding over all of a buffer, cut along `n` disjoint parts. -/
theorem parts {α : Type} [Fintype α] [DecidableEq α] (P : Finset α → sProp 𝕄)
    (hP : ∀ I J, Disjoint I J → P (I ∪ J) = iprop(P I ∗ P J)) (S : ℕ → Finset α) (hS : ∀ i j, i ≠ j → Disjoint (S i) (S j)) :
    ∀ n, P Finset.univ = iprop((bigSep (Finset.range n) fun j => P (S j)) ∗ P (Finset.univ \ (Finset.range n).biUnion S))
  | 0 => by
    rw [Finset.range_zero, Finset.biUnion_empty, Finset.sdiff_empty, BI.bigSep_empty]
    exact (BI.equiv_iff.mp BI.emp_sep).symm
  | n + 1 => by
    have hd : Disjoint (S n) (Finset.univ \ (Finset.range (n + 1)).biUnion S) :=
      Finset.disjoint_left.mpr fun x hx hx' =>
        (Finset.mem_sdiff.mp hx').2 (Finset.mem_biUnion.mpr ⟨n, Finset.self_mem_range_succ n, hx⟩)
    have hu : Finset.univ \ (Finset.range n).biUnion S = S n ∪ (Finset.univ \ (Finset.range (n + 1)).biUnion S) := by
      ext x
      simp only [Finset.mem_sdiff, Finset.mem_univ, true_and, Finset.mem_union, Finset.mem_biUnion, Finset.mem_range, not_exists, not_and]
      constructor
      · intro h
        by_cases hx : x ∈ S n
        · exact .inl hx
        · refine .inr fun j hj hxj => ?_
          rcases Nat.lt_succ_iff_lt_or_eq.mp hj with hj | rfl
          · exact h j hj hxj
          · exact hx hxj
      · rintro (hx | h) j hj hxj
        · exact Finset.disjoint_left.mp (hS n j (Nat.ne_of_gt hj)) hx hxj
        · exact h j (Nat.lt_succ_of_lt hj) hxj
    rw [parts P hP S hS n, hu, hP _ _ hd, bigSep_range_succ]
    refine eq_of_both ?_ ?_
    · iintro ⟨H1, H2, H3⟩
      isplitr [H3]
      · isplitl [H2]; · iexact H2
        iexact H1
      iexact H3
    · iintro ⟨⟨H2, H1⟩, H3⟩
      isplitl [H1]; · iexact H1
      isplitl [H2]; · iexact H2
      iexact H3

theorem accAny_union (c : Dev nD) (I J) (h : Disjoint I J) : (accAny c (I ∪ J) : sProp 𝕄) = iprop(accAny c I ∗ accAny c J) := by
  refine eq_of_both ?_ ?_
  · unfold accAny accPt
    iintro ⟨%f, H⟩
    ihave H := (pointsTo_union h).1 $$ H
    icases H with ⟨H1, H2⟩
    isplitl [H1] <;> iexists f <;> iassumption
  · unfold accAny accPt
    iintro ⟨⟨%f, H1⟩, ⟨%g, H2⟩⟩
    iexists (J.piecewise g f)
    iapply (pointsTo_join h)
    isplitl [H1] <;> iassumption

theorem rbufAny_union (c : Dev nD) (I J) (h : Disjoint I J) : (rbufAny c (I ∪ J) : sProp 𝕄) = iprop(rbufAny c I ∗ rbufAny c J) := by
  refine eq_of_both ?_ ?_
  · unfold rbufAny rbufPt
    iintro ⟨%f, H⟩
    ihave H := (pointsTo_union h).1 $$ H
    icases H with ⟨H1, H2⟩
    isplitl [H1] <;> iexists f <;> iassumption
  · unfold rbufAny rbufPt
    iintro ⟨⟨%f, H1⟩, ⟨%g, H2⟩⟩
    iexists (J.piecewise g f)
    iapply (pointsTo_join h)
    isplitl [H1] <;> iassumption

theorem rlAny_union (c : Dev nD) (I J) (h : Disjoint I J) : (rlAny c (I ∪ J) : sProp 𝕄) = iprop(rlAny c I ∗ rlAny c J) := by
  refine eq_of_both ?_ ?_
  · unfold rlAny rlPt
    iintro ⟨%f, H⟩
    ihave H := (pointsTo_union h).1 $$ H
    icases H with ⟨H1, H2⟩
    isplitl [H1] <;> iexists f <;> iassumption
  · unfold rlAny rlPt
    iintro ⟨⟨%f, H1⟩, ⟨%g, H2⟩⟩
    iexists (J.piecewise g f)
    iapply (pointsTo_join h)
    isplitl [H1] <;> iassumption

theorem mem_rslot {r : ℕ} {s : Fin 2} {x : S5x2x256x128.Idx} : x ∈ rslot r s ↔ (x 0).val = r ∧ (x 1).val = s.val ∧ (x 2).val < sz (r + 1) := by
  simp [rslot]
theorem mem_lslot {r : ℕ} {x : S5x4x32x8.Idx} : x ∈ lslot r ↔ (x 0).val = r := by simp [lslot]

theorem rslot_halves (r : ℕ) : Disjoint (rslot r 0) (rslot r 1) := Finset.disjoint_left.mpr fun x h h' => by
  have h0 := (mem_rslot.mp h).2.1
  have h1 := (mem_rslot.mp h').2.1
  rw [h0] at h1
  exact absurd h1 (by decide)

theorem rslot_rounds (i j : ℕ) (h : i ≠ j) : Disjoint (rslot i 0 ∪ rslot i 1) (rslot j 0 ∪ rslot j 1) := by
  have e (r : ℕ) {x} (hx : x ∈ rslot r 0 ∪ rslot r 1) : (x 0).val = r := by
    rcases Finset.mem_union.mp hx with hx | hx <;> exact (mem_rslot.mp hx).1
  exact Finset.disjoint_left.mpr fun x hx hx' => h ((e i hx).symm.trans (e j hx'))

theorem lslot_rounds (i j : ℕ) (h : i ≠ j) : Disjoint (lslot i) (lslot j) :=
  Finset.disjoint_left.mpr fun _ hx hx' => h ((mem_lslot.mp hx).symm.trans (mem_lslot.mp hx'))

/-- The landing buffers are the slots and the spare rows. -/
theorem landing (c : Dev nD) : iprop(rbufAny c Finset.univ ∗ rlAny c Finset.univ : sProp 𝕄)
    = iprop((bigSep (Finset.range 5) fun r => iprop(rbufAny c (rslot r 0) ∗ rbufAny c (rslot r 1)))
      ∗ (bigSep (Finset.range 5) fun r => rlAny c (lslot r)) ∗ spare c) := by
  have h : (bigSep (Finset.range 5) fun r => (rbufAny c (rslot r 0 ∪ rslot r 1) : sProp 𝕄))
      = bigSep (Finset.range 5) fun r => iprop(rbufAny c (rslot r 0) ∗ rbufAny c (rslot r 1)) :=
    bigSep_congr fun r _ => rbufAny_union c _ _ (rslot_halves r)
  rw [parts (rbufAny c) (rbufAny_union c) (fun r => rslot r 0 ∪ rslot r 1) rslot_rounds 5,
    parts (rlAny c) (rlAny_union c) lslot lslot_rounds 5, h]
  unfold spare
  refine eq_of_both ?_ ?_
  · iintro ⟨⟨H1, H2⟩, H3, H4⟩
    isplitl [H1]; · iexact H1
    isplitl [H3]; · iexact H3
    isplitl [H2]; · iexact H2
    iexact H4
  · iintro ⟨H1, H3, H2, H4⟩
    isplitl [H1 H2]
    · isplitl [H1]; · iexact H1
      iexact H2
    isplitl [H3]; · iexact H3
    iexact H4

theorem blocks_of_acc (c : Dev nD) : (accAny c Finset.univ : sProp 𝕄)
    ⊢ iprop(accAny c (blk 1 0) ∗ accAny c (blk 1 1) ∗ accAny c (blk 1 2) ∗ accAny c (blk 1 3)) := by
  rw [parts (accAny c) (accAny_union c) (blk 1) (fun i j h => blk_disjoint 1 h) 4, bigSep_range_succ, bigSep_range_succ, bigSep_range_succ, bigSep_range_succ]
  iintro ⟨⟨H3, H2, H1, H0, -⟩, -⟩
  isplitl [H0]; · iexact H0
  isplitl [H1]; · iexact H1
  isplitl [H2]; · iexact H2
  iexact H3

end Parts

/-! ## Into the first state, out of the last -/

section InOut

theorem hail_intro (A0 : Dev nD → S1024x128.Idx → Elt F .f32) (L0 : Dev nD → S4x32x8.Idx → Elt F .f32) (κ : GSem nD τ sig → ℕ)
    (c : Dev nD) (r : Fin 5) :
    iprop((records A0 L0 κ ∗ bigSep Finset.univ fun k : Fin 25 => reached ER (rCell k c) 0)
        ∗ dutyTok ER (barCell (peer r c)) 0 r ∗ (rbufAny c (rslot r 0) ∗ rbufAny c (rslot r 1)) ∗ rlAny c (lslot r))
      ⊢ hail A0 L0 r c := by
  have hr (k : Fin 25) : (bigSep Finset.univ fun k : Fin 25 => reached ER (rCell k c) 0) ⊢ (reached ER (rCell k c) 0 : sProp 𝕄) :=
    bigSep_elim (Finset.mem_univ k)
  unfold hail barPay
  rw [peer_peer]
  iintro ⟨⟨#HR, #Hr⟩, Ht, ⟨H0, H1⟩, Hl⟩
  iexists (κ (barCell (peer r c)))
  isplitr; · iapply (inv_at A0 L0 κ (bar_mem (peer r c))); iexact HR
  isplitl [Ht]; · iexact Ht
  isplitr; · iapply (reached_at A0 L0 κ (peer r c)); iexact HR
  isplitl [H0]; · iexact H0
  isplitl [H1]; · iexact H1
  isplitl [Hl]; · iexact Hl
  have hlt : r.val < 5 := r.isLt
  isplitr; · iapply (hr ⟨2 * r, by omega⟩); iexact Hr
  isplitr; · iapply (hr ⟨2 * r + 1, by omega⟩); iexact Hr
  isplitr; · iapply (hr ⟨2 * (9 - r), by omega⟩); iexact Hr
  isplitr; · iapply (hr ⟨2 * (9 - r) + 1, by omega⟩); iexact Hr
  iapply (hr ⟨20 + r, by omega⟩); iexact Hr

omit [FloatOps F] in
theorem fam_five (Φ : Fin 5 → sProp 𝕄) : bigSep Finset.univ Φ ⊢ iprop(Φ 0 ∗ Φ 1 ∗ Φ 2 ∗ Φ 3 ∗ Φ 4) := by
  rw [show (Finset.univ : Finset (Fin 5)) = {0, 1, 2, 3, 4} from by decide, bigSep_insert (by decide), bigSep_insert (by decide),
    bigSep_insert (by decide), bigSep_insert (by decide), bigSep_singleton]
  exact .rfl

theorem unmet_intro (A0 : Dev nD → S1024x128.Idx → Elt F .f32) (L0 : Dev nD → S4x32x8.Idx → Elt F .f32) (c : Dev nD) :
    iprop(opened A0 L0 c ∗ (bigSep (Finset.range 5) fun r => iprop(rbufAny c (rslot r 0) ∗ rbufAny c (rslot r 1)))
        ∗ bigSep (Finset.range 5) fun r => rlAny c (lslot r))
      ⊢ unmet A0 L0 c := by
  rw [fam_fin, fam_fin]
  unfold opened unmet meet primedAll
  iintro ⟨⟨%κ, #HR, Hat, Hc, Ht, #Hr, HP⟩, Hb, Hl⟩
  isplitl [Hat Hc]
  · iexists (κ (barCell c))
    isplitr; · iapply (inv_at A0 L0 κ (bar_mem c)); iexact HR
    isplitl [Hat]; · iexact Hat
    iexact Hc
  isplitl [HP]
  · rw [← Finset.range_eq_Ico, ← Finset.range_eq_Ico]
    iapply (Entails.of_eq (by_kind (fun k => primed A0 L0 k c))) $$ HP
  iapply (fam_five (fun r => hail A0 L0 r c))
  iapply (bigSep_with_persistent (S := Finset.univ) (R := iprop(records A0 L0 κ ∗ bigSep Finset.univ fun k : Fin 25 => reached ER (rCell k c) 0))
    (Φ := fun r : Fin 5 => iprop(dutyTok ER (barCell (peer r c)) 0 r ∗ (rbufAny c (rslot r 0) ∗ rbufAny c (rslot r 1)) ∗ rlAny c (lslot r)))
    fun r _ => hail_intro A0 L0 κ c r)
  isplitr
  · isplitr; · iexact HR
    iexact Hr
  iapply both_fam
  isplitl [Ht]; · iexact Ht
  iapply both_fam
  isplitl [Hb]; · iexact Hb
  iexact Hl

variable (m : (ℓ : Loc nD τ sig) → Buf (Elt F) ℓ)

/-- What enters the launch's first state. -/
def entering (c : Dev nD) : sProp 𝕄 := iprop(levAts L lv ∗ opened (blocks m).A0 (blocks m).L0 c)

omit [FloatOps F] in
theorem scratch_eq (c : Dev nD) : (Pipeline.scopedRest spec0 c : sProp 𝕄)
    = iprop(accAny c Finset.univ ∗ (∃ f, lPt c f) ∗ (∃ f, tmpPt c f) ∗ rbufAny c Finset.univ ∗ rlAny c Finset.univ) :=
  scopedRest0_eq c

theorem enter (c : Dev nD) : iprop(entering m c ∗ Pipeline.scopedRest spec0 c) ⊢ (dat m c).Φ 0 := by
  have e : iprop(entering m c ∗ Pipeline.scopedRest spec0 c)
      ⊢ iprop(levAts L lv ∗ state (blocks m) c 0 ∗ (∃ f, tmpPt c f) ∗ spare c) := by
    rw [scratch_eq]
    unfold entering
    simp only [state]
    iintro ⟨⟨Hlv, HX⟩, HA, ⟨%f, HL⟩, HT, HB⟩
    ihave HB := (Entails.of_eq (landing c)) $$ HB
    icases HB with ⟨Hb, Hl, Hs⟩
    ihave HA := (blocks_of_acc c) $$ HA
    icases HA with ⟨HA0, HA1, HA2, HA3⟩
    isplitl [Hlv]; · iexact Hlv
    isplitr [HT Hs]
    · isplitl [HL]; · iapply (lSt_any ((blocks m).L0 c) c f) $$ HL
      isplitl [HA0]; · iexact HA0
      isplitl [HA1]; · iexact HA1
      isplitl [HA2]; · iexact HA2
      isplitl [HA3]; · iexact HA3
      iapply (unmet_intro (blocks m).A0 (blocks m).L0 c)
      isplitl [HX]; · iexact HX
      isplitl [Hb]; · iexact Hb
      iexact Hl
    isplitl [HT]; · iexact HT
    iexact Hs
  exact e

omit [FloatOps F] in
theorem past_split (s : Fin 2) (c : Dev nD) : (past s 10 c : sProp 𝕄)
    ⊢ iprop((bigSep (Finset.range 10) fun j => over (2 * j + s.val) c) ∗ bigSep (Finset.range 5) fun r => rbufAny c (rslot r s)) := by
  have h5 : (bigSep (Finset.range 5) fun j => (slotOf j s c : sProp 𝕄)) = bigSep (Finset.range 5) fun r => rbufAny c (rslot r s) :=
    bigSep_congr fun r hr => if_pos (Finset.mem_range.mp hr)
  have hs : (bigSep (Finset.range 10) fun j => (slotOf j s c : sProp 𝕄)) ⊢ bigSep (Finset.range 5) fun r => rbufAny c (rslot r s) := by
    rw [← h5]
    exact bigSep_subset (by decide)
  unfold past
  rw [bigSep_sep']
  iintro ⟨H1, H2⟩
  isplitl [H1]; · iexact H1
  iapply hs $$ H2

omit [FloatOps F] in
theorem pastL_split (c : Dev nD) : (pastL 5 c : sProp 𝕄)
    ⊢ iprop((bigSep (Finset.range 5) fun j => over (20 + j) c) ∗ bigSep (Finset.range 5) fun r => rlAny c (lslot r)) := by
  unfold pastL
  rw [bigSep_sep']

omit [FloatOps F] in
theorem sems_back (c : Dev nD) : (bigSep Finset.univ fun k : Fin 25 => (over k.val c : sProp 𝕄)) = Pipeline.ownSems0 osem c := by
  refine Eq.trans ?_ (own_one c (fun g => (semVal g 0 : sProp 𝕄))).symm
  unfold over
  rw [bigSep_sep']

theorem leave (c : Dev nD) : (dat m c).Φ (Fin.last (cfgOf (F := F) c).N)
    ⊢ iprop(semVal (barCell c) 0 ∗ Pipeline.ownSems0 osem c ∗ Pipeline.scopedRest spec0 c) := by
  have e : iprop(levAts L lv ∗ state (blocks m) c 4 ∗ (∃ f, tmpPt c f) ∗ spare c)
      ⊢ (iprop(semVal (barCell c) 0 ∗ Pipeline.ownSems0 osem c ∗ Pipeline.scopedRest spec0 c) : sProp 𝕄) := by
    rw [scratch_eq, ← sems_back, by_kind (fun k => (over k c : sProp 𝕄))]
    simp only [state]
    iintro ⟨-, ⟨HL, HA, Hbar, H0, H1, Hl⟩, HT, Hs⟩
    ihave H0 := (past_split 0 c) $$ H0
    icases H0 with ⟨Ho0, Hb0⟩
    ihave H1 := (past_split 1 c) $$ H1
    icases H1 with ⟨Ho1, Hb1⟩
    ihave Hl := (pastL_split c) $$ Hl
    icases Hl with ⟨Hol, Hl⟩
    isplitl [Hbar]; · iexact Hbar
    isplitl [Ho0 Ho1 Hol]
    · isplitl [Ho0]; · iexact Ho0
      isplitl [Ho1]; · iexact Ho1
      iexact Hol
    isplitl [HA]; · iexact HA
    isplitl [HL]; · iexact HL
    isplitl [HT]; · iexact HT
    iapply (Entails.of_eq (landing c).symm)
    isplitl [Hb0 Hb1]
    · rw [bigSep_sep']
      isplitl [Hb0]; · iexact Hb0
      iexact Hb1
    isplitl [Hl]; · iexact Hl
    iexact Hs
  exact (show (dat m c).Φ (Fin.last (cfgOf (F := F) c).N) ⊢ iprop(levAts L lv ∗ state (blocks m) c 4 ∗ (∃ f, tmpPt c f) ∗ spare c) from .rfl).trans e

end InOut

end Cert.KernelIdeal.Attn

end
-- ==== Proof.Fund.lean ====
/-
# Funding the run

What the launch hands out, and how every device comes by its own part of it.
-/
module

public import proofs.«01_k».proof.Proof.Enter
public import Idealize.ShloMosaic.Lib.Quiescent

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

abbrev pdats : (p : Fin 1) → (c : Dev nD) → Pipeline.Dat τ (Elt F) Unit ℕ UU ℕ (Pipeline.pinD (pcfgs (F := F)) adm c p) c
  | 0 => fun c => dat m c
  | ⟨_ + 1, h⟩ => absurd h (Nat.not_lt.2 (Nat.le_add_left _ _))

theorem cells_inj : Function.Injective (Pipeline.PerCore.cellOf (nD := nD) (τ := τ) (Pipeline.pinD (pcfgs (F := F)) adm)) :=
  Pipeline.PerCore.cellOf_injective _
    (fun _ => fun | 0 => Pipeline.specSemsDistinct_of_nodup spec0 (semsDistinct 0) | ⟨_ + 1, h⟩ => absurd h (Nat.not_lt.2 (Nat.le_add_left _ _)))
    (fun _ p p' h => absurd (Subsingleton.elim p p') h)

def u₀ : UU :=
  (initOf (Pipeline.PerCore.cells (Pipeline.pinD (pcfgs (F := F)) adm) cells_inj) (Pipeline.PerCore.launchToks (Pipeline.pinD (pcfgs (F := F)) adm) cells_inj),
    launchOf barCells ownCells (barToks ∪ ownToks))

/-- All of a resource on device 0. -/
def onFirst (X : sProp 𝕄) (c : Dev nD) : sProp 𝕄 := if c = 0 then X else iprop(emp)

omit [FloatOps F] in
theorem fam_onFirst (X : sProp 𝕄) : bigSep Finset.univ (onFirst X) = X := by
  have e : bigSep (Finset.univ.erase 0) (onFirst X) = bigSep (Finset.univ.erase (0 : Dev nD)) fun _ => (BI.emp : sProp 𝕄) :=
    bigSep_congr fun c hc => if_neg (Finset.ne_of_mem_erase hc)
  rw [bigSep_univ_at _ (0 : Dev nD), e, BI.bigSep_emp_const]
  exact (BI.equiv_iff.mp BI.sep_emp).trans (if_pos rfl)

def G : Dev nD → sProp 𝕄 := onFirst (BI.own (ER (launchOf barCells ownCells (barToks ∪ ownToks))))

omit [FloatOps F] in
theorem bar_unscoped (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## What every device starts with -/

/-- Beside its buffers: its share of the deal under the records, and what it owes. -/
def startOf (c : Dev nD) : sProp 𝕄 :=
  iprop((∃ κ, records (blocks m).A0 (blocks m).L0 κ ∗ dealt c) ∗ ∃ W, owes (c : Thread nD τ) (O₀ c) W)

abbrev T₀ (c : Dev nD) : sProp 𝕄 := iprop(StableHlo.held (c : Thread nD τ) (Pipeline.ucRefs τ sig) (V0 m c) ∗ startOf m c)

theorem T₀_intro (κ : GSem nD τ sig → ℕ) (c : Dev nD) :
    iprop(records (blocks m).A0 (blocks m).L0 κ ∗ (StableHlo.held (c : Thread nD τ) (Pipeline.ucRefs τ sig) (V0 m c)
        ∗ owes (c : Thread nD τ) (O₀ c) ∅) ∗ dealt c) ⊢ T₀ m c := by
  unfold T₀ startOf
  iintro ⟨HR, ⟨Hh, HO⟩, Hd⟩
  isplitl [Hh]; · iexact Hh
  isplitl [HR Hd]
  · iexists κ
    isplitl [HR]; · iexact HR
    iexact Hd
  iexists ∅; iexact HO

/-- One device's part of what the launch hands out, sorted by when it is used. -/
abbrev handed (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

abbrev kept (c : Dev nD) : sProp 𝕄 :=
  iprop(StableHlo.held (c : Thread nD τ) (Pipeline.ucRefs τ sig) (V0 m c) ∗ owes (c : Thread nD τ) (O₀ c) ∅)

abbrev credit (c : Dev nD) : sProp 𝕄 :=
  iprop(cred (tallyAt (barCell c) () 5) ∗ bigSep Finset.univ fun k : Fin 25 => cred (tallyAt (rCell k c) () (amt k)))

theorem handed_sorted (c : Dev nD) : handed m ρ c ⊢ iprop(kept m c ∗ credit c ∗ semVal (barCell c) 0 ∗ G c) := by
  unfold handed
  rw [show unscopedBufs c (fun b => m ((c : Thread nD τ).loc b)) = StableHlo.held (c : Thread nD τ) (Pipeline.ucRefs τ sig) (V0 m c) from
    Pipeline.unscopedBufs_held c (V0 m c), bar_unscoped]
  iintro ⟨Hh, Hv, HO, Hcr, -, HG⟩
  isplitl [Hh HO]
  · isplitl [Hh]; · iexact Hh
    iexact HO
  isplitl [Hcr]; · iapply (creds c) $$ Hcr
  isplitl [Hv]; · iexact Hv
  iexact HG

theorem all_sorted : bigSep Finset.univ (handed m ρ)
    ⊢ iprop(bigSep Finset.univ (kept m) ∗ bigSep Finset.univ credit ∗ bigSep Finset.univ (fun c : Dev nD => semVal (barCell c) 0)
      ∗ bigSep Finset.univ (G (F := F))) := by
  iintro H
  ihave H := (show bigSep Finset.univ (handed m ρ) ⊢ bigSep Finset.univ fun c => iprop(kept m c ∗ credit c ∗ semVal (barCell c) 0 ∗ G c) from
    bigSep_mono fun c _ => handed_sorted m ρ c) $$ H
  ihave H := split_fam $$ H
  icases H with ⟨HB, H⟩
  ihave H := split_fam $$ H
  icases H with ⟨HC, H⟩
  ihave H := split_fam $$ H
  icases H with ⟨Hv, HG⟩
  isplitl [HB]; · iexact HB
  isplitl [HC]; · iexact HC
  isplitl [Hv]; · iexact Hv
  iexact HG

/-- The families the launch makes of the cells and the tokens, which every device is dealt one member of. -/
def undealt : sProp 𝕄 :=
  iprop((bigSep barCells fun g => atPos ER g 0 ∅ 0) ∗ (bigSep ownCells fun g => openTok ER g)
    ∗ bigSep (barToks ∪ ownToks) fun x => dutyTok ER x.1 x.2.1 x.2.2)

theorem fund_of (S Sd : Finset (GSem nD τ sig)) (T : Finset (GSem nD τ sig × ℕ × Fin 5)) (hd : Disjoint S Sd) :
    iprop((bigSep S fun g => semVal g 0) ∗ BI.own (ER (launchOf S Sd T)))
      ⊢ (|={Set.univ}=> ∃ κ : GSem nD τ sig → ℕ, ((bigSep (S ∪ Sd) fun g => cellInv ER (sched (blocks m).A0 (blocks m).L0) (κ g) g)
          ∗ bigSep S fun g => reached ER g 0)
        ∗ (bigSep S fun g => atPos ER g 0 ∅ 0) ∗ (bigSep Sd fun g => openTok ER g) ∗ bigSep T fun x => dutyTok ER x.1 x.2.1 x.2.2 : sProp 𝕄) := by
  iintro H
  imod (Rounds.fund_launch ER (sched (blocks m).A0 (blocks m).L0) hd (fun g _ h => h) T) $$ H with ⟨%κ, -, Hinv, Hr, Hat, Hopen, Htok⟩
  imodintro
  iexists κ
  isplitl [Hinv Hr]
  · isplitl [Hinv]; · iexact Hinv
    iexact Hr
  isplitl [Hat]; · iexact Hat
  isplitl [Hopen]; · iexact Hopen
  iexact Htok

theorem funded : iprop((bigSep barCells fun g => semVal g 0) ∗ BI.own (ER (launchOf barCells ownCells (barToks ∪ ownToks))))
    ⊢ (|={Set.univ}=> ∃ κ, records (blocks m).A0 (blocks m).L0 κ ∗ undealt : sProp 𝕄) :=
  fund_of m barCells ownCells (barToks ∪ ownToks) disjoint_cells

omit [FloatOps F] in
theorem all_dealt : iprop(undealt ∗ bigSep Finset.univ credit) ⊢ (bigSep Finset.univ dealt : sProp 𝕄) := by
  have e1 := over_bar (fun g => (atPos ER g 0 ∅ 0 : sProp 𝕄))
  have e2 := over_own (fun g => (openTok ER g : sProp 𝕄))
  have e3 := deal_toks (F := F)
  unfold undealt dealt
  rw [e1, e2, e3]
  iintro ⟨⟨Hat, Hopen, Htok⟩, HC⟩
  iapply both_fam
  isplitr [HC]
  · iapply both_fam
    isplitl [Hat]; · iexact Hat
    iapply both_fam
    isplitl [Hopen]; · iexact Hopen
    iexact Htok
  iexact HC

theorem spread {R : sProp 𝕄} [BI.Persistent R] {A B C : Dev nD → sProp 𝕄} (h : ∀ c, iprop(R ∗ A c ∗ B c) ⊢ C c) :
    iprop(R ∗ bigSep Finset.univ A ∗ bigSep Finset.univ B) ⊢ bigSep Finset.univ C := by
  iintro ⟨#HR, HA, HB⟩
  iapply (bigSep_with_persistent (S := Finset.univ) (R := R) (Φ := fun c : Dev nD => iprop(A c ∗ B c)) fun c _ => h c)
  isplitr; · iexact HR
  iapply both_fam
  isplitl [HA]; · iexact HA
  iexact HB

theorem init : iprop(bigSep Finset.univ (handed m ρ) ∗ levAts L lv) ⊢ (|={Set.univ}=> bigSep Finset.univ (T₀ m) : sProp 𝕄) := by
  have e : bigSep Finset.univ (G (F := F)) ⊢ BI.own (ER (launchOf barCells ownCells (barToks ∪ ownToks))) := Entails.of_eq (fam_onFirst _)
  have e' : (bigSep Finset.univ fun c : Dev nD => semVal (barCell c) 0) ⊢ (bigSep barCells fun g => semVal g 0 : sProp 𝕄) :=
    Entails.of_eq (over_bar fun g => (semVal g 0 : sProp 𝕄)).symm
  iintro ⟨H, -⟩
  ihave H := (all_sorted m ρ) $$ H
  icases H with ⟨HB, HC, Hv, HG⟩
  ihave HG := e $$ HG
  ihave Hv := e' $$ Hv
  imod (funded m) $$ [Hv HG] with ⟨%κ, HR, HU⟩
  · isplitl [Hv]; · iexact Hv
    iexact HG
  imodintro
  iapply (spread (R := records (blocks m).A0 (blocks m).L0 κ) (T₀_intro m κ))
  isplitl [HR]; · iexact HR
  isplitl [HB]; · iexact HB
  iapply all_dealt
  isplitl [HU]; · iexact HU
  iexact HC

end Cert.KernelIdeal.Attn

end
-- ==== Proof.Launch.lean ====
/-
# The run

The launch's data put together: every device is dealt its share, computes which part of the keys and values it reads, runs the
kernel, and ends with the result in place.
-/
module

public import proofs.«01_k».proof.Proof.Fund
public import Idealize.ShloMosaic.Lib.Quiescent

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The table as the host computes it -/

omit [FloatOps F] in
theorem word_part (c : Dev nD) : (Dev.word c / 16#32 % 2#32) * 4#32 + Dev.word c / 4#32 % 4#32 = BitVec.ofNat 32 (part c) := by
  revert c; decide +kernel

theorem host_table (c : Dev nD) : V1 m c main_v11 = (tabOf c : pre0.Contents (Elt F)) 0 := by
  show StableHlo.after (hostOps0 c) (V0 m c) (Proc.devRef .tc main_v11) = _
  after_results
  refine funext fun _ => ?_
  exact word_part c

theorem table_eq (c : Dev nD) : (fun k => V1 m c (pre0.ref k)) = (tabOf c : pre0.Contents (Elt F)) :=
  funext fun | 0 => host_table m c | ⟨_ + 1, h⟩ => absurd h (Nat.not_lt.2 (Nat.le_add_left _ _))

/-! ## The kernel's region -/

theorem arrays_at (c : Dev nD) : (StableHlo.held (c : Thread nD τ) (Pipeline.ucRefs τ sig) (V1 m c) : sProp 𝕄)
    ⊢ iprop((dat m c).arrays ((dat m c).arrAt · 0) ∗ Pipeline.prefHeld pre0 c (fun _ => fullShare) (tabOf c)) := by
  have hA : ∀ w : Fin 4, m ((c : Thread nD τ).loc (Pipeline.arrRef spec0 w)) = V1 m c (Pipeline.arrRef spec0 w) := fun
    | 0 => (V1_of m c main_arg0 (by decide)).symm
    | 1 => (V1_of m c main_arg1 (by decide)).symm
    | 2 => (V1_of m c main_arg2 (by decide)).symm
    | 3 => (V1_of m c main_v12 (by decide)).symm
    | ⟨_ + 4, h⟩ => absurd h (Nat.not_lt.2 (Nat.le_add_left _ _))
  have h1 : (unscopedBufs c (fun b => V1 m c b) : sProp 𝕄) ⊢ iprop((dat m c).arrays ((dat m c).arrAt · 0) ∗ Pipeline.unscopedRest spec0 c (fun b => V1 m c b)) :=
    Pipeline.PerCore.arrays_of_unscopedBufs (pcfgs (F := F)) adm (pdats m) (p := 0) winFacts0 arr_whole0 c ((dat m c).share_full fun _ => rfl)
      (fun b => V1 m c b) hA
  have h2 : (Pipeline.unscopedRest spec0 c (fun b => V1 m c b) : sProp 𝕄) ⊢ Pipeline.prefHeld pre0 c (fun _ => fullShare) (tabOf c) := by
    rw [Pipeline.unscopedRest_split preFacts0, table_eq]
    iintro ⟨H, -⟩
    iexact H
  rw [← Pipeline.unscopedBufs_held c (V1 m c)]
  iintro H
  ihave H := h1 $$ H
  icases H with ⟨HA, HR⟩
  isplitl [HA]; · iexact HA
  iapply h2 $$ HR

theorem own_sems : Pipeline.OwnSemFacts spec0 osem where
  isScoped := by decide +kernel
  inj := osem_inj
  disj := by decide +kernel

theorem stage_level (c : Dev nD) (w : Fin 4) (s : Fin (spec0 w).nbuf) : lv ((c : Thread nD τ), .dma ((spec0 w).sem s)) () = 0 := by
  have h : ∀ (w : Fin 4) (s : Fin (spec0 w).nbuf), ((spec0 w).sem s).val < 27 := by decide
  exact if_pos (h w s)

theorem level_pos : ∀ k : Fin 25, 0 < lvlOf k.val := by decide

theorem debt_levels (c : Dev nD) (t : ℕ) (g : GSem nD τ sig) (u : Unit) (h : 0 < debt c t g u) : () ∈ L g ∧ 0 < lv g () := by
  have hr (l : List (Fin 25)) (h : 0 < owesOf c l g u) : () ∈ L g ∧ 0 < lv g () := by
    obtain ⟨k, -, rfl⟩ := owesOf_pos h
    exact ⟨by rw [L_tc]; exact Finset.mem_singleton_self _, by rw [lv_r]; exact level_pos k⟩
  match t, h with
  | 0, h =>
    rcases owesBar_pos h with ⟨k, -, rfl⟩ | ⟨r, -, rfl⟩
    · exact ⟨by rw [L_tc]; exact Finset.mem_singleton_self _, by rw [lv_r]; exact level_pos k⟩
    · exact ⟨by rw [L_tc]; exact Finset.mem_singleton_self _, Nat.one_pos⟩
  | 1, h => exact hr _ h
  | 2, h => exact hr _ h
  | 3, h => exact hr _ h
  | t + 4, h => exact absurd h (Nat.lt_irrefl 0)

theorem stage_wait (c : Dev nD) (w : Fin 4) (s : Fin (spec0 w).nbuf) (t : ℕ) :
    (levAts L lv : sProp 𝕄) ⊢ MayWait (c : Thread nD τ) (.dma ((spec0 w).sem s)) () (debt c t) :=
  MayOwe.of_cut (L := L) (lev := lv) 0
    (fun p hp => by rw [Finset.mem_singleton.mp hp, L_tc]; exact Finset.mem_singleton_self _)
    (fun g u hg => (debt_levels c t g u hg).1)
    (fun p hp => by rw [Finset.mem_singleton.mp hp, stage_level])
    (fun g u hg => (debt_levels c t g u hg).2)

/-- What the kernel leaves a device with. -/
def endOf (c : Dev nD) : sProp 𝕄 :=
  iprop((dat m c).arrays ((dat m c).arrAt · (cfgOf (F := F) c).N) ∗ semVal (barCell c) 0)

def region : Pipeline.PerCore.RegionSeg (pcfgs (F := F)) adm (pdats m) () defs₀ 𝒱₀ L lv 0 where
  win := winFacts0.to₀
  block_pos := block_pos0
  stage_whole := stage_whole0
  K := Fin 2 × Fin 25
  osem := osem
  ho := own_sems
  hbody c := (obligation m c).loose
  hwaits c := Pipeline.PerCore.cellsWaits_intro (Pipeline.pinD (pcfgs (F := F)) adm) (pdats m) () 0 c fun w s t => stage_wait c w s t.val
  pre c := iprop(StableHlo.held (c : Thread nD τ) (Pipeline.ucRefs τ sig) (V1 m c) ∗ startOf m c)
  post c := iprop(endOf m c ∗ ∃ W, owes (c : Thread nD τ) (0 : CellTallies nD τ sig Unit) W)
  X c := entering m c
  Y c := semVal (barCell c) 0
  Z _ := iprop(emp)
  hentry c := by
    have h : iprop((StableHlo.held (c : Thread nD τ) (Pipeline.ucRefs τ sig) (V1 m c) ∗ startOf m c) ∗ Pipeline.ownSems0 osem c ∗ levAts L lv)
        ⊢ |={Set.univ}=> iprop((dat m c).arrays ((dat m c).arrAt · 0) ∗ Pipeline.prefHeld pre0 c (fun _ => fullShare) (tabOf c)
          ∗ (dat m c).owesAt () 0 ∗ entering m c ∗ emp) := by
      unfold startOf entering
      iintro ⟨⟨Hh, ⟨%κ, HR, Hd⟩, HO⟩, Hv, Hlv⟩
      ihave Hh := (arrays_at m c) $$ Hh
      icases Hh with ⟨HA, HP⟩
      imod (all_open (blocks m).A0 (blocks m).L0 κ c) $$ [HR Hd Hv] with HX
      · isplitl [HR]; · iexact HR
        isplitl [Hd]; · iexact Hd
        iexact Hv
      imodintro
      isplitl [HA]; · iexact HA
      isplitl [HP]; · iexact HP
      isplitl [HO]; · iapply (show iprop(∃ W, owes (c : Thread nD τ) (O₀ c) W) ⊢ (dat m c).owesAt () 0 from owesAt_intro m c 0) $$ HO
      isplitl [Hlv HX]
      · isplitl [Hlv]; · iexact Hlv
        iexact HX
      iempintro
    exact h
  hin c := by
    have h : iprop(entering m c ∗ Pipeline.prefHeld pre0 c (fun _ => fullShare) (tabOf c) ∗ Pipeline.scopedRest spec0 c) ⊢ (dat m c).Φ 0 := by
      iintro ⟨HX, -, HS⟩
      iapply (enter m c)
      isplitl [HX]; · iexact HX
      iexact HS
    exact h
  hout c := leave m c
  hexit c := by
    have h : iprop((dat m c).arrays ((dat m c).arrAt · (cfgOf (F := F) c).N) ∗ (dat m c).owesAt () (Fin.last (cfgOf (F := F) c).N) ∗ semVal (barCell c) 0 ∗ emp)
        ⊢ |={Set.univ}=> iprop(endOf m c ∗ ∃ W, owes (c : Thread nD τ) (0 : CellTallies nD τ sig Unit) W) := by
      unfold endOf
      iintro ⟨HA, HO, Hb, -⟩
      imodintro
      isplitl [HA Hb]
      · isplitl [HA]; · iexact HA
        iexact Hb
      iapply (owesAt_elim m c (Fin.last _)) $$ HO
    exact h

def segs (c : Dev nD) : List (Pipeline.PerCore.Seg (pcfgs (F := F)) adm (pdats m) () defs₀ 𝒱₀ L lv) :=
  [.host (seg0 m 𝒱₀ L lv (fun _ => startOf m) c), .region (region m)]

theorem unscoped_eq : ∀ sm : SemLoc sig, sm.isScoped .tc = false → sm = .reg barrier0 := by decide

/-- Every run ends with the windows' arrays as the kernel leaves them and every counter at zero. -/
def Ends (s : MemSt nD τ sig (Elt F)) : Prop :=
  (∀ (c : Dev nD) (w : Fin 4), s.mem ((c : Thread nD τ).loc (Pipeline.arrRef spec0 w)) = (dat m c).arrAt w (cfgOf (F := F) c).N) ∧ s.sem = fun _ => 0

set_option backward.isDefEq.respectTransparency.types false in
theorem run_arrays : θ_run defs (onTc (τ := τ) (main (F := F))) ⟨m, fun _ => 0, ρ⟩ (fun r => Ends m r.2) :=
  Pipeline.PerCore.θ_run_regions_kit_sems (pcfgs (F := F)) adm (pdats m) () cells_inj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          Prog.lift (.customCall (Pipeline.entry 0) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [fam_onFirst]; iexact HX)
    (T₀ := T₀ m) (Tₙ := endOf m)
    (hch := fun c => ⟨.rfl, .rfl, .rfl⟩)
    (hinit := init m ρ)
    (QY := fun c s => (∀ w : Fin 4, s.mem ((c : Thread nD τ).loc (Pipeline.arrRef spec0 w)) = (dat m c).arrAt w (cfgOf (F := F) c).N) ∧ s.sem (barCell c) = 0)
    (hfin := fun c s' => by
      have hr : iprop((dat m c).arrays ((dat m c).arrAt · (cfgOf (F := F) c).N) ∗ SI s')
          ⊢ (iprop(⌜∀ w : Fin 4, s'.mem.mem ((c : Thread nD τ).loc (Pipeline.arrRef spec0 w)) = (dat m c).arrAt w (cfgOf (F := F) c).N⌝ ∗ SI s') : sProp 𝕄) :=
        Pipeline.PerCore.arrays_read (pcfgs (F := F)) adm (pdats m) (p := 0) arr_whole0 c ((dat m c).share_full fun _ => rfl) _ s'
      unfold endOf
      iintro ⟨⟨HA, Hb⟩, HSI⟩
      ihave H := hr $$ [HA HSI]
      · isplitl [HA] <;> iassumption
      icases H with ⟨%h, HSI⟩
      icombine HSI Hb gives %hb
      imodintro
      isplitr
      · ipureintro
        exact ⟨h, by simpa using hb⟩
      iexact HSI)
    (hQ := fun s h hs => ⟨fun c => (h c).1, sem_eq_zero hs fun c sm hsm => by
        obtain rfl := unscoped_eq sm hsm
        exact (h c).2⟩)

end Cert.KernelIdeal.Attn

end
-- ==== Proof.Ending.lean ====
/-
# How every run ends

The arguments are as they were, every counter is zero, and the result is the quotient of the two sums.
-/
module

public import proofs.«01_k».proof.Proof.Launch

@[expose] public section

noncomputable section

namespace Cert.KernelIdeal.Attn

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The last grid point, at which the result is written back. -/
def lastPt : Fin grid0.N := ⟨3, by decide⟩

theorem arg_end (c : Dev nD) (w : Fin 4) (h : ((cfgOf (F := F) c).win w).isOut = false) :
    (dat m c).arrAt w (cfgOf (F := F) c).N = m ((c : Thread nD τ).loc (Pipeline.arrRef spec0 w)) :=
  (dat m c).arrAt_in w h _

theorem out_block (c : Dev nD) (t : Fin grid0.N) (x : S4x32x8x128.Idx) : (((cfgOf (F := F) c).win 3).rect t).emb x = x := by
  refine funext fun (a : Fin 4) => Fin.ext ?_
  refine (Pipeline.Window.rect_emb_val ((cfgOf (F := F) c).win 3) t x a rfl).trans ?_
  match a with
  | 0 => exact Nat.zero_add _
  | 1 => exact Nat.zero_add _
  | 2 => exact Nat.zero_add _
  | 3 => exact Nat.zero_add _

theorem out_end (c : Dev nD) : (dat m c).arrAt 3 (cfgOf (F := F) c).N = (blocks m).out c := by
  refine (dat m c).arrAt_eq_of_cover 3 ((blocks m).out c) (fun t ht => ?_) (fun i => ⟨lastPt, (flush_out c lastPt).2 rfl, ?_⟩)
  · refine funext fun (x : S4x32x8x128.Idx) => ?_
    show (blocks m).out c x = (blocks m).out c ((((cfgOf (F := F) c).win 3).rect t).emb x)
    rw [out_block]
  · have h := (((cfgOf (F := F) c).win 3).blk lastPt).view.emb_mem_set i
    rwa [show (((cfgOf (F := F) c).win 3).blk lastPt).view.emb i = i from out_block c lastPt i] at h

theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v12) = (blocks m).out c)
    ∧ r.2.sem = fun _ => 0) :=
  (θ_run defs _ _).mono (fun _ h => ⟨fun c => ⟨(h.1 c 0).trans (arg_end m c 0 rfl), (h.1 c 1).trans (arg_end m c 1 rfl),
    (h.1 c 2).trans (arg_end m c 2 rfl), (h.1 c 3).trans (out_end m c)⟩, h.2⟩) (run_arrays m ρ)

end Cert.KernelIdeal.Attn

end
-- ==== Proof.Same.lean ====
/-
# The two readings run one text

The kernel and its ideal reading are the same program, over any float values.
-/
module

public import proofs.«01_k».proof.Proof.Ending
public import proofs.«01_k».proof.Proof.Gen.Kernel

@[expose] public section

noncomputable section

namespace Cert.KernelIdeal.Attn

open Idealize.ShloMosaic Idealize.SL.Sem

variable {F : FTy → Type} [FloatOps F]

theorem body_same : Cert.Kernel.cc0_body (F := F) = Cert.KernelIdeal.cc0_body (F := F) := rfl

theorem label_same (x : Cert.KernelIdeal.Λ₀.Args 0) : Cert.Kernel.defs₀ (F := F) .tc 0 x = Cert.KernelIdeal.defs₀ (F := F) .tc 0 x := by
  obtain ⟨t, s⟩ := x
  rfl

theorem defs₀_same : Cert.Kernel.defs₀ (F := F) = Cert.KernelIdeal.defs₀ (F := F) := by
  funext p l x
  match p, l, x with
  | .tc, 0, x => exact label_same x
  | .scScalar _, _, _ => rfl
  | .scVector _ _, _, _ => rfl

theorem defs_same : Cert.Kernel.defs (F := F) = Cert.KernelIdeal.defs (F := F) :=
  congrArg (Pipeline.defs (Cert.KernelIdeal.pcfgs (F := F))) defs₀_same

set_option maxHeartbeats 1000000 in
theorem main_same : Cert.Kernel.main (F := F) = Cert.KernelIdeal.main (F := F) := rfl

end Cert.KernelIdeal.Attn

end
-- ==== Proof.Read.lean ====
/-
# The kernel's arithmetic, read at an index

What one grid step of a device computes, as sums of products over the extended reals, and what the whole computation of a
device leaves in the result, in terms of the sums over all devices.
-/
module

public import proofs.«01_k».proof.Proof.Oblig
public import Idealize.ShloMosaic.Lib.Pointwise

@[expose] public section

noncomputable section

namespace Cert.KernelIdeal.Attn

open Cert.KernelIdeal Cert.KernelIdeal.Gen
open Idealize.ShloMosaic
open Idealize.ShloMosaic.TcCoe

/-- The scale of the scores. -/
def scale : EReal := Ideal.ofBits .f32 0x3DB504F3#32

theorem rowSum_apply (q : S1x32x1x128.Idx → EReal) (k : S1x512x1x128.Idx → EReal) (r : Fin 32) :
    k0_pay26 (F := Ideal) q k (ix3 (0 : Fin 1) r (0 : Fin 1))
      = ∑ j : Fin 512, Ideal.exp ((∑ d : Fin 128, q (ix4 0 r 0 d) * k (ix4 0 j 0 d)) * scale) := by
  pointwise [k0_pay26, k0_pay25, scale]

theorem weighted_apply (q : S1x32x1x128.Idx → EReal) (k v : S1x512x1x128.Idx → EReal) (r : Fin 32) (l : Fin 128) :
    k0_pay27 (F := Ideal) q k v (ix3 r (0 : Fin 1) l)
      = ∑ j : Fin 512, Ideal.exp ((∑ d : Fin 128, q (ix4 0 r 0 d) * k (ix4 0 j 0 d)) * scale) * v (ix4 0 j 0 l) := by
  pointwise [k0_pay27, k0_pay25, scale]

theorem quotient_apply (A : S1024x128.Idx → EReal) (L : S4x32x8.Idx → EReal) (b : Fin 4) (r : Fin 32) (h : Fin 8) (l : Fin 128) :
    k0_pay3 (F := Ideal) A L (ix4 b r h l)
      = Ideal.div (A (ix2 ⟨b.val * 256 + r.val * 8 + h.val, by omega⟩ l)) (L (ix3 b r h)) := by
  pointwise [k0_pay3]

theorem rows_apply (T : S32x8x128.Idx → EReal) (i : Fin 256) (l : Fin 128) :
    k0_pay2 (F := Ideal) T (ix2 i l) = T (ix3 ⟨i.val / 8, by omega⟩ ⟨i.val % 8, by omega⟩ l) := by
  pointwise [k0_pay2]

end Cert.KernelIdeal.Attn

end
-- ==== Proof.Plain.lean ====
/-
# The reference, read at an index

The composed term of the reference's operations, an entry of it: a sum of values weighted by the exponentials of the scores less
their maximum, each over the sum of those.
-/
module

public import proofs.«01_k».proof.Proof.Gen.ReferenceIdeal
public import Idealize.ShloMosaic.Lib.Pointwise

@[expose] public section

noncomputable section

namespace Cert.ReferenceIdeal.Attn

open Cert.ReferenceIdeal Cert.ReferenceIdeal.Gen
open Idealize.ShloMosaic
open Idealize.ShloMosaic.TcCoe

/-- The scores. -/
def scores (Q : FVec Ideal S4x32x8x128 .f32) (K : FVec Ideal S4x16384x8x128 .f32) : FVec Ideal S4x8x32x16384 .f32 :=
  mulf (Host.dotGeneral dot_S4x32x8x128_S4x16384x8x128_S4x8x32x16384_3_3_1_1_02_02 none Q K) (broadcastInDim S4x8x32x16384 ![] bcast_S_S4x8x32x16384 (constant S_ .f32 0x3DB504F3#32))

/-- The exponentials of the scores less their maximum along the keys. -/
def weights (S : FVec Ideal S4x8x32x16384 .f32) : FVec Ideal S4x8x32x16384 .f32 :=
  Host.exp (subf S (broadcastInDim S4x8x32x16384 ![0, 1, 2, 3] bcast_S4x8x32x1_S4x8x32x16384_0_1_2_3 (broadcastInDim S4x8x32x1 ![0, 1, 2] bcast_S4x8x32_S4x8x32x1_0_1_2 (Host.reduce FloatOps.maximumf S (constant S_ .f32 0xFF800000#32) reducesTo_S4x8x32x16384_S4x8x32_d3 h_S_))))

/-- The values, weighted. -/
def attend (V : FVec Ideal S4x16384x8x128 .f32) (E : FVec Ideal S4x8x32x16384 .f32) : FVec Ideal S4x32x8x128 .f32 :=
  transpose S4x32x8x128 [0, 3, 1, 2] (Host.dotGeneral dot_S4x16384x8x128_S4x8x32x16384_S4x8x128x32_1_3_3_2_02_01 none V (Host.divf E (broadcastInDim S4x8x32x16384 ![0, 1, 2, 3] bcast_S4x8x32x1_S4x8x32x16384_0_1_2_3 (broadcastInDim S4x8x32x1 ![0, 1, 2] bcast_S4x8x32_S4x8x32x1_0_1_2 (Host.reduceAdd E (constant S_ .f32 0x00000000#32) reducesTo_S4x8x32x16384_S4x8x32_d3 h_S_))))) transposes_S4x8x128x32_S4x32x8x128_0_3_1_2

theorem scores_apply (Q : FVec Ideal S4x32x8x128 .f32) (K : FVec Ideal S4x16384x8x128 .f32) (b : Fin 4) (h : Fin 8) (r : Fin 32) (j : Fin 16384) :
    scores Q K (ix4 b h r j) = (∑ d : Fin 128, Q (ix4 b r h d) * K (ix4 b j h d)) * Ideal.ofBits .f32 0x3DB504F3#32 := by
  pointwise [scores]

theorem weights_apply (S : FVec Ideal S4x8x32x16384 .f32) (b : Fin 4) (h : Fin 8) (r : Fin 32) (j : Fin 16384) :
    weights S (ix4 b h r j)
      = Ideal.exp (S (ix4 b h r j) - (Finset.univ : Finset (Fin 16384)).fold max (Ideal.ofBits .f32 0xFF800000#32) fun j' => S (ix4 b h r j')) := by
  pointwise [weights]

theorem attend_apply (V : FVec Ideal S4x16384x8x128 .f32) (E : FVec Ideal S4x8x32x16384 .f32) (b : Fin 4) (r : Fin 32) (h : Fin 8) (l : Fin 128) :
    attend V E (ix4 b r h l)
      = ∑ j : Fin 16384, V (ix4 b j h l) * Ideal.div (E (ix4 b h r j)) (∑ j' : Fin 16384, E (ix4 b h r j')) := by
  pointwise [attend]

end Cert.ReferenceIdeal.Attn

end
-- ==== Proof.Soft.lean ====
/-
# Weighted averages over the extended reals

Dividing a sum of values, each times the exponential of its score, by the sum of the exponentials is weighting each value by its
share, and a common real shift of the scores changes no share. Values may be infinite: the weights are positive reals.
-/
module

public import Idealize.ShloMosaic.Lib.Pointwise

@[expose] public section

noncomputable section

namespace Cert.Average

open Idealize.ShloMosaic

variable {ι : Type} [Fintype ι]

/-- A real factor that is not negative comes out of a sum. -/
theorem sum_mul_real (t : Finset ι) (f : ι → EReal) {a : ℝ} (ha : 0 ≤ a) : (∑ j ∈ t, f j) * (a : EReal) = ∑ j ∈ t, f j * (a : EReal) := by
  classical
  induction t using Finset.induction with
  | empty => simp
  | insert j t hj ih =>
    rw [Finset.sum_insert hj, Finset.sum_insert hj, ← ih, EReal.right_distrib_of_nonneg_of_ne_top (EReal.coe_nonneg.mpr ha) (EReal.coe_ne_top a)]

/-- A sum of reals is real. -/
theorem sum_real (t : Finset ι) (f : ι → ℝ) : ∑ j ∈ t, (f j : EReal) = ((∑ j ∈ t, f j : ℝ) : EReal) := by
  classical
  induction t using Finset.induction with
  | empty => simp
  | insert j t hj ih => rw [Finset.sum_insert hj, Finset.sum_insert hj, ih, EReal.coe_add]

theorem exp_real (x : ℝ) : Ideal.exp (x : EReal) = (Real.exp x : EReal) := rfl

theorem div_real (x : EReal) {a : ℝ} (ha : a ≠ 0) : Ideal.div x (a : EReal) = x * ((a⁻¹ : ℝ) : EReal) := by
  unfold Ideal.div
  rw [if_neg (by exact_mod_cast ha), EReal.coe_inv]

/-- The greatest of finitely many reals, and not of none, is real. -/
theorem max_real (t : Finset ι) (f : ι → ℝ) : t = ∅ ∨ ∃ M : ℝ, (t.fold max (⊥ : EReal) fun j => (f j : EReal)) = (M : EReal) := by
  classical
  induction t using Finset.induction with
  | empty => exact .inl rfl
  | insert j t hj ih =>
    right
    rw [Finset.fold_insert hj]
    rcases ih with rfl | ⟨M, hM⟩
    · exact ⟨f j, by simp⟩
    · exact ⟨max (f j) M, by rw [hM]; exact (EReal.coe_strictMono.monotone.map_max).symm⟩

/-- The average weighted by exponentials, however the scores are shifted. -/
theorem shares [Nonempty ι] (s : ι → ℝ) (V : ι → EReal) (M : ℝ) :
    ∑ j, V j * Ideal.div (Ideal.exp ((s j : EReal) - (M : EReal))) (∑ i, Ideal.exp ((s i : EReal) - (M : EReal)))
      = Ideal.div (∑ j, Ideal.exp (s j : EReal) * V j) (∑ j, Ideal.exp (s j : EReal)) := by
  have hpos : 0 < ∑ j, Real.exp (s j) := Finset.sum_pos (fun j _ => Real.exp_pos _) Finset.univ_nonempty
  have hshift (j : ι) : Ideal.exp ((s j : EReal) - (M : EReal)) = ((Real.exp (s j) * Real.exp (-M) : ℝ) : EReal) := by
    rw [← EReal.coe_sub, exp_real, sub_eq_add_neg, Real.exp_add]
  have hpos' : 0 < ∑ j, Real.exp (s j) * Real.exp (-M) := by
    rw [← Finset.sum_mul]; exact mul_pos hpos (Real.exp_pos _)
  simp only [hshift, exp_real, sum_real]
  rw [div_real _ hpos.ne', sum_mul_real _ _ (inv_nonneg.mpr hpos.le)]
  refine Finset.sum_congr rfl fun j _ => ?_
  rw [div_real _ hpos'.ne', ← EReal.coe_mul, mul_comm ((Real.exp (s j) : ℝ) : EReal), mul_assoc (V j), ← EReal.coe_mul]
  congr 2
  rw [← Finset.sum_mul, mul_inv, mul_mul_mul_comm, mul_inv_cancel₀ (Real.exp_pos _).ne', mul_one]

/-- The shift by the greatest score among them. -/
theorem shares_max [Nonempty ι] (s : ι → ℝ) (V : ι → EReal) :
    ∑ j, V j * Ideal.div (Ideal.exp ((s j : EReal) - (Finset.univ : Finset ι).fold max ⊥ fun i => (s i : EReal)))
        (∑ i, Ideal.exp ((s i : EReal) - (Finset.univ : Finset ι).fold max ⊥ fun i => (s i : EReal)))
      = Ideal.div (∑ j, Ideal.exp (s j : EReal) * V j) (∑ j, Ideal.exp (s j : EReal)) := by
  rcases max_real Finset.univ s with h | ⟨M, hM⟩
  · exact absurd h Finset.univ_nonempty.ne_empty
  · rw [hM]; exact shares s V M

/-- What is below infinity in absolute value is real. -/
theorem real_of_abs {x : EReal} (h : max x (-x) < ⊤) : ∃ a : ℝ, x = (a : EReal) := by
  induction x with
  | bot => simp at h
  | top => simp at h
  | coe a => exact ⟨a, rfl⟩

theorem negInf : Ideal.ofBits .f32 0xFF800000#32 = ⊥ := by simp [Ideal.ofBits, Ideal.ieee]
theorem posInf : Ideal.ofBits .f32 0x7F800000#32 = ⊤ := by simp [Ideal.ofBits, Ideal.ieee]
theorem scale_real : ∃ a : ℝ, Ideal.ofBits .f32 0x3DB504F3#32 = (a : EReal) := by
  simp only [Ideal.ofBits, Ideal.ieee]
  norm_num
  exact ⟨_, rfl⟩

end Cert.Average

end
-- ==== Proof.Value.lean ====
/-
# What the result holds

The five rounds add up every device's contribution, the devices' blocks of keys are all the keys, and so every entry of the
result is the reference's.
-/
module

public import proofs.«01_k».proof.Proof.Read
public import proofs.«01_k».proof.Proof.Plain
public import proofs.«01_k».proof.Proof.Soft

@[expose] public section

noncomputable section

namespace Cert.KernelIdeal.Attn

open Cert.KernelIdeal Cert.KernelIdeal.Gen
open Idealize.ShloMosaic
open Idealize.ShloMosaic.TcCoe

/-! ## The sum over the devices -/

/-- The devices whose contributions a device has added up after `k` rounds. -/
def reach : ℕ → Dev nD → Finset (Dev nD)
  | 0, c => {c}
  | k + 1, c => reach k c ∪ reach k (peer (Fin.ofNat 5 k) c)

theorem reach_disjoint : ∀ (k : Fin 5) (c : Dev nD), Disjoint (reach k c) (reach k (peer (Fin.ofNat 5 k) c)) := by decide +kernel

theorem reach_all : ∀ c : Dev nD, reach 5 c = Finset.univ := by decide +kernel

theorem accV_sum (A : Dev nD → S1024x128.Idx → EReal) (i : S1024x128.Idx) :
    ∀ (k : ℕ) (_ : k ≤ 5) (c : Dev nD), accV (F := Ideal) A k c i = ∑ e ∈ reach k c, A e i
  | 0, _, c => by rw [reach, Finset.sum_singleton]; rfl
  | k + 1, h, c => by
    rw [reach, Finset.sum_union (reach_disjoint ⟨k, h⟩ c), ← accV_sum A i k (by omega) c, ← accV_sum A i k (by omega) _]; rfl

theorem lV_sum (L : Dev nD → S4x32x8.Idx → EReal) (x : S4x32x8.Idx) :
    ∀ (k : ℕ) (_ : k ≤ 5) (c : Dev nD), lV (F := Ideal) L k c x = ∑ e ∈ reach k c, L e x
  | 0, _, c => by rw [reach, Finset.sum_singleton]; rfl
  | k + 1, h, c => by
    rw [reach, Finset.sum_union (reach_disjoint ⟨k, h⟩ c), ← lV_sum L x k (by omega) c, ← lV_sum L x k (by omega) _]; rfl

/-! ## The devices' keys are all the keys -/

/-- The row of the whole keys that is row `j` of device `c`'s part. -/
def row (c : Dev nD) (j : Fin 512) : Fin 16384 :=
  ⟨c.val % 4 * 4096 + part c * 512 + j.val, by have := part_lt c; omega⟩

theorem place_inj : ∀ c c' : Dev nD, c.val % 4 = c'.val % 4 → part c = part c' → c = c' := by decide +kernel

theorem row_bij : Function.Bijective fun p : Dev nD × Fin 512 => row p.1 p.2 := by
  refine (Fintype.bijective_iff_injective_and_card _).mpr ⟨?_, by simp [nD]⟩
  rintro ⟨c, j⟩ ⟨c', j'⟩ h
  have h : c.val % 4 * 4096 + part c * 512 + j.val = c'.val % 4 * 4096 + part c' * 512 + j'.val := congrArg Fin.val h
  have hp := part_lt c
  have hp' := part_lt c'
  have e1 : c.val % 4 = c'.val % 4 := by omega
  have e2 : part c = part c' := by omega
  have e3 : j.val = j'.val := by omega
  exact Prod.ext (place_inj c c' e1 e2) (Fin.ext e3)

theorem sum_rows (f : Fin 16384 → EReal) : ∑ c : Dev nD, ∑ j : Fin 512, f (row c j) = ∑ j, f j := by
  rw [← Fintype.sum_prod_type' (fun c j => f (row c j))]
  exact Fintype.sum_bijective _ row_bij _ _ fun _ => rfl

/-! ## An entry of the result -/

variable (m : (ℓ : Loc nD τ sig) → Buf (Elt Ideal) ℓ)
variable (Q : S4x32x8x128.Idx → EReal) (K V : (⟨4, ![4, 16384, 8, 128]⟩ : Shape).Idx → EReal)

/-- The score of query `r` and key `j`. -/
def score (b : Fin 4) (r : Fin 32) (h : Fin 8) (j : Fin 16384) : EReal := (∑ d : Fin 128, Q (ix4 b r h d) * K (ix4 b j h d)) * scale

/-- The devices hold the queries, and their own rows of the keys and values. -/
structure Holds : Prop where
  q : ∀ c : Dev nD, m ((c : Thread nD τ).loc main_arg0) = Q
  k : ∀ (c : Dev nD) (b : Fin 4) (j : Fin 512) (h : Fin 8) (d : Fin 128),
    m ((c : Thread nD τ).loc main_arg1) (ix4 (n0 := 4) (n1 := 4096) (n2 := 8) (n3 := 128) b (Fin.ofNat 4096 (part c * 512 + j.val)) h d) = K (ix4 b (row c j) h d)
  v : ∀ (c : Dev nD) (b : Fin 4) (j : Fin 512) (h : Fin 8) (d : Fin 128),
    m ((c : Thread nD τ).loc main_arg2) (ix4 (n0 := 4) (n1 := 4096) (n2 := 8) (n3 := 128) b (Fin.ofNat 4096 (part c * 512 + j.val)) h d) = V (ix4 b (row c j) h d)

variable {m Q K V} (H : Holds m Q K V)
include H

theorem L0_apply (c : Dev nD) (b : Fin 4) (r : Fin 32) (h : Fin 8) :
    (blocks m).L0 c (ix3 b r h) = ∑ j : Fin 512, Ideal.exp (score Q K b r h (row c j)) := by
  refine (rowSum_apply _ _ r).trans (Finset.sum_congr rfl fun j _ => congrArg Ideal.exp (congrArg (· * scale) (Finset.sum_congr rfl fun d _ => ?_)))
  rw [← H.k c b j h d, ← H.q c]
  have eb : Fin.ofNat 4 b.val = b := Fin.ext (Nat.mod_eq_of_lt b.isLt)
  have eh : Fin.ofNat 8 h.val = h := Fin.ext (Nat.mod_eq_of_lt h.isLt)
  exact congrArg₂ (· * ·)
    (congrArg (m ((c : Thread nD τ).loc main_arg0)) (show ix4 (Fin.ofNat 4 b.val) r (Fin.ofNat 8 h.val) d = ix4 b r h d by rw [eb, eh]))
    (congrArg (m ((c : Thread nD τ).loc main_arg1)) (show ix4 (Fin.ofNat 4 b.val) (Fin.ofNat 4096 (part c * 512 + j.val)) (Fin.ofNat 8 h.val) d = ix4 b _ h d by rw [eb, eh]))

theorem T0_apply (c : Dev nD) (b : Fin 4) (r : Fin 32) (h : Fin 8) (l : Fin 128) :
    (blocks m).T0 c b.val (ix3 r h l) = ∑ j : Fin 512, Ideal.exp (score Q K b r h (row c j)) * V (ix4 b (row c j) h l) := by
  have eb : Fin.ofNat 4 b.val = b := Fin.ext (Nat.mod_eq_of_lt b.isLt)
  have eh : Fin.ofNat 8 h.val = h := Fin.ext (Nat.mod_eq_of_lt h.isLt)
  refine (weighted_apply _ _ _ r l).trans (Finset.sum_congr rfl fun j _ => congrArg₂ (fun x y => Ideal.exp (x * scale) * y)
    (Finset.sum_congr rfl fun d _ => ?_) ?_)
  · rw [← H.k c b j h d, ← H.q c]
    exact congrArg₂ (· * ·)
      (congrArg (m ((c : Thread nD τ).loc main_arg0)) (show ix4 (Fin.ofNat 4 b.val) r (Fin.ofNat 8 h.val) d = ix4 b r h d by rw [eb, eh]))
      (congrArg (m ((c : Thread nD τ).loc main_arg1)) (show ix4 (Fin.ofNat 4 b.val) (Fin.ofNat 4096 (part c * 512 + j.val)) (Fin.ofNat 8 h.val) d = ix4 b _ h d by rw [eb, eh]))
  · rw [← H.v c b j h l]
    exact congrArg (m ((c : Thread nD τ).loc main_arg2)) (show ix4 (Fin.ofNat 4 b.val) (Fin.ofNat 4096 (part c * 512 + j.val)) (Fin.ofNat 8 h.val) l = ix4 b _ h l by rw [eb, eh])

theorem A0_apply (c : Dev nD) (b : Fin 4) (r : Fin 32) (h : Fin 8) (l : Fin 128) :
    (blocks m).A0 c (ix2 ⟨b.val * 256 + r.val * 8 + h.val, by omega⟩ l)
      = ∑ j : Fin 512, Ideal.exp (score Q K b r h (row c j)) * V (ix4 b (row c j) h l) := by
  refine Eq.trans ?_ (T0_apply H c b r h l)
  have e0 : (b.val * 256 + r.val * 8 + h.val) / 256 = b.val := by omega
  have e1 : (Fin.ofNat 256 (b.val * 256 + r.val * 8 + h.val)).val = r.val * 8 + h.val := by
    show (b.val * 256 + r.val * 8 + h.val) % 256 = _
    omega
  show k0_pay2 (F := Ideal) ((blocks m).T0 c ((b.val * 256 + r.val * 8 + h.val) / 256)) (ix2 (Fin.ofNat 256 (b.val * 256 + r.val * 8 + h.val)) l) = _
  rw [e0, rows_apply]
  exact congrArg ((blocks m).T0 c b.val) (congrArg₂ (fun x y => ix3 x y l) (Fin.ext (by show _ / 8 = r.val; omega)) (Fin.ext (by show _ % 8 = h.val; omega)))

/-- An entry of the result: the weighted sum over all the keys, over the sum of the weights. -/
theorem out_apply (c : Dev nD) (b : Fin 4) (r : Fin 32) (h : Fin 8) (l : Fin 128) :
    (blocks m).out c (ix4 b r h l)
      = Ideal.div (∑ j : Fin 16384, Ideal.exp (score Q K b r h j) * V (ix4 b j h l)) (∑ j : Fin 16384, Ideal.exp (score Q K b r h j)) := by
  refine (quotient_apply _ _ b r h l).trans (congrArg₂ Ideal.div ?_ ?_)
  · refine (accV_sum _ _ 5 le_rfl _).trans ?_
    rw [reach_all, ← sum_rows]
    exact Finset.sum_congr rfl fun e _ => A0_apply H e b r h l
  · refine (lV_sum _ _ 5 le_rfl c).trans ?_
    rw [reach_all, ← sum_rows]
    exact Finset.sum_congr rfl fun e _ => L0_apply H e b r h

omit H in
/-- An entry of the reference, of real queries and keys, is the same. -/
theorem ref_apply (hQ : ∀ i, ∃ a : ℝ, Q i = (a : EReal)) (hK : ∀ i, ∃ a : ℝ, K i = (a : EReal)) (b : Fin 4) (r : Fin 32) (h : Fin 8) (l : Fin 128) :
    Cert.ReferenceIdeal.Attn.attend V (Cert.ReferenceIdeal.Attn.weights (Cert.ReferenceIdeal.Attn.scores Q K)) (ix4 b r h l)
      = Ideal.div (∑ j : Fin 16384, Ideal.exp (score Q K b r h j) * V (ix4 b j h l)) (∑ j : Fin 16384, Ideal.exp (score Q K b r h j)) := by
  choose q hq using hQ
  choose k hk using hK
  obtain ⟨a, ha⟩ := Cert.Average.scale_real
  have hs : ∃ s : Fin 16384 → ℝ, ∀ j, score Q K b r h j = (s j : EReal) :=
    ⟨fun j => (∑ d : Fin 128, q (ix4 b r h d) * k (ix4 b j h d)) * a, fun j => by
      rw [score, scale, ha, EReal.coe_mul, ← Cert.Average.sum_real]
      simp only [hq, hk, EReal.coe_mul]⟩
  obtain ⟨s, hs⟩ := hs
  rw [Cert.ReferenceIdeal.Attn.attend_apply]
  simp only [Cert.ReferenceIdeal.Attn.weights_apply, Cert.ReferenceIdeal.Attn.scores_apply, Cert.Average.negInf]
  have hs' (j : Fin 16384) : (∑ d : Fin 128, Q (ix4 b r h d) * K (ix4 b j h d)) * Ideal.ofBits .f32 0x3DB504F3#32 = (s j : EReal) := hs j
  simp only [hs, hs']
  exact Cert.Average.shares_max s fun j => V (ix4 b j h l)

/-- The result is the reference's. -/
theorem out_eq (hQ : ∀ i, ∃ a : ℝ, Q i = (a : EReal)) (hK : ∀ i, ∃ a : ℝ, K i = (a : EReal)) (c : Dev nD) :
    (blocks m).out c = Cert.ReferenceIdeal.Attn.attend V (Cert.ReferenceIdeal.Attn.weights (Cert.ReferenceIdeal.Attn.scores Q K)) := by
  funext (i : S4x32x8x128.Idx)
  have hi : i = ix4 (n0 := 4) (n1 := 32) (n2 := 8) (n3 := 128) (i 0) (i 1) (i 2) (i 3) := by
    funext (a : Fin 4)
    match a with
    | 0 => rfl
    | 1 => rfl
    | 2 => rfl
    | 3 => rfl
  rw [hi]
  exact (out_apply H c _ _ _ _).trans (ref_apply hQ hK _ _ _ _).symm

end Cert.KernelIdeal.Attn

end
-- ==== Proof.Meet.lean ====
/-
# The hypotheses of the comparison, entry by entry

What the precondition says of the queries and keys, and which rows of the whole keys and values a device's blocks are.
-/
module

public import proofs.«01_k».proof.Defs
public import proofs.«01_k».proof.Proof.Value

@[expose] public section

noncomputable section

namespace Cert.KernelIdeal.Attn

open Cert.KernelIdeal Cert.KernelIdeal.Gen
open Idealize.ShloMosaic
open Idealize.ShloMosaic.TcCoe

theorem finite_facts : Cert.Pre_queries_and_keys_finite_KernelIdeal.Facts := ⟨by decide, by decide⟩
theorem finite_facts_ref : Cert.Pre_queries_and_keys_finite_ReferenceIdeal.Facts := ⟨by decide, by decide⟩

attribute [local instance] finite_facts

/-- Ones of "less than infinity in absolute value" are reals. -/
theorem real_of_ones {s : Shape} {h : (⟨0, ![]⟩ : Shape).BroadcastsInDim s ![]} {x : FVec Ideal s .f32}
    (e : cmpf .olt (Host.absf x) (broadcastInDim s ![] h (constant (F := Ideal) ⟨0, ![]⟩ .f32 0x7F800000#32)) = fun _ => 1#1) (i : s.Idx) :
    ∃ a : ℝ, x i = (a : EReal) := by
  have e : (Ideal.cmp .olt (max (x i) (-(x i))) (Ideal.ofBits .f32 0x7F800000#32)) = 1#1 := congrFun e i
  rw [Cert.Average.posInf] at e
  refine Cert.Average.real_of_abs ?_
  by_contra hn
  simp [Ideal.cmp, hn] at e

/-- A device's block of the whole keys or values, at a row of its part. -/
theorem shard_apply (X : (⟨4, ![4, 16384, 8, 128]⟩ : Shape).Idx → EReal) (c : Dev nD) (b : Fin 4) (j : Fin 512) (h : Fin 8) (d : Fin 128) :
    (Layout.blockN ⟨4, ![4, 4096, 8, 128]⟩ ⟨4, ![4, 16384, 8, 128]⟩ (Layout.meshBlock [2, 4, 4] ![[], [2], [], []] c) X)
        (ix4 b (Fin.ofNat 4096 (part c * 512 + j.val)) h d)
      = X (ix4 b (row c j) h d) := by
  rw [Layout.blockN_apply]
  refine congrArg X (funext fun (a : Fin 4) => Fin.ext ?_)
  have hp := part_lt c
  match a with
  | 0 => exact Nat.zero_add _
  | 1 =>
    show Layout.meshLin [2, 4, 4] c.val [2] * 4096 + (part c * 512 + j.val) % 4096 = c.val % 4 * 4096 + part c * 512 + j.val
    have : Layout.meshLin [2, 4, 4] c.val [2] = c.val % 4 := by simp [Layout.meshLin, Layout.meshCoord, Layout.cutSize]
    omega
  | 2 => exact Nat.zero_add _
  | 3 => exact Nat.zero_add _

variable {m : (ℓ : Loc nD τ sig) → Buf (Elt Ideal) ℓ}
  {Q : S4x32x8x128.Idx → EReal} {K V : (⟨4, ![4, 16384, 8, 128]⟩ : Shape).Idx → EReal}

theorem holds_of (hm : ∀ c : Dev nD, m ((c : Thread nD τ).loc main_arg0) = Q
      ∧ m ((c : Thread nD τ).loc main_arg1) = Layout.blockN ⟨4, ![4, 4096, 8, 128]⟩ ⟨4, ![4, 16384, 8, 128]⟩ (Layout.meshBlock [2, 4, 4] ![[], [2], [], []] c) K
      ∧ m ((c : Thread nD τ).loc main_arg2) = Layout.blockN ⟨4, ![4, 4096, 8, 128]⟩ ⟨4, ![4, 16384, 8, 128]⟩ (Layout.meshBlock [2, 4, 4] ![[], [2], [], []] c) V) :
    Holds m Q K V where
  q c := (hm c).1
  k c b j h d := (congrFun (hm c).2.1 _).trans (shard_apply K c b j h d)
  v c b j h d := (congrFun (hm c).2.2 _).trans (shard_apply V c b j h d)

theorem queries_real (H : Holds m Q K V) (hp : Cert.Pre_KernelIdeal_queries_and_keys_finite_KernelIdeal m) (i : S4x32x8x128.Idx) :
    ∃ a : ℝ, Q i = (a : EReal) := by
  rw [← H.q 0]
  exact real_of_ones (hp 0).1 i

theorem keys_real (H : Holds m Q K V) (hp : Cert.Pre_KernelIdeal_queries_and_keys_finite_KernelIdeal m)
    (i : (⟨4, ![4, 16384, 8, 128]⟩ : Shape).Idx) : ∃ a : ℝ, K i = (a : EReal) := by
  obtain ⟨⟨c, j⟩, e⟩ := row_bij.2 (i 1)
  have hi : i = ix4 (n0 := 4) (n1 := 16384) (n2 := 8) (n3 := 128) (i 0) (row c j) (i 2) (i 3) := by
    funext (a : Fin 4)
    match a with
    | 0 => rfl
    | 1 => exact e.symm
    | 2 => rfl
    | 3 => rfl
  rw [hi, ← H.k c (i 0) j (i 2) (i 3)]
  exact real_of_ones (hp c).2 _

end Cert.KernelIdeal.Attn

end
-- ==== Proof.lean ====
/-
# The claims

Every run of the kernel, of its ideal reading and of the reference ends with the arguments as they were and every counter at zero,
and the ideal reading's result, of finite queries and keys, is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Same
public import proofs.«01_k».proof.Proof.Meet
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Attn.run_main (F := Ideal) m ρ)

theorem frame_kernel : Cert.quiescent_Kernel := fun m ρ _ => by
  rw [Cert.KernelIdeal.Attn.defs_same, Cert.KernelIdeal.Attn.main_same]
  exact (θ_run Cert.KernelIdeal.defs _ _).mono (fun _ h => ⟨fun c => ⟨(h.1 c).1, (h.1 c).2.1, (h.1 c).2.2.1⟩, h.2⟩)
    (Cert.KernelIdeal.Attn.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal_pre : Cert.quiescent_KernelIdeal_pre_queries_and_keys_finite_KernelIdeal
    (hPre_queries_and_keys_finite_KernelIdeal := Cert.KernelIdeal.Attn.finite_facts) := fun m ρ _ => frame_kernelIdeal m ρ trivial

theorem frame_reference_pre : Cert.quiescent_ReferenceIdeal_pre_queries_and_keys_finite_ReferenceIdeal
    (hPre_queries_and_keys_finite_ReferenceIdeal := Cert.KernelIdeal.Attn.finite_facts_ref) := fun m ρ _ => frame_reference m ρ trivial

theorem same_result : Cert.algebraic_KernelIdeal_ReferenceIdeal_pre_queries_and_keys_finite_KernelIdeal
    (hPre_queries_and_keys_finite_KernelIdeal := Cert.KernelIdeal.Attn.finite_facts) := fun m ρ m' ρ' hp hm => by
  have H := Cert.KernelIdeal.Attn.holds_of hm
  have e := Cert.KernelIdeal.Attn.out_eq H (Cert.KernelIdeal.Attn.queries_real H hp) (Cert.KernelIdeal.Attn.keys_real H hp)
  refine ⟨_, (θ_run Cert.KernelIdeal.defs _ _).mono (fun _ h c => ⟨(h.1 c).2.2.2.trans (e c), (h.1 c).1, (h.1 c).2.1, (h.1 c).2.2.1⟩)
      (Cert.KernelIdeal.Attn.run_main (F := Ideal) m ρ), ?_⟩
  exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, Cert.KernelIdeal.Attn.finite_facts,
    Cert.KernelIdeal.Attn.finite_facts_ref, frame_kernel, frame_kernelIdeal, frame_kernelIdeal_pre, frame_reference, frame_reference_pre,
    trivial, same_result⟩

end Cert.Proof

end
